-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_ConvRows (m : (ℓ : Loc Cert.ConvRows.nD Cert.ConvRows.τ Cert.ConvRows.sig) → Buf (Elt Bits) ℓ) : Prop :=
  True

def Pre_ConvRowsIdeal (m : (ℓ : Loc Cert.ConvRowsIdeal.nD Cert.ConvRowsIdeal.τ Cert.ConvRowsIdeal.sig) → Buf (Elt Ideal) ℓ) : Prop :=
  True

def Pre_ConvRowsReferenceIdeal (m : (ℓ : Loc Cert.ConvRowsReferenceIdeal.nD Cert.ConvRowsReferenceIdeal.τ Cert.ConvRowsReferenceIdeal.sig) → Buf (Elt Ideal) ℓ) : Prop :=
  True

def Pre_PoolRows (m : (ℓ : Loc Cert.PoolRows.nD Cert.PoolRows.τ Cert.PoolRows.sig) → Buf (Elt Bits) ℓ) : Prop :=
  True

def Pre_PoolRowsIdeal (m : (ℓ : Loc Cert.PoolRowsIdeal.nD Cert.PoolRowsIdeal.τ Cert.PoolRowsIdeal.sig) → Buf (Elt Ideal) ℓ) : Prop :=
  True

def Pre_PoolRowsReferenceIdeal (m : (ℓ : Loc Cert.PoolRowsReferenceIdeal.nD Cert.PoolRowsReferenceIdeal.τ Cert.PoolRowsReferenceIdeal.sig) → Buf (Elt Ideal) ℓ) : Prop :=
  True

def Pre_PoolFresh (m : (ℓ : Loc Cert.PoolFresh.nD Cert.PoolFresh.τ Cert.PoolFresh.sig) → Buf (Elt Bits) ℓ) : Prop :=
  True

def Pre_PoolFreshIdeal (m : (ℓ : Loc Cert.PoolFreshIdeal.nD Cert.PoolFreshIdeal.τ Cert.PoolFreshIdeal.sig) → Buf (Elt Ideal) ℓ) : Prop :=
  True

def Pre_PoolFreshReferenceIdeal (m : (ℓ : Loc Cert.PoolFreshReferenceIdeal.nD Cert.PoolFreshReferenceIdeal.τ Cert.PoolFreshReferenceIdeal.sig) → Buf (Elt Ideal) ℓ) : Prop :=
  True

def Pre_PoolState (m : (ℓ : Loc Cert.PoolState.nD Cert.PoolState.τ Cert.PoolState.sig) → Buf (Elt Bits) ℓ) : Prop :=
  True

def Pre_PoolStateIdeal (m : (ℓ : Loc Cert.PoolStateIdeal.nD Cert.PoolStateIdeal.τ Cert.PoolStateIdeal.sig) → Buf (Elt Ideal) ℓ) : Prop :=
  True

def Pre_PoolStateReferenceIdeal (m : (ℓ : Loc Cert.PoolStateReferenceIdeal.nD Cert.PoolStateReferenceIdeal.τ Cert.PoolStateReferenceIdeal.sig) → Buf (Elt Ideal) ℓ) : Prop :=
  True

def Pre_Dispatch (m : (ℓ : Loc Cert.Dispatch.nD Cert.Dispatch.τ Cert.Dispatch.sig) → Buf (Elt Bits) ℓ) : Prop :=
  True

def Pre_DispatchIdeal (m : (ℓ : Loc Cert.DispatchIdeal.nD Cert.DispatchIdeal.τ Cert.DispatchIdeal.sig) → Buf (Elt Ideal) ℓ) : Prop :=
  True

def Pre_DispatchReferenceIdeal (m : (ℓ : Loc Cert.DispatchReferenceIdeal.nD Cert.DispatchReferenceIdeal.τ Cert.DispatchReferenceIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6))
      ∧ r.2.sem = fun _ => 0)

def quiescent_ConvRows [hConvRows : Cert.ConvRows.Facts] : Prop :=
  ∀ (m : (ℓ : Loc Cert.ConvRows.nD Cert.ConvRows.τ Cert.ConvRows.sig) → Buf (Elt Bits) ℓ) (g : Dev Cert.ConvRows.nD → PrngReg), Pre_ConvRows m →
    θ_run (Cert.ConvRows.defs (F := Bits)) (onTc (τ := Cert.ConvRows.τ) (Cert.ConvRows.main (F := Bits))) ⟨m, fun _ => 0, g⟩ (fun r => (∀ c : Dev Cert.ConvRows.nD,
      r.2.mem ((c.tc : Thread Cert.ConvRows.nD Cert.ConvRows.τ).loc Cert.ConvRows.main_arg0) = m ((c.tc : Thread Cert.ConvRows.nD Cert.ConvRows.τ).loc Cert.ConvRows.main_arg0)
      ∧ r.2.mem ((c.tc : Thread Cert.ConvRows.nD Cert.ConvRows.τ).loc Cert.ConvRows.main_arg1) = m ((c.tc : Thread Cert.ConvRows.nD Cert.ConvRows.τ).loc Cert.ConvRows.main_arg1)
      ∧ r.2.mem ((c.tc : Thread Cert.ConvRows.nD Cert.ConvRows.τ).loc Cert.ConvRows.main_arg2) = m ((c.tc : Thread Cert.ConvRows.nD Cert.ConvRows.τ).loc Cert.ConvRows.main_arg2)
      ∧ r.2.mem ((c.tc : Thread Cert.ConvRows.nD Cert.ConvRows.τ).loc Cert.ConvRows.main_arg3) = m ((c.tc : Thread Cert.ConvRows.nD Cert.ConvRows.τ).loc Cert.ConvRows.main_arg3))
      ∧ r.2.sem = fun _ => 0)

def quiescent_ConvRowsIdeal [hConvRowsIdeal : Cert.ConvRowsIdeal.Facts] : Prop :=
  ∀ (m : (ℓ : Loc Cert.ConvRowsIdeal.nD Cert.ConvRowsIdeal.τ Cert.ConvRowsIdeal.sig) → Buf (Elt Ideal) ℓ) (g : Dev Cert.ConvRowsIdeal.nD → PrngReg), Pre_ConvRowsIdeal m →
    θ_run (Cert.ConvRowsIdeal.defs (F := Ideal)) (onTc (τ := Cert.ConvRowsIdeal.τ) (Cert.ConvRowsIdeal.main (F := Ideal))) ⟨m, fun _ => 0, g⟩ (fun r => (∀ c : Dev Cert.ConvRowsIdeal.nD,
      r.2.mem ((c.tc : Thread Cert.ConvRowsIdeal.nD Cert.ConvRowsIdeal.τ).loc Cert.ConvRowsIdeal.main_arg0) = m ((c.tc : Thread Cert.ConvRowsIdeal.nD Cert.ConvRowsIdeal.τ).loc Cert.ConvRowsIdeal.main_arg0)
      ∧ r.2.mem ((c.tc : Thread Cert.ConvRowsIdeal.nD Cert.ConvRowsIdeal.τ).loc Cert.ConvRowsIdeal.main_arg1) = m ((c.tc : Thread Cert.ConvRowsIdeal.nD Cert.ConvRowsIdeal.τ).loc Cert.ConvRowsIdeal.main_arg1)
      ∧ r.2.mem ((c.tc : Thread Cert.ConvRowsIdeal.nD Cert.ConvRowsIdeal.τ).loc Cert.ConvRowsIdeal.main_arg2) = m ((c.tc : Thread Cert.ConvRowsIdeal.nD Cert.ConvRowsIdeal.τ).loc Cert.ConvRowsIdeal.main_arg2)
      ∧ r.2.mem ((c.tc : Thread Cert.ConvRowsIdeal.nD Cert.ConvRowsIdeal.τ).loc Cert.ConvRowsIdeal.main_arg3) = m ((c.tc : Thread Cert.ConvRowsIdeal.nD Cert.ConvRowsIdeal.τ).loc Cert.ConvRowsIdeal.main_arg3))
      ∧ r.2.sem = fun _ => 0)

def quiescent_ConvRowsReferenceIdeal [hConvRowsReferenceIdeal : Cert.ConvRowsReferenceIdeal.Facts] : Prop :=
  ∀ (m : (ℓ : Loc Cert.ConvRowsReferenceIdeal.nD Cert.ConvRowsReferenceIdeal.τ Cert.ConvRowsReferenceIdeal.sig) → Buf (Elt Ideal) ℓ) (g : Dev Cert.ConvRowsReferenceIdeal.nD → PrngReg), Pre_ConvRowsReferenceIdeal m →
    θ_run (Cert.ConvRowsReferenceIdeal.defs (F := Ideal)) (onTc (τ := Cert.ConvRowsReferenceIdeal.τ) (Cert.ConvRowsReferenceIdeal.main (F := Ideal))) ⟨m, fun _ => 0, g⟩ (fun r => (∀ c : Dev Cert.ConvRowsReferenceIdeal.nD,
      r.2.mem ((c.tc : Thread Cert.ConvRowsReferenceIdeal.nD Cert.ConvRowsReferenceIdeal.τ).loc Cert.ConvRowsReferenceIdeal.main_arg0) = m ((c.tc : Thread Cert.ConvRowsReferenceIdeal.nD Cert.ConvRowsReferenceIdeal.τ).loc Cert.ConvRowsReferenceIdeal.main_arg0)
      ∧ r.2.mem ((c.tc : Thread Cert.ConvRowsReferenceIdeal.nD Cert.ConvRowsReferenceIdeal.τ).loc Cert.ConvRowsReferenceIdeal.main_arg1) = m ((c.tc : Thread Cert.ConvRowsReferenceIdeal.nD Cert.ConvRowsReferenceIdeal.τ).loc Cert.ConvRowsReferenceIdeal.main_arg1)
      ∧ r.2.mem ((c.tc : Thread Cert.ConvRowsReferenceIdeal.nD Cert.ConvRowsReferenceIdeal.τ).loc Cert.ConvRowsReferenceIdeal.main_arg2) = m ((c.tc : Thread Cert.ConvRowsReferenceIdeal.nD Cert.ConvRowsReferenceIdeal.τ).loc Cert.ConvRowsReferenceIdeal.main_arg2)
      ∧ r.2.mem ((c.tc : Thread Cert.ConvRowsReferenceIdeal.nD Cert.ConvRowsReferenceIdeal.τ).loc Cert.ConvRowsReferenceIdeal.main_arg3) = m ((c.tc : Thread Cert.ConvRowsReferenceIdeal.nD Cert.ConvRowsReferenceIdeal.τ).loc Cert.ConvRowsReferenceIdeal.main_arg3))
      ∧ r.2.sem = fun _ => 0)

def quiescent_PoolRows [hPoolRows : Cert.PoolRows.Facts] : Prop :=
  ∀ (m : (ℓ : Loc Cert.PoolRows.nD Cert.PoolRows.τ Cert.PoolRows.sig) → Buf (Elt Bits) ℓ) (g : Dev Cert.PoolRows.nD → PrngReg), Pre_PoolRows m →
    θ_run (Cert.PoolRows.defs (F := Bits)) (onTc (τ := Cert.PoolRows.τ) (Cert.PoolRows.main (F := Bits))) ⟨m, fun _ => 0, g⟩ (fun r => (∀ c : Dev Cert.PoolRows.nD,
      r.2.mem ((c.tc : Thread Cert.PoolRows.nD Cert.PoolRows.τ).loc Cert.PoolRows.main_arg0) = m ((c.tc : Thread Cert.PoolRows.nD Cert.PoolRows.τ).loc Cert.PoolRows.main_arg0)
      ∧ r.2.mem ((c.tc : Thread Cert.PoolRows.nD Cert.PoolRows.τ).loc Cert.PoolRows.main_arg1) = m ((c.tc : Thread Cert.PoolRows.nD Cert.PoolRows.τ).loc Cert.PoolRows.main_arg1)
      ∧ r.2.mem ((c.tc : Thread Cert.PoolRows.nD Cert.PoolRows.τ).loc Cert.PoolRows.main_arg2) = m ((c.tc : Thread Cert.PoolRows.nD Cert.PoolRows.τ).loc Cert.PoolRows.main_arg2)
      ∧ r.2.mem ((c.tc : Thread Cert.PoolRows.nD Cert.PoolRows.τ).loc Cert.PoolRows.main_arg3) = m ((c.tc : Thread Cert.PoolRows.nD Cert.PoolRows.τ).loc Cert.PoolRows.main_arg3))
      ∧ r.2.sem = fun _ => 0)

def quiescent_PoolRowsIdeal [hPoolRowsIdeal : Cert.PoolRowsIdeal.Facts] : Prop :=
  ∀ (m : (ℓ : Loc Cert.PoolRowsIdeal.nD Cert.PoolRowsIdeal.τ Cert.PoolRowsIdeal.sig) → Buf (Elt Ideal) ℓ) (g : Dev Cert.PoolRowsIdeal.nD → PrngReg), Pre_PoolRowsIdeal m →
    θ_run (Cert.PoolRowsIdeal.defs (F := Ideal)) (onTc (τ := Cert.PoolRowsIdeal.τ) (Cert.PoolRowsIdeal.main (F := Ideal))) ⟨m, fun _ => 0, g⟩ (fun r => (∀ c : Dev Cert.PoolRowsIdeal.nD,
      r.2.mem ((c.tc : Thread Cert.PoolRowsIdeal.nD Cert.PoolRowsIdeal.τ).loc Cert.PoolRowsIdeal.main_arg0) = m ((c.tc : Thread Cert.PoolRowsIdeal.nD Cert.PoolRowsIdeal.τ).loc Cert.PoolRowsIdeal.main_arg0)
      ∧ r.2.mem ((c.tc : Thread Cert.PoolRowsIdeal.nD Cert.PoolRowsIdeal.τ).loc Cert.PoolRowsIdeal.main_arg1) = m ((c.tc : Thread Cert.PoolRowsIdeal.nD Cert.PoolRowsIdeal.τ).loc Cert.PoolRowsIdeal.main_arg1)
      ∧ r.2.mem ((c.tc : Thread Cert.PoolRowsIdeal.nD Cert.PoolRowsIdeal.τ).loc Cert.PoolRowsIdeal.main_arg2) = m ((c.tc : Thread Cert.PoolRowsIdeal.nD Cert.PoolRowsIdeal.τ).loc Cert.PoolRowsIdeal.main_arg2)
      ∧ r.2.mem ((c.tc : Thread Cert.PoolRowsIdeal.nD Cert.PoolRowsIdeal.τ).loc Cert.PoolRowsIdeal.main_arg3) = m ((c.tc : Thread Cert.PoolRowsIdeal.nD Cert.PoolRowsIdeal.τ).loc Cert.PoolRowsIdeal.main_arg3))
      ∧ r.2.sem = fun _ => 0)

def quiescent_PoolRowsReferenceIdeal [hPoolRowsReferenceIdeal : Cert.PoolRowsReferenceIdeal.Facts] : Prop :=
  ∀ (m : (ℓ : Loc Cert.PoolRowsReferenceIdeal.nD Cert.PoolRowsReferenceIdeal.τ Cert.PoolRowsReferenceIdeal.sig) → Buf (Elt Ideal) ℓ) (g : Dev Cert.PoolRowsReferenceIdeal.nD → PrngReg), Pre_PoolRowsReferenceIdeal m →
    θ_run (Cert.PoolRowsReferenceIdeal.defs (F := Ideal)) (onTc (τ := Cert.PoolRowsReferenceIdeal.τ) (Cert.PoolRowsReferenceIdeal.main (F := Ideal))) ⟨m, fun _ => 0, g⟩ (fun r => (∀ c : Dev Cert.PoolRowsReferenceIdeal.nD,
      r.2.mem ((c.tc : Thread Cert.PoolRowsReferenceIdeal.nD Cert.PoolRowsReferenceIdeal.τ).loc Cert.PoolRowsReferenceIdeal.main_arg0) = m ((c.tc : Thread Cert.PoolRowsReferenceIdeal.nD Cert.PoolRowsReferenceIdeal.τ).loc Cert.PoolRowsReferenceIdeal.main_arg0)
      ∧ r.2.mem ((c.tc : Thread Cert.PoolRowsReferenceIdeal.nD Cert.PoolRowsReferenceIdeal.τ).loc Cert.PoolRowsReferenceIdeal.main_arg1) = m ((c.tc : Thread Cert.PoolRowsReferenceIdeal.nD Cert.PoolRowsReferenceIdeal.τ).loc Cert.PoolRowsReferenceIdeal.main_arg1)
      ∧ r.2.mem ((c.tc : Thread Cert.PoolRowsReferenceIdeal.nD Cert.PoolRowsReferenceIdeal.τ).loc Cert.PoolRowsReferenceIdeal.main_arg2) = m ((c.tc : Thread Cert.PoolRowsReferenceIdeal.nD Cert.PoolRowsReferenceIdeal.τ).loc Cert.PoolRowsReferenceIdeal.main_arg2)
      ∧ r.2.mem ((c.tc : Thread Cert.PoolRowsReferenceIdeal.nD Cert.PoolRowsReferenceIdeal.τ).loc Cert.PoolRowsReferenceIdeal.main_arg3) = m ((c.tc : Thread Cert.PoolRowsReferenceIdeal.nD Cert.PoolRowsReferenceIdeal.τ).loc Cert.PoolRowsReferenceIdeal.main_arg3))
      ∧ r.2.sem = fun _ => 0)

def quiescent_PoolFresh [hPoolFresh : Cert.PoolFresh.Facts] : Prop :=
  ∀ (m : (ℓ : Loc Cert.PoolFresh.nD Cert.PoolFresh.τ Cert.PoolFresh.sig) → Buf (Elt Bits) ℓ) (g : Dev Cert.PoolFresh.nD → PrngReg), Pre_PoolFresh m →
    θ_run (Cert.PoolFresh.defs (F := Bits)) (onTc (τ := Cert.PoolFresh.τ) (Cert.PoolFresh.main (F := Bits))) ⟨m, fun _ => 0, g⟩ (fun r => (∀ c : Dev Cert.PoolFresh.nD,
      r.2.mem ((c.tc : Thread Cert.PoolFresh.nD Cert.PoolFresh.τ).loc Cert.PoolFresh.main_arg0) = m ((c.tc : Thread Cert.PoolFresh.nD Cert.PoolFresh.τ).loc Cert.PoolFresh.main_arg0))
      ∧ r.2.sem = fun _ => 0)

def quiescent_PoolFreshIdeal [hPoolFreshIdeal : Cert.PoolFreshIdeal.Facts] : Prop :=
  ∀ (m : (ℓ : Loc Cert.PoolFreshIdeal.nD Cert.PoolFreshIdeal.τ Cert.PoolFreshIdeal.sig) → Buf (Elt Ideal) ℓ) (g : Dev Cert.PoolFreshIdeal.nD → PrngReg), Pre_PoolFreshIdeal m →
    θ_run (Cert.PoolFreshIdeal.defs (F := Ideal)) (onTc (τ := Cert.PoolFreshIdeal.τ) (Cert.PoolFreshIdeal.main (F := Ideal))) ⟨m, fun _ => 0, g⟩ (fun r => (∀ c : Dev Cert.PoolFreshIdeal.nD,
      r.2.mem ((c.tc : Thread Cert.PoolFreshIdeal.nD Cert.PoolFreshIdeal.τ).loc Cert.PoolFreshIdeal.main_arg0) = m ((c.tc : Thread Cert.PoolFreshIdeal.nD Cert.PoolFreshIdeal.τ).loc Cert.PoolFreshIdeal.main_arg0))
      ∧ r.2.sem = fun _ => 0)

def quiescent_PoolFreshReferenceIdeal [hPoolFreshReferenceIdeal : Cert.PoolFreshReferenceIdeal.Facts] : Prop :=
  ∀ (m : (ℓ : Loc Cert.PoolFreshReferenceIdeal.nD Cert.PoolFreshReferenceIdeal.τ Cert.PoolFreshReferenceIdeal.sig) → Buf (Elt Ideal) ℓ) (g : Dev Cert.PoolFreshReferenceIdeal.nD → PrngReg), Pre_PoolFreshReferenceIdeal m →
    θ_run (Cert.PoolFreshReferenceIdeal.defs (F := Ideal)) (onTc (τ := Cert.PoolFreshReferenceIdeal.τ) (Cert.PoolFreshReferenceIdeal.main (F := Ideal))) ⟨m, fun _ => 0, g⟩ (fun r => (∀ c : Dev Cert.PoolFreshReferenceIdeal.nD,
      r.2.mem ((c.tc : Thread Cert.PoolFreshReferenceIdeal.nD Cert.PoolFreshReferenceIdeal.τ).loc Cert.PoolFreshReferenceIdeal.main_arg0) = m ((c.tc : Thread Cert.PoolFreshReferenceIdeal.nD Cert.PoolFreshReferenceIdeal.τ).loc Cert.PoolFreshReferenceIdeal.main_arg0))
      ∧ r.2.sem = fun _ => 0)

def quiescent_PoolState [hPoolState : Cert.PoolState.Facts] : Prop :=
  ∀ (m : (ℓ : Loc Cert.PoolState.nD Cert.PoolState.τ Cert.PoolState.sig) → Buf (Elt Bits) ℓ) (g : Dev Cert.PoolState.nD → PrngReg), Pre_PoolState m →
    θ_run (Cert.PoolState.defs (F := Bits)) (onTc (τ := Cert.PoolState.τ) (Cert.PoolState.main (F := Bits))) ⟨m, fun _ => 0, g⟩ (fun r => (∀ c : Dev Cert.PoolState.nD,
      r.2.mem ((c.tc : Thread Cert.PoolState.nD Cert.PoolState.τ).loc Cert.PoolState.main_arg0) = m ((c.tc : Thread Cert.PoolState.nD Cert.PoolState.τ).loc Cert.PoolState.main_arg0)
      ∧ r.2.mem ((c.tc : Thread Cert.PoolState.nD Cert.PoolState.τ).loc Cert.PoolState.main_arg1) = m ((c.tc : Thread Cert.PoolState.nD Cert.PoolState.τ).loc Cert.PoolState.main_arg1))
      ∧ r.2.sem = fun _ => 0)

def quiescent_PoolStateIdeal [hPoolStateIdeal : Cert.PoolStateIdeal.Facts] : Prop :=
  ∀ (m : (ℓ : Loc Cert.PoolStateIdeal.nD Cert.PoolStateIdeal.τ Cert.PoolStateIdeal.sig) → Buf (Elt Ideal) ℓ) (g : Dev Cert.PoolStateIdeal.nD → PrngReg), Pre_PoolStateIdeal m →
    θ_run (Cert.PoolStateIdeal.defs (F := Ideal)) (onTc (τ := Cert.PoolStateIdeal.τ) (Cert.PoolStateIdeal.main (F := Ideal))) ⟨m, fun _ => 0, g⟩ (fun r => (∀ c : Dev Cert.PoolStateIdeal.nD,
      r.2.mem ((c.tc : Thread Cert.PoolStateIdeal.nD Cert.PoolStateIdeal.τ).loc Cert.PoolStateIdeal.main_arg0) = m ((c.tc : Thread Cert.PoolStateIdeal.nD Cert.PoolStateIdeal.τ).loc Cert.PoolStateIdeal.main_arg0)
      ∧ r.2.mem ((c.tc : Thread Cert.PoolStateIdeal.nD Cert.PoolStateIdeal.τ).loc Cert.PoolStateIdeal.main_arg1) = m ((c.tc : Thread Cert.PoolStateIdeal.nD Cert.PoolStateIdeal.τ).loc Cert.PoolStateIdeal.main_arg1))
      ∧ r.2.sem = fun _ => 0)

def quiescent_PoolStateReferenceIdeal [hPoolStateReferenceIdeal : Cert.PoolStateReferenceIdeal.Facts] : Prop :=
  ∀ (m : (ℓ : Loc Cert.PoolStateReferenceIdeal.nD Cert.PoolStateReferenceIdeal.τ Cert.PoolStateReferenceIdeal.sig) → Buf (Elt Ideal) ℓ) (g : Dev Cert.PoolStateReferenceIdeal.nD → PrngReg), Pre_PoolStateReferenceIdeal m →
    θ_run (Cert.PoolStateReferenceIdeal.defs (F := Ideal)) (onTc (τ := Cert.PoolStateReferenceIdeal.τ) (Cert.PoolStateReferenceIdeal.main (F := Ideal))) ⟨m, fun _ => 0, g⟩ (fun r => (∀ c : Dev Cert.PoolStateReferenceIdeal.nD,
      r.2.mem ((c.tc : Thread Cert.PoolStateReferenceIdeal.nD Cert.PoolStateReferenceIdeal.τ).loc Cert.PoolStateReferenceIdeal.main_arg0) = m ((c.tc : Thread Cert.PoolStateReferenceIdeal.nD Cert.PoolStateReferenceIdeal.τ).loc Cert.PoolStateReferenceIdeal.main_arg0)
      ∧ r.2.mem ((c.tc : Thread Cert.PoolStateReferenceIdeal.nD Cert.PoolStateReferenceIdeal.τ).loc Cert.PoolStateReferenceIdeal.main_arg1) = m ((c.tc : Thread Cert.PoolStateReferenceIdeal.nD Cert.PoolStateReferenceIdeal.τ).loc Cert.PoolStateReferenceIdeal.main_arg1))
      ∧ r.2.sem = fun _ => 0)

def quiescent_Dispatch [hDispatch : Cert.Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2))
      ∧ r.2.sem = fun _ => 0)

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_v5) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)
      ∧ m' ((c.tc : Thread Cert.PostReferenceIdeal.nD Cert.PostReferenceIdeal.τ).loc Cert.PostReferenceIdeal.main_arg12) = m ((c.tc : Thread Cert.PostIdeal.nD Cert.PostIdeal.τ).loc Cert.PostIdeal.main_arg12)
      ∧ m' ((c.tc : Thread Cert.PostReferenceIdeal.nD Cert.PostReferenceIdeal.τ).loc Cert.PostReferenceIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v61) = v0 c
          ∧ r.2.mem ((c.tc : Thread Cert.PostReferenceIdeal.nD Cert.PostReferenceIdeal.τ).loc Cert.PostReferenceIdeal.main_v64) = v1 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v43) = v0 c
          ∧ r.2.mem ((c.tc : Thread Cert.CombineReferenceIdeal.nD Cert.CombineReferenceIdeal.τ).loc Cert.CombineReferenceIdeal.main_v44) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6))

def preserves_ConvRows_ConvRowsIdeal : Prop :=
  True

def algebraic_ConvRowsIdeal_ConvRowsReferenceIdeal [hConvRowsIdeal : Cert.ConvRowsIdeal.Facts] [hConvRowsReferenceIdeal : Cert.ConvRowsReferenceIdeal.Facts] : Prop :=
  ∀ (m : (ℓ : Loc Cert.ConvRowsIdeal.nD Cert.ConvRowsIdeal.τ Cert.ConvRowsIdeal.sig) → Buf (Elt Ideal) ℓ) (g : Dev Cert.ConvRowsIdeal.nD → PrngReg)
    (m' : (ℓ : Loc Cert.ConvRowsReferenceIdeal.nD Cert.ConvRowsReferenceIdeal.τ Cert.ConvRowsReferenceIdeal.sig) → Buf (Elt Ideal) ℓ) (g' : Dev Cert.ConvRowsReferenceIdeal.nD → PrngReg), Pre_ConvRowsIdeal m →
    (∀ c : Dev Cert.ConvRowsIdeal.nD,
      m' ((c.tc : Thread Cert.ConvRowsReferenceIdeal.nD Cert.ConvRowsReferenceIdeal.τ).loc Cert.ConvRowsReferenceIdeal.main_arg0) = m ((c.tc : Thread Cert.ConvRowsIdeal.nD Cert.ConvRowsIdeal.τ).loc Cert.ConvRowsIdeal.main_arg0)
      ∧ m' ((c.tc : Thread Cert.ConvRowsReferenceIdeal.nD Cert.ConvRowsReferenceIdeal.τ).loc Cert.ConvRowsReferenceIdeal.main_arg1) = m ((c.tc : Thread Cert.ConvRowsIdeal.nD Cert.ConvRowsIdeal.τ).loc Cert.ConvRowsIdeal.main_arg1)
      ∧ m' ((c.tc : Thread Cert.ConvRowsReferenceIdeal.nD Cert.ConvRowsReferenceIdeal.τ).loc Cert.ConvRowsReferenceIdeal.main_arg2) = m ((c.tc : Thread Cert.ConvRowsIdeal.nD Cert.ConvRowsIdeal.τ).loc Cert.ConvRowsIdeal.main_arg2)
      ∧ m' ((c.tc : Thread Cert.ConvRowsReferenceIdeal.nD Cert.ConvRowsReferenceIdeal.τ).loc Cert.ConvRowsReferenceIdeal.main_arg3) = m ((c.tc : Thread Cert.ConvRowsIdeal.nD Cert.ConvRowsIdeal.τ).loc Cert.ConvRowsIdeal.main_arg3)) →
    ∃ (v0 : (c : Dev Cert.ConvRowsIdeal.nD) → Buf (Elt Ideal) ((c.tc : Thread Cert.ConvRowsIdeal.nD Cert.ConvRowsIdeal.τ).loc Cert.ConvRowsIdeal.main_v44)) (v1 : (c : Dev Cert.ConvRowsIdeal.nD) → Buf (Elt Ideal) ((c.tc : Thread Cert.ConvRowsIdeal.nD Cert.ConvRowsIdeal.τ).loc Cert.ConvRowsIdeal.main_v45)),
      θ_run (Cert.ConvRowsIdeal.defs (F := Ideal)) (onTc (τ := Cert.ConvRowsIdeal.τ) (Cert.ConvRowsIdeal.main (F := Ideal))) ⟨m, fun _ => 0, g⟩ (fun r => ∀ c : Dev Cert.ConvRowsIdeal.nD,
          r.2.mem ((c.tc : Thread Cert.ConvRowsIdeal.nD Cert.ConvRowsIdeal.τ).loc Cert.ConvRowsIdeal.main_v44) = v0 c
          ∧ r.2.mem ((c.tc : Thread Cert.ConvRowsIdeal.nD Cert.ConvRowsIdeal.τ).loc Cert.ConvRowsIdeal.main_v45) = v1 c
          ∧ r.2.mem ((c.tc : Thread Cert.ConvRowsIdeal.nD Cert.ConvRowsIdeal.τ).loc Cert.ConvRowsIdeal.main_arg0) = m ((c.tc : Thread Cert.ConvRowsIdeal.nD Cert.ConvRowsIdeal.τ).loc Cert.ConvRowsIdeal.main_arg0)
          ∧ r.2.mem ((c.tc : Thread Cert.ConvRowsIdeal.nD Cert.ConvRowsIdeal.τ).loc Cert.ConvRowsIdeal.main_arg1) = m ((c.tc : Thread Cert.ConvRowsIdeal.nD Cert.ConvRowsIdeal.τ).loc Cert.ConvRowsIdeal.main_arg1)
          ∧ r.2.mem ((c.tc : Thread Cert.ConvRowsIdeal.nD Cert.ConvRowsIdeal.τ).loc Cert.ConvRowsIdeal.main_arg2) = m ((c.tc : Thread Cert.ConvRowsIdeal.nD Cert.ConvRowsIdeal.τ).loc Cert.ConvRowsIdeal.main_arg2)
          ∧ r.2.mem ((c.tc : Thread Cert.ConvRowsIdeal.nD Cert.ConvRowsIdeal.τ).loc Cert.ConvRowsIdeal.main_arg3) = m ((c.tc : Thread Cert.ConvRowsIdeal.nD Cert.ConvRowsIdeal.τ).loc Cert.ConvRowsIdeal.main_arg3))
      ∧ θ_run (Cert.ConvRowsReferenceIdeal.defs (F := Ideal)) (onTc (τ := Cert.ConvRowsReferenceIdeal.τ) (Cert.ConvRowsReferenceIdeal.main (F := Ideal))) ⟨m', fun _ => 0, g'⟩ (fun r => ∀ c : Dev Cert.ConvRowsReferenceIdeal.nD,
          r.2.mem ((c.tc : Thread Cert.ConvRowsReferenceIdeal.nD Cert.ConvRowsReferenceIdeal.τ).loc Cert.ConvRowsReferenceIdeal.main_v9) = v0 c
          ∧ r.2.mem ((c.tc : Thread Cert.ConvRowsReferenceIdeal.nD Cert.ConvRowsReferenceIdeal.τ).loc Cert.ConvRowsReferenceIdeal.main_v11) = v1 c
          ∧ r.2.mem ((c.tc : Thread Cert.ConvRowsReferenceIdeal.nD Cert.ConvRowsReferenceIdeal.τ).loc Cert.ConvRowsReferenceIdeal.main_arg0) = m' ((c.tc : Thread Cert.ConvRowsReferenceIdeal.nD Cert.ConvRowsReferenceIdeal.τ).loc Cert.ConvRowsReferenceIdeal.main_arg0)
          ∧ r.2.mem ((c.tc : Thread Cert.ConvRowsReferenceIdeal.nD Cert.ConvRowsReferenceIdeal.τ).loc Cert.ConvRowsReferenceIdeal.main_arg1) = m' ((c.tc : Thread Cert.ConvRowsReferenceIdeal.nD Cert.ConvRowsReferenceIdeal.τ).loc Cert.ConvRowsReferenceIdeal.main_arg1)
          ∧ r.2.mem ((c.tc : Thread Cert.ConvRowsReferenceIdeal.nD Cert.ConvRowsReferenceIdeal.τ).loc Cert.ConvRowsReferenceIdeal.main_arg2) = m' ((c.tc : Thread Cert.ConvRowsReferenceIdeal.nD Cert.ConvRowsReferenceIdeal.τ).loc Cert.ConvRowsReferenceIdeal.main_arg2)
          ∧ r.2.mem ((c.tc : Thread Cert.ConvRowsReferenceIdeal.nD Cert.ConvRowsReferenceIdeal.τ).loc Cert.ConvRowsReferenceIdeal.main_arg3) = m' ((c.tc : Thread Cert.ConvRowsReferenceIdeal.nD Cert.ConvRowsReferenceIdeal.τ).loc Cert.ConvRowsReferenceIdeal.main_arg3))

def preserves_PoolRows_PoolRowsIdeal : Prop :=
  True

def algebraic_PoolRowsIdeal_PoolRowsReferenceIdeal [hPoolRowsIdeal : Cert.PoolRowsIdeal.Facts] [hPoolRowsReferenceIdeal : Cert.PoolRowsReferenceIdeal.Facts] : Prop :=
  ∀ (m : (ℓ : Loc Cert.PoolRowsIdeal.nD Cert.PoolRowsIdeal.τ Cert.PoolRowsIdeal.sig) → Buf (Elt Ideal) ℓ) (g : Dev Cert.PoolRowsIdeal.nD → PrngReg)
    (m' : (ℓ : Loc Cert.PoolRowsReferenceIdeal.nD Cert.PoolRowsReferenceIdeal.τ Cert.PoolRowsReferenceIdeal.sig) → Buf (Elt Ideal) ℓ) (g' : Dev Cert.PoolRowsReferenceIdeal.nD → PrngReg), Pre_PoolRowsIdeal m →
    (∀ c : Dev Cert.PoolRowsIdeal.nD,
      m' ((c.tc : Thread Cert.PoolRowsReferenceIdeal.nD Cert.PoolRowsReferenceIdeal.τ).loc Cert.PoolRowsReferenceIdeal.main_arg0) = m ((c.tc : Thread Cert.PoolRowsIdeal.nD Cert.PoolRowsIdeal.τ).loc Cert.PoolRowsIdeal.main_arg0)
      ∧ m' ((c.tc : Thread Cert.PoolRowsReferenceIdeal.nD Cert.PoolRowsReferenceIdeal.τ).loc Cert.PoolRowsReferenceIdeal.main_arg1) = m ((c.tc : Thread Cert.PoolRowsIdeal.nD Cert.PoolRowsIdeal.τ).loc Cert.PoolRowsIdeal.main_arg1)
      ∧ m' ((c.tc : Thread Cert.PoolRowsReferenceIdeal.nD Cert.PoolRowsReferenceIdeal.τ).loc Cert.PoolRowsReferenceIdeal.main_arg2) = m ((c.tc : Thread Cert.PoolRowsIdeal.nD Cert.PoolRowsIdeal.τ).loc Cert.PoolRowsIdeal.main_arg2)
      ∧ m' ((c.tc : Thread Cert.PoolRowsReferenceIdeal.nD Cert.PoolRowsReferenceIdeal.τ).loc Cert.PoolRowsReferenceIdeal.main_arg3) = m ((c.tc : Thread Cert.PoolRowsIdeal.nD Cert.PoolRowsIdeal.τ).loc Cert.PoolRowsIdeal.main_arg3)) →
    ∃ (v0 : (c : Dev Cert.PoolRowsIdeal.nD) → Buf (Elt Ideal) ((c.tc : Thread Cert.PoolRowsIdeal.nD Cert.PoolRowsIdeal.τ).loc Cert.PoolRowsIdeal.main_v46)) (v1 : (c : Dev Cert.PoolRowsIdeal.nD) → Buf (Elt Ideal) ((c.tc : Thread Cert.PoolRowsIdeal.nD Cert.PoolRowsIdeal.τ).loc Cert.PoolRowsIdeal.main_v47)),
      θ_run (Cert.PoolRowsIdeal.defs (F := Ideal)) (onTc (τ := Cert.PoolRowsIdeal.τ) (Cert.PoolRowsIdeal.main (F := Ideal))) ⟨m, fun _ => 0, g⟩ (fun r => ∀ c : Dev Cert.PoolRowsIdeal.nD,
          r.2.mem ((c.tc : Thread Cert.PoolRowsIdeal.nD Cert.PoolRowsIdeal.τ).loc Cert.PoolRowsIdeal.main_v46) = v0 c
          ∧ r.2.mem ((c.tc : Thread Cert.PoolRowsIdeal.nD Cert.PoolRowsIdeal.τ).loc Cert.PoolRowsIdeal.main_v47) = v1 c
          ∧ r.2.mem ((c.tc : Thread Cert.PoolRowsIdeal.nD Cert.PoolRowsIdeal.τ).loc Cert.PoolRowsIdeal.main_arg0) = m ((c.tc : Thread Cert.PoolRowsIdeal.nD Cert.PoolRowsIdeal.τ).loc Cert.PoolRowsIdeal.main_arg0)
          ∧ r.2.mem ((c.tc : Thread Cert.PoolRowsIdeal.nD Cert.PoolRowsIdeal.τ).loc Cert.PoolRowsIdeal.main_arg1) = m ((c.tc : Thread Cert.PoolRowsIdeal.nD Cert.PoolRowsIdeal.τ).loc Cert.PoolRowsIdeal.main_arg1)
          ∧ r.2.mem ((c.tc : Thread Cert.PoolRowsIdeal.nD Cert.PoolRowsIdeal.τ).loc Cert.PoolRowsIdeal.main_arg2) = m ((c.tc : Thread Cert.PoolRowsIdeal.nD Cert.PoolRowsIdeal.τ).loc Cert.PoolRowsIdeal.main_arg2)
          ∧ r.2.mem ((c.tc : Thread Cert.PoolRowsIdeal.nD Cert.PoolRowsIdeal.τ).loc Cert.PoolRowsIdeal.main_arg3) = m ((c.tc : Thread Cert.PoolRowsIdeal.nD Cert.PoolRowsIdeal.τ).loc Cert.PoolRowsIdeal.main_arg3))
      ∧ θ_run (Cert.PoolRowsReferenceIdeal.defs (F := Ideal)) (onTc (τ := Cert.PoolRowsReferenceIdeal.τ) (Cert.PoolRowsReferenceIdeal.main (F := Ideal))) ⟨m', fun _ => 0, g'⟩ (fun r => ∀ c : Dev Cert.PoolRowsReferenceIdeal.nD,
          r.2.mem ((c.tc : Thread Cert.PoolRowsReferenceIdeal.nD Cert.PoolRowsReferenceIdeal.τ).loc Cert.PoolRowsReferenceIdeal.main_v9) = v0 c
          ∧ r.2.mem ((c.tc : Thread Cert.PoolRowsReferenceIdeal.nD Cert.PoolRowsReferenceIdeal.τ).loc Cert.PoolRowsReferenceIdeal.main_v11) = v1 c
          ∧ r.2.mem ((c.tc : Thread Cert.PoolRowsReferenceIdeal.nD Cert.PoolRowsReferenceIdeal.τ).loc Cert.PoolRowsReferenceIdeal.main_arg0) = m' ((c.tc : Thread Cert.PoolRowsReferenceIdeal.nD Cert.PoolRowsReferenceIdeal.τ).loc Cert.PoolRowsReferenceIdeal.main_arg0)
          ∧ r.2.mem ((c.tc : Thread Cert.PoolRowsReferenceIdeal.nD Cert.PoolRowsReferenceIdeal.τ).loc Cert.PoolRowsReferenceIdeal.main_arg1) = m' ((c.tc : Thread Cert.PoolRowsReferenceIdeal.nD Cert.PoolRowsReferenceIdeal.τ).loc Cert.PoolRowsReferenceIdeal.main_arg1)
          ∧ r.2.mem ((c.tc : Thread Cert.PoolRowsReferenceIdeal.nD Cert.PoolRowsReferenceIdeal.τ).loc Cert.PoolRowsReferenceIdeal.main_arg2) = m' ((c.tc : Thread Cert.PoolRowsReferenceIdeal.nD Cert.PoolRowsReferenceIdeal.τ).loc Cert.PoolRowsReferenceIdeal.main_arg2)
          ∧ r.2.mem ((c.tc : Thread Cert.PoolRowsReferenceIdeal.nD Cert.PoolRowsReferenceIdeal.τ).loc Cert.PoolRowsReferenceIdeal.main_arg3) = m' ((c.tc : Thread Cert.PoolRowsReferenceIdeal.nD Cert.PoolRowsReferenceIdeal.τ).loc Cert.PoolRowsReferenceIdeal.main_arg3))

def preserves_PoolFresh_PoolFreshIdeal : Prop :=
  True

def algebraic_PoolFreshIdeal_PoolFreshReferenceIdeal [hPoolFreshIdeal : Cert.PoolFreshIdeal.Facts] [hPoolFreshReferenceIdeal : Cert.PoolFreshReferenceIdeal.Facts] : Prop :=
  ∀ (m : (ℓ : Loc Cert.PoolFreshIdeal.nD Cert.PoolFreshIdeal.τ Cert.PoolFreshIdeal.sig) → Buf (Elt Ideal) ℓ) (g : Dev Cert.PoolFreshIdeal.nD → PrngReg)
    (m' : (ℓ : Loc Cert.PoolFreshReferenceIdeal.nD Cert.PoolFreshReferenceIdeal.τ Cert.PoolFreshReferenceIdeal.sig) → Buf (Elt Ideal) ℓ) (g' : Dev Cert.PoolFreshReferenceIdeal.nD → PrngReg), Pre_PoolFreshIdeal m →
    (∀ c : Dev Cert.PoolFreshIdeal.nD,
      m' ((c.tc : Thread Cert.PoolFreshReferenceIdeal.nD Cert.PoolFreshReferenceIdeal.τ).loc Cert.PoolFreshReferenceIdeal.main_arg0) = m ((c.tc : Thread Cert.PoolFreshIdeal.nD Cert.PoolFreshIdeal.τ).loc Cert.PoolFreshIdeal.main_arg0)) →
    ∃ (v0 : (c : Dev Cert.PoolFreshIdeal.nD) → Buf (Elt Ideal) ((c.tc : Thread Cert.PoolFreshIdeal.nD Cert.PoolFreshIdeal.τ).loc Cert.PoolFreshIdeal.main_v0)),
      θ_run (Cert.PoolFreshIdeal.defs (F := Ideal)) (onTc (τ := Cert.PoolFreshIdeal.τ) (Cert.PoolFreshIdeal.main (F := Ideal))) ⟨m, fun _ => 0, g⟩ (fun r => ∀ c : Dev Cert.PoolFreshIdeal.nD,
          r.2.mem ((c.tc : Thread Cert.PoolFreshIdeal.nD Cert.PoolFreshIdeal.τ).loc Cert.PoolFreshIdeal.main_v0) = v0 c
          ∧ r.2.mem ((c.tc : Thread Cert.PoolFreshIdeal.nD Cert.PoolFreshIdeal.τ).loc Cert.PoolFreshIdeal.main_arg0) = m ((c.tc : Thread Cert.PoolFreshIdeal.nD Cert.PoolFreshIdeal.τ).loc Cert.PoolFreshIdeal.main_arg0))
      ∧ θ_run (Cert.PoolFreshReferenceIdeal.defs (F := Ideal)) (onTc (τ := Cert.PoolFreshReferenceIdeal.τ) (Cert.PoolFreshReferenceIdeal.main (F := Ideal))) ⟨m', fun _ => 0, g'⟩ (fun r => ∀ c : Dev Cert.PoolFreshReferenceIdeal.nD,
          r.2.mem ((c.tc : Thread Cert.PoolFreshReferenceIdeal.nD Cert.PoolFreshReferenceIdeal.τ).loc Cert.PoolFreshReferenceIdeal.main_v100) = v0 c
          ∧ r.2.mem ((c.tc : Thread Cert.PoolFreshReferenceIdeal.nD Cert.PoolFreshReferenceIdeal.τ).loc Cert.PoolFreshReferenceIdeal.main_arg0) = m' ((c.tc : Thread Cert.PoolFreshReferenceIdeal.nD Cert.PoolFreshReferenceIdeal.τ).loc Cert.PoolFreshReferenceIdeal.main_arg0))

def preserves_PoolState_PoolStateIdeal : Prop :=
  True

def algebraic_PoolStateIdeal_PoolStateReferenceIdeal [hPoolStateIdeal : Cert.PoolStateIdeal.Facts] [hPoolStateReferenceIdeal : Cert.PoolStateReferenceIdeal.Facts] : Prop :=
  ∀ (m : (ℓ : Loc Cert.PoolStateIdeal.nD Cert.PoolStateIdeal.τ Cert.PoolStateIdeal.sig) → Buf (Elt Ideal) ℓ) (g : Dev Cert.PoolStateIdeal.nD → PrngReg)
    (m' : (ℓ : Loc Cert.PoolStateReferenceIdeal.nD Cert.PoolStateReferenceIdeal.τ Cert.PoolStateReferenceIdeal.sig) → Buf (Elt Ideal) ℓ) (g' : Dev Cert.PoolStateReferenceIdeal.nD → PrngReg), Pre_PoolStateIdeal m →
    (∀ c : Dev Cert.PoolStateIdeal.nD,
      m' ((c.tc : Thread Cert.PoolStateReferenceIdeal.nD Cert.PoolStateReferenceIdeal.τ).loc Cert.PoolStateReferenceIdeal.main_arg0) = m ((c.tc : Thread Cert.PoolStateIdeal.nD Cert.PoolStateIdeal.τ).loc Cert.PoolStateIdeal.main_arg0)
      ∧ m' ((c.tc : Thread Cert.PoolStateReferenceIdeal.nD Cert.PoolStateReferenceIdeal.τ).loc Cert.PoolStateReferenceIdeal.main_arg1) = m ((c.tc : Thread Cert.PoolStateIdeal.nD Cert.PoolStateIdeal.τ).loc Cert.PoolStateIdeal.main_arg1)) →
    ∃ (v0 : (c : Dev Cert.PoolStateIdeal.nD) → Buf (Elt Ideal) ((c.tc : Thread Cert.PoolStateIdeal.nD Cert.PoolStateIdeal.τ).loc Cert.PoolStateIdeal.main_v0)),
      θ_run (Cert.PoolStateIdeal.defs (F := Ideal)) (onTc (τ := Cert.PoolStateIdeal.τ) (Cert.PoolStateIdeal.main (F := Ideal))) ⟨m, fun _ => 0, g⟩ (fun r => ∀ c : Dev Cert.PoolStateIdeal.nD,
          r.2.mem ((c.tc : Thread Cert.PoolStateIdeal.nD Cert.PoolStateIdeal.τ).loc Cert.PoolStateIdeal.main_v0) = v0 c
          ∧ r.2.mem ((c.tc : Thread Cert.PoolStateIdeal.nD Cert.PoolStateIdeal.τ).loc Cert.PoolStateIdeal.main_arg0) = m ((c.tc : Thread Cert.PoolStateIdeal.nD Cert.PoolStateIdeal.τ).loc Cert.PoolStateIdeal.main_arg0)
          ∧ r.2.mem ((c.tc : Thread Cert.PoolStateIdeal.nD Cert.PoolStateIdeal.τ).loc Cert.PoolStateIdeal.main_arg1) = m ((c.tc : Thread Cert.PoolStateIdeal.nD Cert.PoolStateIdeal.τ).loc Cert.PoolStateIdeal.main_arg1))
      ∧ θ_run (Cert.PoolStateReferenceIdeal.defs (F := Ideal)) (onTc (τ := Cert.PoolStateReferenceIdeal.τ) (Cert.PoolStateReferenceIdeal.main (F := Ideal))) ⟨m', fun _ => 0, g'⟩ (fun r => ∀ c : Dev Cert.PoolStateReferenceIdeal.nD,
          r.2.mem ((c.tc : Thread Cert.PoolStateReferenceIdeal.nD Cert.PoolStateReferenceIdeal.τ).loc Cert.PoolStateReferenceIdeal.main_v99) = v0 c
          ∧ r.2.mem ((c.tc : Thread Cert.PoolStateReferenceIdeal.nD Cert.PoolStateReferenceIdeal.τ).loc Cert.PoolStateReferenceIdeal.main_arg0) = m' ((c.tc : Thread Cert.PoolStateReferenceIdeal.nD Cert.PoolStateReferenceIdeal.τ).loc Cert.PoolStateReferenceIdeal.main_arg0)
          ∧ r.2.mem ((c.tc : Thread Cert.PoolStateReferenceIdeal.nD Cert.PoolStateReferenceIdeal.τ).loc Cert.PoolStateReferenceIdeal.main_arg1) = m' ((c.tc : Thread Cert.PoolStateReferenceIdeal.nD Cert.PoolStateReferenceIdeal.τ).loc Cert.PoolStateReferenceIdeal.main_arg1))

def preserves_Dispatch_DispatchIdeal : Prop :=
  True

def algebraic_DispatchIdeal_DispatchReferenceIdeal [hDispatchIdeal : Cert.DispatchIdeal.Facts] [hDispatchReferenceIdeal : Cert.DispatchReferenceIdeal.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)
      ∧ m' ((c.tc : Thread Cert.DispatchReferenceIdeal.nD Cert.DispatchReferenceIdeal.τ).loc Cert.DispatchReferenceIdeal.main_arg2) = m ((c.tc : Thread Cert.DispatchIdeal.nD Cert.DispatchIdeal.τ).loc Cert.DispatchIdeal.main_arg2)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v20) = v0 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1)
          ∧ r.2.mem ((c.tc : Thread Cert.DispatchReferenceIdeal.nD Cert.DispatchReferenceIdeal.τ).loc Cert.DispatchReferenceIdeal.main_arg2) = m' ((c.tc : Thread Cert.DispatchReferenceIdeal.nD Cert.DispatchReferenceIdeal.τ).loc Cert.DispatchReferenceIdeal.main_arg2))

def Claim : Prop :=
  ∃ (hInProj : Cert.InProj.Facts) (hInProjIdeal : Cert.InProjIdeal.Facts) (hInProjReferenceIdeal : Cert.InProjReferenceIdeal.Facts) (hPost : Cert.Post.Facts) (hPostIdeal : Cert.PostIdeal.Facts) (hPostReferenceIdeal : Cert.PostReferenceIdeal.Facts) (hCombine : Cert.Combine.Facts) (hCombineIdeal : Cert.CombineIdeal.Facts) (hCombineReferenceIdeal : Cert.CombineReferenceIdeal.Facts) (hConvRows : Cert.ConvRows.Facts) (hConvRowsIdeal : Cert.ConvRowsIdeal.Facts) (hConvRowsReferenceIdeal : Cert.ConvRowsReferenceIdeal.Facts) (hPoolRows : Cert.PoolRows.Facts) (hPoolRowsIdeal : Cert.PoolRowsIdeal.Facts) (hPoolRowsReferenceIdeal : Cert.PoolRowsReferenceIdeal.Facts) (hPoolFresh : Cert.PoolFresh.Facts) (hPoolFreshIdeal : Cert.PoolFreshIdeal.Facts) (hPoolFreshReferenceIdeal : Cert.PoolFreshReferenceIdeal.Facts) (hPoolState : Cert.PoolState.Facts) (hPoolStateIdeal : Cert.PoolStateIdeal.Facts) (hPoolStateReferenceIdeal : Cert.PoolStateReferenceIdeal.Facts) (hDispatch : Cert.Dispatch.Facts) (hDispatchIdeal : Cert.DispatchIdeal.Facts) (hDispatchReferenceIdeal : Cert.DispatchReferenceIdeal.Facts),
    quiescent_InProj (hInProj := hInProj)
    ∧ quiescent_InProjIdeal (hInProjIdeal := hInProjIdeal)
    ∧ quiescent_InProjReferenceIdeal (hInProjReferenceIdeal := hInProjReferenceIdeal)
    ∧ quiescent_Post (hPost := hPost)
    ∧ quiescent_PostIdeal (hPostIdeal := hPostIdeal)
    ∧ quiescent_PostReferenceIdeal (hPostReferenceIdeal := hPostReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_ConvRows (hConvRows := hConvRows)
    ∧ quiescent_ConvRowsIdeal (hConvRowsIdeal := hConvRowsIdeal)
    ∧ quiescent_ConvRowsReferenceIdeal (hConvRowsReferenceIdeal := hConvRowsReferenceIdeal)
    ∧ quiescent_PoolRows (hPoolRows := hPoolRows)
    ∧ quiescent_PoolRowsIdeal (hPoolRowsIdeal := hPoolRowsIdeal)
    ∧ quiescent_PoolRowsReferenceIdeal (hPoolRowsReferenceIdeal := hPoolRowsReferenceIdeal)
    ∧ quiescent_PoolFresh (hPoolFresh := hPoolFresh)
    ∧ quiescent_PoolFreshIdeal (hPoolFreshIdeal := hPoolFreshIdeal)
    ∧ quiescent_PoolFreshReferenceIdeal (hPoolFreshReferenceIdeal := hPoolFreshReferenceIdeal)
    ∧ quiescent_PoolState (hPoolState := hPoolState)
    ∧ quiescent_PoolStateIdeal (hPoolStateIdeal := hPoolStateIdeal)
    ∧ quiescent_PoolStateReferenceIdeal (hPoolStateReferenceIdeal := hPoolStateReferenceIdeal)
    ∧ quiescent_Dispatch (hDispatch := hDispatch)
    ∧ quiescent_DispatchIdeal (hDispatchIdeal := hDispatchIdeal)
    ∧ quiescent_DispatchReferenceIdeal (hDispatchReferenceIdeal := hDispatchReferenceIdeal)
    ∧ preserves_InProj_InProjIdeal
    ∧ algebraic_InProjIdeal_InProjReferenceIdeal (hInProjIdeal := hInProjIdeal) (hInProjReferenceIdeal := hInProjReferenceIdeal)
    ∧ preserves_Post_PostIdeal
    ∧ algebraic_PostIdeal_PostReferenceIdeal (hPostIdeal := hPostIdeal) (hPostReferenceIdeal := hPostReferenceIdeal)
    ∧ preserves_Combine_CombineIdeal
    ∧ algebraic_CombineIdeal_CombineReferenceIdeal (hCombineIdeal := hCombineIdeal) (hCombineReferenceIdeal := hCombineReferenceIdeal)
    ∧ preserves_ConvRows_ConvRowsIdeal
    ∧ algebraic_ConvRowsIdeal_ConvRowsReferenceIdeal (hConvRowsIdeal := hConvRowsIdeal) (hConvRowsReferenceIdeal := hConvRowsReferenceIdeal)
    ∧ preserves_PoolRows_PoolRowsIdeal
    ∧ algebraic_PoolRowsIdeal_PoolRowsReferenceIdeal (hPoolRowsIdeal := hPoolRowsIdeal) (hPoolRowsReferenceIdeal := hPoolRowsReferenceIdeal)
    ∧ preserves_PoolFresh_PoolFreshIdeal
    ∧ algebraic_PoolFreshIdeal_PoolFreshReferenceIdeal (hPoolFreshIdeal := hPoolFreshIdeal) (hPoolFreshReferenceIdeal := hPoolFreshReferenceIdeal)
    ∧ preserves_PoolState_PoolStateIdeal
    ∧ algebraic_PoolStateIdeal_PoolStateReferenceIdeal (hPoolStateIdeal := hPoolStateIdeal) (hPoolStateReferenceIdeal := hPoolStateReferenceIdeal)
    ∧ preserves_Dispatch_DispatchIdeal
    ∧ algebraic_DispatchIdeal_DispatchReferenceIdeal (hDispatchIdeal := hDispatchIdeal) (hDispatchReferenceIdeal := hDispatchReferenceIdeal)
-- ==== InProj.lean ====
abbrev S16384x1024 : Shape := ⟨2, ![16384, 1024]⟩
abbrev S1024x1024 : Shape := ⟨2, ![1024, 1024]⟩
abbrev S1024x9216 : Shape := ⟨2, ![1024, 9216]⟩
abbrev S1024x128 : Shape := ⟨2, ![1024, 128]⟩
abbrev S17408x9216 : Shape := ⟨2, ![17408, 9216]⟩
abbrev S17408x128 : Shape := ⟨2, ![17408, 128]⟩
abbrev S1024x3072 : Shape := ⟨2, ![1024, 3072]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x9216, .bf16⟩
  | .hbm, ⟨3, _⟩ => ⟨S1024x128, .bf16⟩
  | .hbm, ⟨4, _⟩ => ⟨S17408x9216, .bf16⟩
  | .hbm, ⟨5, _⟩ => ⟨S17408x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x3072, .bf16⟩
  | .local _ .vmem, ⟨5, _⟩ => ⟨S1024x3072, .bf16⟩
  | .local _ .vmem, ⟨6, _⟩ => ⟨S1024x128, .bf16⟩
  | .local _ .vmem, ⟨7, _⟩ => ⟨S1024x3072, .bf16⟩
  | .local _ .vmem, ⟨8, _⟩ => ⟨S1024x3072, .bf16⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjReferenceIdeal.lean ====
abbrev S16384x1024 : Shape := ⟨2, ![16384, 1024]⟩
abbrev S1024x1024 : Shape := ⟨2, ![1024, 1024]⟩
abbrev S1024x9216 : Shape := ⟨2, ![1024, 9216]⟩
abbrev S1024x128 : Shape := ⟨2, ![1024, 128]⟩
abbrev S17408x1024 : Shape := ⟨2, ![17408, 1024]⟩
abbrev S17408x9216 : Shape := ⟨2, ![17408, 9216]⟩
abbrev S17408x128 : Shape := ⟨2, ![17408, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x9216, .bf16⟩
  | .hbm, ⟨3, _⟩ => ⟨S1024x128, .bf16⟩
  | .hbm, ⟨4, _⟩ => ⟨S17408x1024, .f32⟩
  | .hbm, ⟨5, _⟩ => ⟨S1024x9216, .f32⟩
  | .hbm, ⟨6, _⟩ => ⟨S17408x9216, .f32⟩
  | .hbm, ⟨7, _⟩ => ⟨S17408x9216, .bf16⟩
  | .hbm, ⟨8, _⟩ => ⟨S1024x128, .f32⟩
  | .hbm, ⟨9, _⟩ => ⟨S17408x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Post.lean ====
abbrev S16384x1024 : Shape := ⟨2, ![16384, 1024]⟩
abbrev S1024x1024 : Shape := ⟨2, ![1024, 1024]⟩
abbrev S16384x2048 : Shape := ⟨2, ![16384, 2048]⟩
abbrev S1024x2048 : Shape := ⟨2, ![1024, 2048]⟩
abbrev S17408x9216 : Shape := ⟨2, ![17408, 9216]⟩
abbrev S4x256x256 : Shape := ⟨3, ![4, 256, 256]⟩
abbrev S1x1024 : Shape := ⟨2, ![1, 1024]⟩
abbrev S2048x1024 : Shape := ⟨2, ![2048, 1024]⟩
abbrev S17408x1024 : Shape := ⟨2, ![17408, 1024]⟩
abbrev S2x17408x512 : Shape := ⟨3, ![2, 17408, 512]⟩
abbrev S512x1024 : Shape := ⟨2, ![512, 1024]⟩
abbrev S512x2048 : Shape := ⟨2, ![512, 2048]⟩
abbrev S2x512x512 : Shape := ⟨3, ![2, 512, 512]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 16
  | .vmem => 27
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x2048, .bf16⟩
  | .hbm, ⟨3, _⟩ => ⟨S1024x2048, .bf16⟩
  | .hbm, ⟨4, _⟩ => ⟨S17408x9216, .bf16⟩
  | .hbm, ⟨5, _⟩ => ⟨S16384x1024, .f32⟩
  | .hbm, ⟨6, _⟩ => ⟨S1024x1024, .f32⟩
  | .hbm, ⟨7, _⟩ => ⟨S4x256x256, .bf16⟩
  | .hbm, ⟨8, _⟩ => ⟨S1x1024, .f32⟩
  | .hbm, ⟨9, _⟩ => ⟨S1024x1024, .bf16⟩
  | .hbm, ⟨10, _⟩ => ⟨S2048x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S17408x1024, .f32⟩
  | .hbm, ⟨15, _⟩ => ⟨S2x17408x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S4x256x256, .bf16⟩
  | .local _ .vmem, ⟨17, _⟩ => ⟨S1x1024, .f32⟩
  | .local _ .vmem, ⟨18, _⟩ => ⟨S1024x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S2x512x512, .bf16⟩
  | .local _ .vmem, ⟨26, _⟩ => ⟨S2x512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostReferenceIdeal.lean ====
abbrev S16384x1024 : Shape := ⟨2, ![16384, 1024]⟩
abbrev S1024x1024 : Shape := ⟨2, ![1024, 1024]⟩
abbrev S16384x2048 : Shape := ⟨2, ![16384, 2048]⟩
abbrev S1024x2048 : Shape := ⟨2, ![1024, 2048]⟩
abbrev S17408x9216 : Shape := ⟨2, ![17408, 9216]⟩
abbrev S4x256x256 : Shape := ⟨3, ![4, 256, 256]⟩
abbrev S1x1024 : Shape := ⟨2, ![1, 1024]⟩
abbrev S2048x1024 : Shape := ⟨2, ![2048, 1024]⟩
abbrev S17408x1024 : Shape := ⟨2, ![17408, 1024]⟩
abbrev S17408x2048 : Shape := ⟨2, ![17408, 2048]⟩
abbrev S17408x4x256 : Shape := ⟨3, ![17408, 4, 256]⟩
abbrev S4x256x17408 : Shape := ⟨3, ![4, 256, 17408]⟩
abbrev S_ : Shape := ⟨0, ![]⟩
abbrev S17408 : Shape := ⟨1, ![17408]⟩
abbrev S17408x1 : Shape := ⟨2, ![17408, 1]⟩
abbrev S17408x2x512 : Shape := ⟨3, ![17408, 2, 512]⟩
abbrev S2x17408x512 : Shape := ⟨3, ![2, 17408, 512]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x2048, .bf16⟩
  | .hbm, ⟨3, _⟩ => ⟨S1024x2048, .bf16⟩
  | .hbm, ⟨4, _⟩ => ⟨S17408x9216, .bf16⟩
  | .hbm, ⟨5, _⟩ => ⟨S16384x1024, .f32⟩
  | .hbm, ⟨6, _⟩ => ⟨S1024x1024, .f32⟩
  | .hbm, ⟨7, _⟩ => ⟨S4x256x256, .bf16⟩
  | .hbm, ⟨8, _⟩ => ⟨S1x1024, .f32⟩
  | .hbm, ⟨9, _⟩ => ⟨S1024x1024, .bf16⟩
  | .hbm, ⟨10, _⟩ => ⟨S2048x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S17408x1024, .f32⟩
  | .hbm, ⟨15, _⟩ => ⟨S17408x1024, .bf16⟩
  | .hbm, ⟨16, _⟩ => ⟨S17408x1024, .f32⟩
  | .hbm, ⟨17, _⟩ => ⟨S17408x2048, .bf16⟩
  | .hbm, ⟨18, _⟩ => ⟨S17408x2048, .f32⟩
  | .hbm, ⟨19, _⟩ => ⟨S17408x1024, .bf16⟩
  | .hbm, ⟨20, _⟩ => ⟨S17408x1024, .f32⟩
  | .hbm, ⟨21, _⟩ => ⟨S17408x1024, .bf16⟩
  | .hbm, ⟨22, _⟩ => ⟨S17408x1024, .f32⟩
  | .hbm, ⟨23, _⟩ => ⟨S17408x4x256, .f32⟩
  | .hbm, ⟨24, _⟩ => ⟨S4x256x256, .f32⟩
  | .hbm, ⟨25, _⟩ => ⟨S4x256x17408, .f32⟩
  | .hbm, ⟨26, _⟩ => ⟨S17408x4x256, .f32⟩
  | .hbm, ⟨27, _⟩ => ⟨S17408x1024, .f32⟩
  | .hbm, ⟨28, _⟩ => ⟨S17408x1024, .f32⟩
  | .hbm, ⟨29, _⟩ => ⟨S17408x1024, .f32⟩
  | .hbm, ⟨30, _⟩ => ⟨S1024x1024, .f32⟩
  | .hbm, ⟨31, _⟩ => ⟨S17408x1024, .f32⟩
  | .hbm, ⟨32, _⟩ => ⟨S2048x1024, .f32⟩
  | .hbm, ⟨33, _⟩ => ⟨S17408x1024, .f32⟩
  | .hbm, ⟨34, _⟩ => ⟨S17408x1024, .f32⟩
  | .hbm, ⟨35, _⟩ => ⟨S17408x1024, .f32⟩
  | .hbm, ⟨36, _⟩ => ⟨S_, .f32⟩
  | .hbm, ⟨37, _⟩ => ⟨S17408x1024, .f32⟩
  | .hbm, ⟨38, _⟩ => ⟨S17408x1024, .f32⟩
  | .hbm, ⟨39, _⟩ => ⟨S_, .f32⟩
  | .hbm, ⟨40, _⟩ => ⟨S17408x1024, .f32⟩
  | .hbm, ⟨41, _⟩ => ⟨S17408x1024, .f32⟩
  | .hbm, ⟨42, _⟩ => ⟨S17408x1024, .f32⟩
  | .hbm, ⟨43, _⟩ => ⟨S17408x1024, .f32⟩
  | .hbm, ⟨44, _⟩ => ⟨S17408x1024, .f32⟩
  | .hbm, ⟨45, _⟩ => ⟨S_, .f32⟩
  | .hbm, ⟨46, _⟩ => ⟨S17408x1024, .f32⟩
  | .hbm, ⟨47, _⟩ => ⟨S17408x1024, .f32⟩
  | .hbm, ⟨48, _⟩ => ⟨S_, .f32⟩
  | .hbm, ⟨49, _⟩ => ⟨S17408x1024, .f32⟩
  | .hbm, ⟨50, _⟩ => ⟨S17408x1024, .f32⟩
  | .hbm, ⟨51, _⟩ => ⟨S17408x1024, .f32⟩
  | .hbm, ⟨52, _⟩ => ⟨S17408x1024, .f32⟩
  | .hbm, ⟨53, _⟩ => ⟨S_, .f32⟩
  | .hbm, ⟨54, _⟩ => ⟨S17408x1024, .f32⟩
  | .hbm, ⟨55, _⟩ => ⟨S17408x1024, .f32⟩
  | .hbm, ⟨56, _⟩ => ⟨S1024x1024, .f32⟩
  | .hbm, ⟨57, _⟩ => ⟨S17408x1024, .f32⟩
  | .hbm, ⟨58, _⟩ => ⟨S17408x1024, .f32⟩
  | .hbm, ⟨59, _⟩ => ⟨S_, .f32⟩
  | .hbm, ⟨60, _⟩ => ⟨S17408, .f32⟩
  | .hbm, ⟨61, _⟩ => ⟨S17408x1, .f32⟩
  | .hbm, ⟨62, _⟩ => ⟨S_, .f32⟩
  | .hbm, ⟨63, _⟩ => ⟨S17408x1, .f32⟩
  | .hbm, ⟨64, _⟩ => ⟨S17408x1, .f32⟩
  | .hbm, ⟨65, _⟩ => ⟨S17408x1024, .f32⟩
  | .hbm, ⟨66, _⟩ => ⟨S17408x1024, .f32⟩
  | .hbm, ⟨67, _⟩ => ⟨S17408x1024, .f32⟩
  | .hbm, ⟨68, _⟩ => ⟨S_, .f32⟩
  | .hbm, ⟨69, _⟩ => ⟨S17408, .f32⟩
  | .hbm, ⟨70, _⟩ => ⟨S17408x1, .f32⟩
  | .hbm, ⟨71, _⟩ => ⟨S_, .f32⟩
  | .hbm, ⟨72, _⟩ => ⟨S17408x1, .f32⟩
  | .hbm, ⟨73, _⟩ => ⟨S17408x1, .f32⟩
  | .hbm, ⟨74, _⟩ => ⟨S17408x1024, .f32⟩
  | .hbm, ⟨75, _⟩ => ⟨S17408x1024, .f32⟩
  | .hbm, ⟨76, _⟩ => ⟨S_, .f32⟩
  | .hbm, ⟨77, _⟩ => ⟨S17408x1, .f32⟩
  | .hbm, ⟨78, _⟩ => ⟨S17408x1, .f32⟩
  | .hbm, ⟨79, _⟩ => ⟨S17408x1, .f32⟩
  | .hbm, ⟨80, _⟩ => ⟨S17408x1024, .f32⟩
  | .hbm, ⟨81, _⟩ => ⟨S17408x1024, .f32⟩
  | .hbm, ⟨82, _⟩ => ⟨S17408x1024, .f32⟩
  | .hbm, ⟨83, _⟩ => ⟨S17408x1024, .f32⟩
  | .hbm, ⟨84, _⟩ => ⟨S17408x1024, .f32⟩
  | .hbm, ⟨85, _⟩ => ⟨S17408x1024, .f32⟩
  | .hbm, ⟨86, _⟩ => ⟨S17408x1024, .bf16⟩
  | .hbm, ⟨87, _⟩ => ⟨S17408x2x512, .bf16⟩
  | .hbm, ⟨88, _⟩ => ⟨S2x17408x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Combine.lean ====
abbrev S2x8x17408x512 : Shape := ⟨4, ![2, 8, 17408, 512]⟩
abbrev S17408x8 : Shape := ⟨2, ![17408, 8]⟩
abbrev S17408x1024 : Shape := ⟨2, ![17408, 1024]⟩
abbrev S1024x512 : Shape := ⟨2, ![1024, 512]⟩
abbrev S256x1024 : Shape := ⟨2, ![256, 1024]⟩
abbrev S1x1024 : Shape := ⟨2, ![1, 1024]⟩
abbrev S16384x1024 : Shape := ⟨2, ![16384, 1024]⟩
abbrev S1024x1024 : Shape := ⟨2, ![1024, 1024]⟩
abbrev S2x8x512x512 : Shape := ⟨4, ![2, 8, 512, 512]⟩
abbrev S512x8 : Shape := ⟨2, ![512, 8]⟩
abbrev S512x1024 : Shape := ⟨2, ![512, 1024]⟩
abbrev S1x1x512x512 : Shape := ⟨4, ![1, 1, 512, 512]⟩
abbrev S512x512 : Shape := ⟨2, ![512, 512]⟩
abbrev S512x256 : Shape := ⟨2, ![512, 256]⟩
abbrev S512x1 : Shape := ⟨2, ![512, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S2x8x17408x512, .bf16⟩
  | .hbm, ⟨1, _⟩ => ⟨S17408x8, .f32⟩
  | .hbm, ⟨2, _⟩ => ⟨S17408x1024, .f32⟩
  | .hbm, ⟨3, _⟩ => ⟨S1024x512, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1024x1024, .f32⟩
  | .local _ .vmem, ⟨0, _⟩ => ⟨S2x8x512x512, .bf16⟩
  | .local _ .vmem, ⟨1, _⟩ => ⟨S2x8x512x512, .bf16⟩
  | .local _ .vmem, ⟨2, _⟩ => ⟨S512x8, .f32⟩
  | .local _ .vmem, ⟨3, _⟩ => ⟨S512x8, .f32⟩
  | .local _ .vmem, ⟨4, _⟩ => ⟨S512x1024, .f32⟩
  | .local _ .vmem, ⟨5, _⟩ => ⟨S512x1024, .f32⟩
  | .local _ .vmem, ⟨6, _⟩ => ⟨S1024x512, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2x8x17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v242 : BitVec 1 := Scalar.cmpi .slt arg0 c32_i32
  let v243 : BitVec 32 := Scalar.extui v242
  let c0_i32 : BitVec 32 := 0#32
  let v244 : BitVec 1 := Scalar.cmpi .ne v243 c0_i32
  v244

def k0_cond2 (i : grid0.Coords) : BitVec 1 :=
  let arg0 : BitVec 32 := BitVec.ofNat 32 (i 0).val
  let c32_i32_78 : BitVec 32 := 32#32
  let v245 : BitVec 1 := Scalar.cmpi .sge arg0 c32_i32_78
  let v246 : BitVec 32 := Scalar.extui v245
  let c0_i32_79 : BitVec 32 := 0#32
  let v247 : BitVec 1 := Scalar.cmpi .ne v246 c0_i32_79
  v247

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2x8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombineReferenceIdeal.lean ====
abbrev S2x8x17408x512 : Shape := ⟨4, ![2, 8, 17408, 512]⟩
abbrev S17408x8 : Shape := ⟨2, ![17408, 8]⟩
abbrev S17408x1024 : Shape := ⟨2, ![17408, 1024]⟩
abbrev S1024x512 : Shape := ⟨2, ![1024, 512]⟩
abbrev S256x1024 : Shape := ⟨2, ![256, 1024]⟩
abbrev S1x1024 : Shape := ⟨2, ![1, 1024]⟩
abbrev S17408x8x2x512 : Shape := ⟨4, ![17408, 8, 2, 512]⟩
abbrev S17408x8x1024 : Shape := ⟨3, ![17408, 8, 1024]⟩
abbrev S17408x8x1 : Shape := ⟨3, ![17408, 8, 1]⟩
abbrev S_ : Shape := ⟨0, ![]⟩
abbrev S1024x256 : Shape := ⟨2, ![1024, 256]⟩
abbrev S17408x256 : Shape := ⟨2, ![17408, 256]⟩
abbrev S17408 : Shape := ⟨1, ![17408]⟩
abbrev S17408x1 : Shape := ⟨2, ![17408, 1]⟩
abbrev S16384x1024 : Shape := ⟨2, ![16384, 1024]⟩
abbrev S1024x1024 : Shape := ⟨2, ![1024, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8x17408x512, .bf16⟩
  | .hbm, ⟨1, _⟩ => ⟨S17408x8, .f32⟩
  | .hbm, ⟨2, _⟩ => ⟨S17408x1024, .f32⟩
  | .hbm, ⟨3, _⟩ => ⟨S1024x512, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S2x8x17408x512, .f32⟩
  | .hbm, ⟨8, _⟩ => ⟨S17408x8x2x512, .f32⟩
  | .hbm, ⟨9, _⟩ => ⟨S17408x8x1024, .f32⟩
  | .hbm, ⟨10, _⟩ => ⟨S17408x8x1, .f32⟩
  | .hbm, ⟨11, _⟩ => ⟨S17408x8x1024, .f32⟩
  | .hbm, ⟨12, _⟩ => ⟨S17408x8x1024, .f32⟩
  | .hbm, ⟨13, _⟩ => ⟨S_, .f32⟩
  | .hbm, ⟨14, _⟩ => ⟨S17408x1024, .f32⟩
  | .hbm, ⟨15, _⟩ => ⟨S1024x256, .bf16⟩
  | .hbm, ⟨16, _⟩ => ⟨S1024x256, .f32⟩
  | .hbm, ⟨17, _⟩ => ⟨S17408x256, .f32⟩
  | .hbm, ⟨18, _⟩ => ⟨S1024x256, .bf16⟩
  | .hbm, ⟨19, _⟩ => ⟨S1024x256, .f32⟩
  | .hbm, ⟨20, _⟩ => ⟨S17408x256, .f32⟩
  | .hbm, ⟨21, _⟩ => ⟨S17408x256, .f32⟩
  | .hbm, ⟨22, _⟩ => ⟨S17408x256, .f32⟩
  | .hbm, ⟨23, _⟩ => ⟨S_, .f32⟩
  | .hbm, ⟨24, _⟩ => ⟨S17408x256, .f32⟩
  | .hbm, ⟨25, _⟩ => ⟨S17408x256, .f32⟩
  | .hbm, ⟨26, _⟩ => ⟨S_, .f32⟩
  | .hbm, ⟨27, _⟩ => ⟨S17408x256, .f32⟩
  | .hbm, ⟨28, _⟩ => ⟨S17408x256, .f32⟩
  | .hbm, ⟨29, _⟩ => ⟨S17408x256, .f32⟩
  | .hbm, ⟨30, _⟩ => ⟨S17408x256, .f32⟩
  | .hbm, ⟨31, _⟩ => ⟨S256x1024, .f32⟩
  | .hbm, ⟨32, _⟩ => ⟨S17408x1024, .f32⟩
  | .hbm, ⟨33, _⟩ => ⟨S_, .f32⟩
  | .hbm, ⟨34, _⟩ => ⟨S17408x1024, .f32⟩
  | .hbm, ⟨35, _⟩ => ⟨S17408x1024, .f32⟩
  | .hbm, ⟨36, _⟩ => ⟨S17408x1024, .f32⟩
  | .hbm, ⟨37, _⟩ => ⟨S17408x1024, .f32⟩
  | .hbm, ⟨38, _⟩ => ⟨S_, .f32⟩
  | .hbm, ⟨39, _⟩ => ⟨S17408, .f32⟩
  | .hbm, ⟨40, _⟩ => ⟨S17408x1, .f32⟩
  | .hbm, ⟨41, _⟩ => ⟨S_, .f32⟩
  | .hbm, ⟨42, _⟩ => ⟨S17408x1, .f32⟩
  | .hbm, ⟨43, _⟩ => ⟨S17408x1, .f32⟩
  | .hbm, ⟨44, _⟩ => ⟨S17408x1024, .f32⟩
  | .hbm, ⟨45, _⟩ => ⟨S17408x1024, .f32⟩
  | .hbm, ⟨46, _⟩ => ⟨S17408x1024, .f32⟩
  | .hbm, ⟨47, _⟩ => ⟨S_, .f32⟩
  | .hbm, ⟨48, _⟩ => ⟨S17408, .f32⟩
  | .hbm, ⟨49, _⟩ => ⟨S17408x1, .f32⟩
  | .hbm, ⟨50, _⟩ => ⟨S_, .f32⟩
  | .hbm, ⟨51, _⟩ => ⟨S17408x1, .f32⟩
  | .hbm, ⟨52, _⟩ => ⟨S17408x1, .f32⟩
  | .hbm, ⟨53, _⟩ => ⟨S17408x1024, .f32⟩
  | .hbm, ⟨54, _⟩ => ⟨S17408x1024, .f32⟩
  | .hbm, ⟨55, _⟩ => ⟨S_, .f32⟩
  | .hbm, ⟨56, _⟩ => ⟨S17408x1, .f32⟩
  | .hbm, ⟨57, _⟩ => ⟨S17408x1, .f32⟩
  | .hbm, ⟨58, _⟩ => ⟨S17408x1, .f32⟩
  | .hbm, ⟨59, _⟩ => ⟨S17408x1024, .f32⟩
  | .hbm, ⟨60, _⟩ => ⟨S17408x1024, .f32⟩
  | .hbm, ⟨61, _⟩ => ⟨S17408x1024, .f32⟩
  | .hbm, ⟨62, _⟩ => ⟨S17408x1024, .f32⟩
  | .hbm, ⟨63, _⟩ => ⟨S17408x1024, .f32⟩
  | .hbm, ⟨64, _⟩ => ⟨S17408x1024, .f32⟩
  | .hbm, ⟨65, _⟩ => ⟨S16384x1024, .f32⟩
  | .hbm, ⟨66, _⟩ => ⟨S1024x1024, .f32⟩
  | _, _ => ⟨S2x8x17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== ConvRows.lean ====
abbrev S8x2048x1024 : Shape := ⟨3, ![8, 2048, 1024]⟩
abbrev S128x8x1024 : Shape := ⟨3, ![128, 8, 1024]⟩
abbrev S1x1024x9248 : Shape := ⟨3, ![1, 1024, 9248]⟩
abbrev S1x128x3x4096 : Shape := ⟨4, ![1, 128, 3, 4096]⟩
abbrev S1024x9248 : Shape := ⟨2, ![1024, 9248]⟩
abbrev S1024x6144 : Shape := ⟨2, ![1024, 6144]⟩
abbrev S1024x3072 : Shape := ⟨2, ![1024, 3072]⟩
abbrev S1024x9216 : Shape := ⟨2, ![1024, 9216]⟩
abbrev S16384x1024 : Shape := ⟨2, ![16384, 1024]⟩
abbrev S1024x1024 : Shape := ⟨2, ![1024, 1024]⟩
abbrev S_ : Shape := ⟨0, ![]⟩
abbrev S8x3x4096 : Shape := ⟨3, ![8, 3, 4096]⟩
abbrev S128x3x4096 : Shape := ⟨3, ![128, 3, 4096]⟩
abbrev S8 : Shape := ⟨1, ![8]⟩
abbrev S8x1 : Shape := ⟨2, ![8, 1]⟩
abbrev S3 : Shape := ⟨1, ![3]⟩
abbrev S1x3 : Shape := ⟨2, ![1, 3]⟩
abbrev S8x3 : Shape := ⟨2, ![8, 3]⟩
abbrev S24 : Shape := ⟨1, ![24]⟩
abbrev S24x1 : Shape := ⟨2, ![24, 1]⟩
abbrev S1 : Shape := ⟨1, ![1]⟩
abbrev S1x1 : Shape := ⟨2, ![1, 1]⟩
abbrev S24x1024 : Shape := ⟨2, ![24, 1024]⟩
abbrev S128 : Shape := ⟨1, ![128]⟩
abbrev S128x1 : Shape := ⟨2, ![128, 1]⟩
abbrev S128x3 : Shape := ⟨2, ![128, 3]⟩
abbrev S384 : Shape := ⟨1, ![384]⟩
abbrev S384x1 : Shape := ⟨2, ![384, 1]⟩
abbrev S384x1024 : Shape := ⟨2, ![384, 1024]⟩
abbrev S408x1024 : Shape := ⟨2, ![408, 1024]⟩
abbrev S512x1024 : Shape := ⟨2, ![512, 1024]⟩
abbrev S512x4096 : Shape := ⟨2, ![512, 4096]⟩
abbrev S24x4096 : Shape := ⟨2, ![24, 4096]⟩
abbrev S384x4096 : Shape := ⟨2, ![384, 4096]⟩
abbrev S1x8x3x4096 : Shape := ⟨4, ![1, 8, 3, 4096]⟩

abbrev nBuf : Space → Nat
  | .hbm => 101
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024x9248, .f32⟩
  | .hbm, ⟨3, _⟩ => ⟨S1x128x3x4096, .f32⟩
  | .hbm, ⟨4, _⟩ => ⟨S1024x9248, .f32⟩
  | .hbm, ⟨5, _⟩ => ⟨S1024x6144, .f32⟩
  | .hbm, ⟨6, _⟩ => ⟨S1024x3072, .f32⟩
  | .hbm, ⟨7, _⟩ => ⟨S1024x9216, .f32⟩
  | .hbm, ⟨8, _⟩ => ⟨S1024x9216, .bf16⟩
  | .hbm, ⟨9, _⟩ => ⟨S16384x1024, .f32⟩
  | .hbm, ⟨10, _⟩ => ⟨S1024x1024, .f32⟩
  | .hbm, ⟨11, _⟩ => ⟨S_, .f32⟩
  | .hbm, ⟨12, _⟩ => ⟨S8x3x4096, .f32⟩
  | .hbm, ⟨13, _⟩ => ⟨S128x3x4096, .f32⟩
  | .hbm, ⟨14, _⟩ => ⟨S8, .i32⟩
  | .hbm, ⟨15, _⟩ => ⟨S8x1, .i32⟩
  | .hbm, ⟨16, _⟩ => ⟨S_, .i32⟩
  | .hbm, ⟨17, _⟩ => ⟨S8x1, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i32⟩
  | .hbm, ⟨22, _⟩ => ⟨S3, .i32⟩
  | .hbm, ⟨23, _⟩ => ⟨S1x3, .i32⟩
  | .hbm, ⟨24, _⟩ => ⟨S8x3, .i32⟩
  | .hbm, ⟨25, _⟩ => ⟨S8x3, .i32⟩
  | .hbm, ⟨26, _⟩ => ⟨S8x3, .i32⟩
  | .hbm, ⟨27, _⟩ => ⟨S24, .i32⟩
  | .hbm, ⟨28, _⟩ => ⟨S_, .i32⟩
  | .hbm, ⟨29, _⟩ => ⟨S24, .i32⟩
  | .hbm, ⟨30, _⟩ => ⟨S24, .i1⟩
  | .hbm, ⟨31, _⟩ => ⟨S_, .i32⟩
  | .hbm, ⟨32, _⟩ => ⟨S24, .i32⟩
  | .hbm, ⟨33, _⟩ => ⟨S24, .i32⟩
  | .hbm, ⟨34, _⟩ => ⟨S24, .i32⟩
  | .hbm, ⟨35, _⟩ => ⟨S24x1, .i32⟩
  | .hbm, ⟨36, _⟩ => ⟨S1, .i32⟩
  | .hbm, ⟨37, _⟩ => ⟨S_, .i32⟩
  | .hbm, ⟨38, _⟩ => ⟨S24x1, .i32⟩
  | .hbm, ⟨39, _⟩ => ⟨S24x1, .i1⟩
  | .hbm, ⟨40, _⟩ => ⟨S1x1, .i32⟩
  | .hbm, ⟨41, _⟩ => ⟨S24x1, .i32⟩
  | .hbm, ⟨42, _⟩ => ⟨S24x1, .i1⟩
  | .hbm, ⟨43, _⟩ => ⟨S24x1, .i1⟩
  | .hbm, ⟨44, _⟩ => ⟨S_, .i1⟩
  | .hbm, ⟨45, _⟩ => ⟨S24, .i1⟩
  | .hbm, ⟨46, _⟩ => ⟨S24x1024, .f32⟩
  | .hbm, ⟨47, _⟩ => ⟨S24x1024, .i1⟩
  | .hbm, ⟨48, _⟩ => ⟨S_, .f32⟩
  | .hbm, ⟨49, _⟩ => ⟨S24x1024, .f32⟩
  | .hbm, ⟨50, _⟩ => ⟨S24x1024, .f32⟩
  | .hbm, ⟨51, _⟩ => ⟨S24x1024, .bf16⟩
  | .hbm, ⟨52, _⟩ => ⟨S128, .i32⟩
  | .hbm, ⟨53, _⟩ => ⟨S128x1, .i32⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S3, .i32⟩
  | .hbm, ⟨61, _⟩ => ⟨S1x3, .i32⟩
  | .hbm, ⟨62, _⟩ => ⟨S128x3, .i32⟩
  | .hbm, ⟨63, _⟩ => ⟨S128x3, .i32⟩
  | .hbm, ⟨64, _⟩ => ⟨S128x3, .i32⟩
  | .hbm, ⟨65, _⟩ => ⟨S384, .i32⟩
  | .hbm, ⟨66, _⟩ => ⟨S_, .i32⟩
  | .hbm, ⟨67, _⟩ => ⟨S384, .i32⟩
  | .hbm, ⟨68, _⟩ => ⟨S384, .i1⟩
  | .hbm, ⟨69, _⟩ => ⟨S_, .i32⟩
  | .hbm, ⟨70, _⟩ => ⟨S384, .i32⟩
  | .hbm, ⟨71, _⟩ => ⟨S384, .i32⟩
  | .hbm, ⟨72, _⟩ => ⟨S384, .i32⟩
  | .hbm, ⟨73, _⟩ => ⟨S384x1, .i32⟩
  | .hbm, ⟨74, _⟩ => ⟨S1, .i32⟩
  | .hbm, ⟨75, _⟩ => ⟨S_, .i32⟩
  | .hbm, ⟨76, _⟩ => ⟨S384x1, .i32⟩
  | .hbm, ⟨77, _⟩ => ⟨S384x1, .i1⟩
  | .hbm, ⟨78, _⟩ => ⟨S1x1, .i32⟩
  | .hbm, ⟨79, _⟩ => ⟨S384x1, .i32⟩
  | .hbm, ⟨80, _⟩ => ⟨S384x1, .i1⟩
  | .hbm, ⟨81, _⟩ => ⟨S384x1, .i1⟩
  | .hbm, ⟨82, _⟩ => ⟨S_, .i1⟩
  | .hbm, ⟨83, _⟩ => ⟨S384, .i1⟩
  | .hbm, ⟨84, _⟩ => ⟨S384x1024, .f32⟩
  | .hbm, ⟨85, _⟩ => ⟨S384x1024, .i1⟩
  | .hbm, ⟨86, _⟩ => ⟨S_, .f32⟩
  | .hbm, ⟨87, _⟩ => ⟨S384x1024, .f32⟩
  | .hbm, ⟨88, _⟩ => ⟨S384x1024, .f32⟩
  | .hbm, ⟨89, _⟩ => ⟨S384x1024, .bf16⟩
  | .hbm, ⟨90, _⟩ => ⟨S408x1024, .bf16⟩
  | .hbm, ⟨91, _⟩ => ⟨S_, .i32⟩
  | .hbm, ⟨92, _⟩ => ⟨S_, .bf16⟩
  | .hbm, ⟨93, _⟩ => ⟨S512x1024, .bf16⟩
  | .hbm, ⟨94, _⟩ => ⟨S512x4096, .f32⟩
  | .hbm, ⟨95, _⟩ => ⟨S24x4096, .f32⟩
  | .hbm, ⟨96, _⟩ => ⟨S8x3x4096, .f32⟩
  | .hbm, ⟨97, _⟩ => ⟨S384x4096, .f32⟩
  | .hbm, ⟨98, _⟩ => ⟨S128x3x4096, .f32⟩
  | .hbm, ⟨99, _⟩ => ⟨S1x8x3x4096, .f32⟩
  | .hbm, ⟨100, _⟩ => ⟨S1x128x3x4096, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_1 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_3 : Ref sig .tc := ⟨.hbm, 91, rfl⟩
abbrev main_call2_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvRowsReferenceIdeal.lean ====
abbrev S8x2048x1024 : Shape := ⟨3, ![8, 2048, 1024]⟩
abbrev S128x8x1024 : Shape := ⟨3, ![128, 8, 1024]⟩
abbrev S1x1024x9248 : Shape := ⟨3, ![1, 1024, 9248]⟩
abbrev S1x128x3x4096 : Shape := ⟨4, ![1, 128, 3, 4096]⟩
abbrev S1024x9248 : Shape := ⟨2, ![1024, 9248]⟩
abbrev S1024x4096 : Shape := ⟨2, ![1024, 4096]⟩
abbrev S_ : Shape := ⟨0, ![]⟩
abbrev S8x3x4096 : Shape := ⟨3, ![8, 3, 4096]⟩
abbrev S8x2048x4096 : Shape := ⟨3, ![8, 2048, 4096]⟩
abbrev S8x2051x4096 : Shape := ⟨3, ![8, 2051, 4096]⟩
abbrev S128x3x4096 : Shape := ⟨3, ![128, 3, 4096]⟩
abbrev S128x8x4096 : Shape := ⟨3, ![128, 8, 4096]⟩
abbrev S128x11x4096 : Shape := ⟨3, ![128, 11, 4096]⟩
abbrev S1x8x3x4096 : Shape := ⟨4, ![1, 8, 3, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024x9248, .f32⟩
  | .hbm, ⟨3, _⟩ => ⟨S1x128x3x4096, .f32⟩
  | .hbm, ⟨4, _⟩ => ⟨S1024x9248, .f32⟩
  | .hbm, ⟨5, _⟩ => ⟨S1024x4096, .f32⟩
  | .hbm, ⟨6, _⟩ => ⟨S_, .f32⟩
  | .hbm, ⟨7, _⟩ => ⟨S8x3x4096, .f32⟩
  | .hbm, ⟨8, _⟩ => ⟨S8x2048x4096, .f32⟩
  | .hbm, ⟨9, _⟩ => ⟨S8x2051x4096, .f32⟩
  | .hbm, ⟨10, _⟩ => ⟨S128x3x4096, .f32⟩
  | .hbm, ⟨11, _⟩ => ⟨S128x8x4096, .f32⟩
  | .hbm, ⟨12, _⟩ => ⟨S128x11x4096, .f32⟩
  | .hbm, ⟨13, _⟩ => ⟨S8x3x4096, .f32⟩
  | .hbm, ⟨14, _⟩ => ⟨S1x8x3x4096, .f32⟩
  | .hbm, ⟨15, _⟩ => ⟨S128x3x4096, .f32⟩
  | .hbm, ⟨16, _⟩ => ⟨S1x128x3x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== PoolRows.lean ====
abbrev S8x2048x1024 : Shape := ⟨3, ![8, 2048, 1024]⟩
abbrev S128x8x1024 : Shape := ⟨3, ![128, 8, 1024]⟩
abbrev S1x1024x9248 : Shape := ⟨3, ![1, 1024, 9248]⟩
abbrev S1x128x15x1024 : Shape := ⟨4, ![1, 128, 15, 1024]⟩
abbrev S1024x9248 : Shape := ⟨2, ![1024, 9248]⟩
abbrev S1024x6144 : Shape := ⟨2, ![1024, 6144]⟩
abbrev S1024x3072 : Shape := ⟨2, ![1024, 3072]⟩
abbrev S1024x9216 : Shape := ⟨2, ![1024, 9216]⟩
abbrev S16384x1024 : Shape := ⟨2, ![16384, 1024]⟩
abbrev S1024x1024 : Shape := ⟨2, ![1024, 1024]⟩
abbrev S_ : Shape := ⟨0, ![]⟩
abbrev S8x15x1024 : Shape := ⟨3, ![8, 15, 1024]⟩
abbrev S128x15x1024 : Shape := ⟨3, ![128, 15, 1024]⟩
abbrev S8 : Shape := ⟨1, ![8]⟩
abbrev S8x1 : Shape := ⟨2, ![8, 1]⟩
abbrev S15 : Shape := ⟨1, ![15]⟩
abbrev S1x15 : Shape := ⟨2, ![1, 15]⟩
abbrev S8x15 : Shape := ⟨2, ![8, 15]⟩
abbrev S120 : Shape := ⟨1, ![120]⟩
abbrev S120x1 : Shape := ⟨2, ![120, 1]⟩
abbrev S1 : Shape := ⟨1, ![1]⟩
abbrev S1x1 : Shape := ⟨2, ![1, 1]⟩
abbrev S120x1024 : Shape := ⟨2, ![120, 1024]⟩
abbrev S128 : Shape := ⟨1, ![128]⟩
abbrev S128x1 : Shape := ⟨2, ![128, 1]⟩
abbrev S1x8 : Shape := ⟨2, ![1, 8]⟩
abbrev S128x8 : Shape := ⟨2, ![128, 8]⟩
abbrev S1024 : Shape := ⟨1, ![1024]⟩
abbrev S1024x1 : Shape := ⟨2, ![1024, 1]⟩
abbrev S1144x1024 : Shape := ⟨2, ![1144, 1024]⟩
abbrev S1152x1024 : Shape := ⟨2, ![1152, 1024]⟩
abbrev S128x7x1024 : Shape := ⟨3, ![128, 7, 1024]⟩
abbrev S1x8x15x1024 : Shape := ⟨4, ![1, 8, 15, 1024]⟩

abbrev nBuf : Space → Nat
  | .hbm => 103
  | .vmem => 3
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024x9248, .f32⟩
  | .hbm, ⟨3, _⟩ => ⟨S1x128x15x1024, .f32⟩
  | .hbm, ⟨4, _⟩ => ⟨S1024x9248, .f32⟩
  | .hbm, ⟨5, _⟩ => ⟨S1024x6144, .f32⟩
  | .hbm, ⟨6, _⟩ => ⟨S1024x3072, .f32⟩
  | .hbm, ⟨7, _⟩ => ⟨S1024x9216, .f32⟩
  | .hbm, ⟨8, _⟩ => ⟨S1024x9216, .bf16⟩
  | .hbm, ⟨9, _⟩ => ⟨S16384x1024, .f32⟩
  | .hbm, ⟨10, _⟩ => ⟨S1024x1024, .f32⟩
  | .hbm, ⟨11, _⟩ => ⟨S_, .f32⟩
  | .hbm, ⟨12, _⟩ => ⟨S8x15x1024, .f32⟩
  | .hbm, ⟨13, _⟩ => ⟨S128x15x1024, .f32⟩
  | .hbm, ⟨14, _⟩ => ⟨S8, .i32⟩
  | .hbm, ⟨15, _⟩ => ⟨S8x1, .i32⟩
  | .hbm, ⟨16, _⟩ => ⟨S_, .i32⟩
  | .hbm, ⟨17, _⟩ => ⟨S8x1, .i32⟩
  | .hbm, ⟨18, _⟩ => ⟨S8x1, .i32⟩
  | .hbm, ⟨19, _⟩ => ⟨S_, .i32⟩
  | .hbm, ⟨20, _⟩ => ⟨S8x1, .i32⟩
  | .hbm, ⟨21, _⟩ => ⟨S8x1, .i32⟩
  | .hbm, ⟨22, _⟩ => ⟨S15, .i32⟩
  | .hbm, ⟨23, _⟩ => ⟨S1x15, .i32⟩
  | .hbm, ⟨24, _⟩ => ⟨S8x15, .i32⟩
  | .hbm, ⟨25, _⟩ => ⟨S8x15, .i32⟩
  | .hbm, ⟨26, _⟩ => ⟨S8x15, .i32⟩
  | .hbm, ⟨27, _⟩ => ⟨S120, .i32⟩
  | .hbm, ⟨28, _⟩ => ⟨S_, .i32⟩
  | .hbm, ⟨29, _⟩ => ⟨S120, .i32⟩
  | .hbm, ⟨30, _⟩ => ⟨S120, .i1⟩
  | .hbm, ⟨31, _⟩ => ⟨S_, .i32⟩
  | .hbm, ⟨32, _⟩ => ⟨S120, .i32⟩
  | .hbm, ⟨33, _⟩ => ⟨S120, .i32⟩
  | .hbm, ⟨34, _⟩ => ⟨S120, .i32⟩
  | .hbm, ⟨35, _⟩ => ⟨S120x1, .i32⟩
  | .hbm, ⟨36, _⟩ => ⟨S1, .i32⟩
  | .hbm, ⟨37, _⟩ => ⟨S_, .i32⟩
  | .hbm, ⟨38, _⟩ => ⟨S120x1, .i32⟩
  | .hbm, ⟨39, _⟩ => ⟨S120x1, .i1⟩
  | .hbm, ⟨40, _⟩ => ⟨S1x1, .i32⟩
  | .hbm, ⟨41, _⟩ => ⟨S120x1, .i32⟩
  | .hbm, ⟨42, _⟩ => ⟨S120x1, .i1⟩
  | .hbm, ⟨43, _⟩ => ⟨S120x1, .i1⟩
  | .hbm, ⟨44, _⟩ => ⟨S_, .i1⟩
  | .hbm, ⟨45, _⟩ => ⟨S120, .i1⟩
  | .hbm, ⟨46, _⟩ => ⟨S120x1024, .f32⟩
  | .hbm, ⟨47, _⟩ => ⟨S120x1024, .i1⟩
  | .hbm, ⟨48, _⟩ => ⟨S_, .f32⟩
  | .hbm, ⟨49, _⟩ => ⟨S120x1024, .f32⟩
  | .hbm, ⟨50, _⟩ => ⟨S120x1024, .f32⟩
  | .hbm, ⟨51, _⟩ => ⟨S120x1024, .bf16⟩
  | .hbm, ⟨52, _⟩ => ⟨S128, .i32⟩
  | .hbm, ⟨53, _⟩ => ⟨S128x1, .i32⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S8, .i32⟩
  | .hbm, ⟨61, _⟩ => ⟨S1x8, .i32⟩
  | .hbm, ⟨62, _⟩ => ⟨S128x8, .i32⟩
  | .hbm, ⟨63, _⟩ => ⟨S128x8, .i32⟩
  | .hbm, ⟨64, _⟩ => ⟨S128x8, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024, .i32⟩
  | .hbm, ⟨73, _⟩ => ⟨S1024x1, .i32⟩
  | .hbm, ⟨74, _⟩ => ⟨S1, .i32⟩
  | .hbm, ⟨75, _⟩ => ⟨S_, .i32⟩
  | .hbm, ⟨76, _⟩ => ⟨S1024x1, .i32⟩
  | .hbm, ⟨77, _⟩ => ⟨S1024x1, .i1⟩
  | .hbm, ⟨78, _⟩ => ⟨S1x1, .i32⟩
  | .hbm, ⟨79, _⟩ => ⟨S1024x1, .i32⟩
  | .hbm, ⟨80, _⟩ => ⟨S1024x1, .i1⟩
  | .hbm, ⟨81, _⟩ => ⟨S1024x1, .i1⟩
  | .hbm, ⟨82, _⟩ => ⟨S_, .i1⟩
  | .hbm, ⟨83, _⟩ => ⟨S1024, .i1⟩
  | .hbm, ⟨84, _⟩ => ⟨S1024x1024, .f32⟩
  | .hbm, ⟨85, _⟩ => ⟨S1024x1024, .i1⟩
  | .hbm, ⟨86, _⟩ => ⟨S_, .f32⟩
  | .hbm, ⟨87, _⟩ => ⟨S1024x1024, .f32⟩
  | .hbm, ⟨88, _⟩ => ⟨S1024x1024, .f32⟩
  | .hbm, ⟨89, _⟩ => ⟨S1024x1024, .bf16⟩
  | .hbm, ⟨90, _⟩ => ⟨S1144x1024, .bf16⟩
  | .hbm, ⟨91, _⟩ => ⟨S_, .i32⟩
  | .hbm, ⟨92, _⟩ => ⟨S_, .bf16⟩
  | .hbm, ⟨93, _⟩ => ⟨S1152x1024, .bf16⟩
  | .hbm, ⟨94, _⟩ => ⟨S1152x1024, .f32⟩
  | .hbm, ⟨95, _⟩ => ⟨S120x1024, .f32⟩
  | .hbm, ⟨96, _⟩ => ⟨S8x15x1024, .f32⟩
  | .hbm, ⟨97, _⟩ => ⟨S1024x1024, .f32⟩
  | .hbm, ⟨98, _⟩ => ⟨S128x8x1024, .f32⟩
  | .hbm, ⟨99, _⟩ => ⟨S128x7x1024, .f32⟩
  | .hbm, ⟨100, _⟩ => ⟨S128x15x1024, .f32⟩
  | .hbm, ⟨101, _⟩ => ⟨S1x8x15x1024, .f32⟩
  | .hbm, ⟨102, _⟩ => ⟨S1x128x15x1024, .f32⟩
  | .local _ .vmem, ⟨0, _⟩ => ⟨S1152x1024, .bf16⟩
  | .local _ .vmem, ⟨1, _⟩ => ⟨S1024x1024, .bf16⟩
  | .local _ .vmem, ⟨2, _⟩ => ⟨S1152x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_1 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_3 : Ref sig .tc := ⟨.hbm, 91, rfl⟩
abbrev main_call2_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1152x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1152x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== PoolRowsReferenceIdeal.lean ====
abbrev S8x2048x1024 : Shape := ⟨3, ![8, 2048, 1024]⟩
abbrev S128x8x1024 : Shape := ⟨3, ![128, 8, 1024]⟩
abbrev S1x1024x9248 : Shape := ⟨3, ![1, 1024, 9248]⟩
abbrev S1x128x15x1024 : Shape := ⟨4, ![1, 128, 15, 1024]⟩
abbrev S1024x9248 : Shape := ⟨2, ![1024, 9248]⟩
abbrev S1024x1024 : Shape := ⟨2, ![1024, 1024]⟩
abbrev S_ : Shape := ⟨0, ![]⟩
abbrev S8x15x1024 : Shape := ⟨3, ![8, 15, 1024]⟩
abbrev S8x2063x1024 : Shape := ⟨3, ![8, 2063, 1024]⟩
abbrev S128x15x1024 : Shape := ⟨3, ![128, 15, 1024]⟩
abbrev S128x23x1024 : Shape := ⟨3, ![128, 23, 1024]⟩
abbrev S1x8x15x1024 : Shape := ⟨4, ![1, 8, 15, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024x9248, .f32⟩
  | .hbm, ⟨3, _⟩ => ⟨S1x128x15x1024, .f32⟩
  | .hbm, ⟨4, _⟩ => ⟨S1024x9248, .f32⟩
  | .hbm, ⟨5, _⟩ => ⟨S1024x1024, .f32⟩
  | .hbm, ⟨6, _⟩ => ⟨S_, .f32⟩
  | .hbm, ⟨7, _⟩ => ⟨S8x15x1024, .f32⟩
  | .hbm, ⟨8, _⟩ => ⟨S8x2048x1024, .f32⟩
  | .hbm, ⟨9, _⟩ => ⟨S8x2063x1024, .f32⟩
  | .hbm, ⟨10, _⟩ => ⟨S128x15x1024, .f32⟩
  | .hbm, ⟨11, _⟩ => ⟨S128x8x1024, .f32⟩
  | .hbm, ⟨12, _⟩ => ⟨S128x23x1024, .f32⟩
  | .hbm, ⟨13, _⟩ => ⟨S8x15x1024, .f32⟩
  | .hbm, ⟨14, _⟩ => ⟨S1x8x15x1024, .f32⟩
  | .hbm, ⟨15, _⟩ => ⟨S128x15x1024, .f32⟩
  | .hbm, ⟨16, _⟩ => ⟨S1x128x15x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== PoolFresh.lean ====
abbrev S17408x9216 : Shape := ⟨2, ![17408, 9216]⟩
abbrev S16384x1024 : Shape := ⟨2, ![16384, 1024]⟩
abbrev S2048x1024 : Shape := ⟨2, ![2048, 1024]⟩
abbrev S16x1024 : Shape := ⟨2, ![16, 1024]⟩
abbrev S2048x1 : Shape := ⟨2, ![2048, 1]⟩
abbrev S2064x1024 : Shape := ⟨2, ![2064, 1024]⟩
abbrev S2064x256 : Shape := ⟨2, ![2064, 256]⟩
abbrev S2048x256 : Shape := ⟨2, ![2048, 256]⟩

abbrev nBuf : Space → Nat
  | .hbm => 2
  | .vmem => 5
  | .smem => 0
  | _ => 0

abbrev bufTy : (tb : Table) → Fin (tcTables nBuf tb) → BufTy
  | .hbm, ⟨0, _⟩ => ⟨S17408x9216, .bf16⟩
  | .hbm, ⟨1, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S16x1024, .f32⟩
  | _, _ => ⟨S17408x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c6_i32 : BitVec 32 := 6#32
  let c0_i32_0 : BitVec 32 := 0#32
  ![v2.toNat, c6_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PoolFreshReferenceIdeal.lean ====
abbrev S17408x9216 : Shape := ⟨2, ![17408, 9216]⟩
abbrev S16384x1024 : Shape := ⟨2, ![16384, 1024]⟩
abbrev S8x2048x1024 : Shape := ⟨3, ![8, 2048, 1024]⟩
abbrev S_ : Shape := ⟨0, ![]⟩
abbrev S8x15x1024 : Shape := ⟨3, ![8, 15, 1024]⟩
abbrev S8x2063x1024 : Shape := ⟨3, ![8, 2063, 1024]⟩
abbrev S2048 : Shape := ⟨1, ![2048]⟩
abbrev S1x2048x1 : Shape := ⟨3, ![1, 2048, 1]⟩
abbrev S8x2048x256 : Shape := ⟨3, ![8, 2048, 256]⟩

abbrev nBuf : Space → Nat
  | .hbm => 112
  | .vmem => 0
  | .smem => 0
  | _ => 0

abbrev bufTy : (tb : Table) → Fin (tcTables nBuf tb) → BufTy
  | .hbm, ⟨0, _⟩ => ⟨S17408x9216, .bf16⟩
  | .hbm, ⟨1, _⟩ => ⟨S16384x1024, .bf16⟩
  | .hbm, ⟨2, _⟩ => ⟨S16384x1024, .f32⟩
  | .hbm, ⟨3, _⟩ => ⟨S8x2048x1024, .f32⟩
  | .hbm, ⟨4, _⟩ => ⟨S_, .f32⟩
  | .hbm, ⟨5, _⟩ => ⟨S8x15x1024, .f32⟩
  | .hbm, ⟨6, _⟩ => ⟨S8x2063x1024, .f32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .f32⟩
  | .hbm, ⟨12, _⟩ => ⟨S1x2048x1, .f32⟩
  | .hbm, ⟨13, _⟩ => ⟨S8x2048x256, .f32⟩
  | .hbm, ⟨14, _⟩ => ⟨S_, .f32⟩
  | .hbm, ⟨15, _⟩ => ⟨S8x2048x256, .f32⟩
  | .hbm, ⟨16, _⟩ => ⟨S8x2048x256, .f32⟩
  | .hbm, ⟨17, _⟩ => ⟨S8x2048x256, .f32⟩
  | .hbm, ⟨18, _⟩ => ⟨S8x2048x256, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S_, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S8x2048x256, .f32⟩
  | .hbm, ⟨33, _⟩ => ⟨S8x2048x256, .f32⟩
  | .hbm, ⟨34, _⟩ => ⟨S8x2048x256, .f32⟩
  | .hbm, ⟨35, _⟩ => ⟨S8x2048x256, .f32⟩
  | .hbm, ⟨36, _⟩ => ⟨S_, .f32⟩
  | .hbm, ⟨37, _⟩ => ⟨S1x2048x1, .f32⟩
  | .hbm, ⟨38, _⟩ => ⟨S1x2048x1, .f32⟩
  | .hbm, ⟨39, _⟩ => ⟨S8x2048x256, .f32⟩
  | .hbm, ⟨40, _⟩ => ⟨S8x2048x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S_, .f32⟩
  | .hbm, ⟨45, _⟩ => ⟨S8x2048x256, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S8x2048x256, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S8x2048x256, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S8x2048x256, .f32⟩
  | .hbm, ⟨65, _⟩ => ⟨S8x2048x256, .f32⟩
  | .hbm, ⟨66, _⟩ => ⟨S8x2048x256, .f32⟩
  | .hbm, ⟨67, _⟩ => ⟨S8x2048x256, .f32⟩
  | .hbm, ⟨68, _⟩ => ⟨S8x2048x256, .f32⟩
  | .hbm, ⟨69, _⟩ => ⟨S_, .f32⟩
  | .hbm, ⟨70, _⟩ => ⟨S8x2048x256, .f32⟩
  | .hbm, ⟨71, _⟩ => ⟨S8x2048x256, .f32⟩
  | .hbm, ⟨72, _⟩ => ⟨S8x2048x256, .f32⟩
  | .hbm, ⟨73, _⟩ => ⟨S8x2048x256, .f32⟩
  | .hbm, ⟨74, _⟩ => ⟨S8x2048x256, .f32⟩
  | .hbm, ⟨75, _⟩ => ⟨S8x2048x256, .f32⟩
  | .hbm, ⟨76, _⟩ => ⟨S8x2048x256, .f32⟩
  | .hbm, ⟨77, _⟩ => ⟨S8x2048x256, .f32⟩
  | .hbm, ⟨78, _⟩ => ⟨S8x2048x256, .f32⟩
  | .hbm, ⟨79, _⟩ => ⟨S8x2048x256, .f32⟩
  | .hbm, ⟨80, _⟩ => ⟨S8x2048x256, .f32⟩
  | .hbm, ⟨81, _⟩ => ⟨S8x2048x256, .f32⟩
  | .hbm, ⟨82, _⟩ => ⟨S8x2048x256, .f32⟩
  | .hbm, ⟨83, _⟩ => ⟨S8x2048x256, .f32⟩
  | .hbm, ⟨84, _⟩ => ⟨S8x2048x256, .f32⟩
  | .hbm, ⟨85, _⟩ => ⟨S8x2048x256, .f32⟩
  | .hbm, ⟨86, _⟩ => ⟨S8x2048x256, .f32⟩
  | .hbm, ⟨87, _⟩ => ⟨S8x2048x256, .f32⟩
  | .hbm, ⟨88, _⟩ => ⟨S8x2048x256, .f32⟩
  | .hbm, ⟨89, _⟩ => ⟨S8x2048x256, .f32⟩
  | .hbm, ⟨90, _⟩ => ⟨S8x2048x256, .f32⟩
  | .hbm, ⟨91, _⟩ => ⟨S8x2048x256, .f32⟩
  | .hbm, ⟨92, _⟩ => ⟨S8x2048x256, .f32⟩
  | .hbm, ⟨93, _⟩ => ⟨S8x2048x256, .f32⟩
  | .hbm, ⟨94, _⟩ => ⟨S8x2048x256, .f32⟩
  | .hbm, ⟨95, _⟩ => ⟨S8x2048x256, .f32⟩
  | .hbm, ⟨96, _⟩ => ⟨S8x2048x256, .f32⟩
  | .hbm, ⟨97, _⟩ => ⟨S8x2048x256, .f32⟩
  | .hbm, ⟨98, _⟩ => ⟨S8x2048x256, .f32⟩
  | .hbm, ⟨99, _⟩ => ⟨S8x2048x256, .f32⟩
  | .hbm, ⟨100, _⟩ => ⟨S8x2048x256, .f32⟩
  | .hbm, ⟨101, _⟩ => ⟨S8x2048x256, .f32⟩
  | .hbm, ⟨102, _⟩ => ⟨S_, .f32⟩
  | .hbm, ⟨103, _⟩ => ⟨S1x2048x1, .f32⟩
  | .hbm, ⟨104, _⟩ => ⟨S1x2048x1, .f32⟩
  | .hbm, ⟨105, _⟩ => ⟨S8x2048x256, .f32⟩
  | .hbm, ⟨106, _⟩ => ⟨S8x2048x256, .f32⟩
  | .hbm, ⟨107, _⟩ => ⟨S8x2048x256, .f32⟩
  | .hbm, ⟨108, _⟩ => ⟨S8x2048x256, .f32⟩
  | .hbm, ⟨109, _⟩ => ⟨S8x2048x1024, .f32⟩
  | .hbm, ⟨110, _⟩ => ⟨S16384x1024, .f32⟩
  | .hbm, ⟨111, _⟩ => ⟨S16384x1024, .bf16⟩
  | _, _ => ⟨S17408x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_5 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_6 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_7 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩

abbrev nD : Nat := 1
abbrev τ : Topo := Topo.v7x

variable {F : FTy → Type} [FloatOps F]
-- ==== PoolState.lean ====
abbrev S17408x9216 : Shape := ⟨2, ![17408, 9216]⟩
abbrev S128x15x1024 : Shape := ⟨3, ![128, 15, 1024]⟩
abbrev S1024x1024 : Shape := ⟨2, ![1024, 1024]⟩
abbrev S128x1024 : Shape := ⟨2, ![128, 1024]⟩
abbrev S16x15x1024 : Shape := ⟨3, ![16, 15, 1024]⟩
abbrev S256x1024 : Shape := ⟨2, ![256, 1024]⟩
abbrev S1x15x1024 : Shape := ⟨3, ![1, 15, 1024]⟩
abbrev S15x1024 : Shape := ⟨2, ![15, 1024]⟩
abbrev S8x1 : Shape := ⟨2, ![8, 1]⟩
abbrev S8x1024 : Shape := ⟨2, ![8, 1024]⟩
abbrev S16x1024 : Shape := ⟨2, ![16, 1024]⟩
abbrev S24x1024 : Shape := ⟨2, ![24, 1024]⟩
abbrev S24x256 : Shape := ⟨2, ![24, 256]⟩
abbrev S8x256 : Shape := ⟨2, ![8, 256]⟩

abbrev nBuf : Space → Nat
  | .hbm => 3
  | .vmem => 7
  | .smem => 0
  | _ => 0

abbrev bufTy : (tb : Table) → Fin (tcTables nBuf tb) → BufTy
  | .hbm, ⟨0, _⟩ => ⟨S17408x9216, .bf16⟩
  | .hbm, ⟨1, _⟩ => ⟨S128x15x1024, .f32⟩
  | .hbm, ⟨2, _⟩ => ⟨S1024x1024, .bf16⟩
  | .local _ .vmem, ⟨0, _⟩ => ⟨S128x1024, .bf16⟩
  | .local _ .vmem, ⟨1, _⟩ => ⟨S128x1024, .bf16⟩
  | .local _ .vmem, ⟨2, _⟩ => ⟨S16x15x1024, .f32⟩
  | .local _ .vmem, ⟨3, _⟩ => ⟨S16x15x1024, .f32⟩
  | .local _ .vmem, ⟨4, _⟩ => ⟨S128x1024, .bf16⟩
  | .local _ .vmem, ⟨5, _⟩ => ⟨S128x1024, .bf16⟩
  | .local _ .vmem, ⟨6, _⟩ => ⟨S256x1024, .f32⟩
  | _, _ => ⟨S17408x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c6_i32 : BitVec 32 := 6#32
  let c0_i32 : BitVec 32 := 0#32
  ![v2.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolStateReferenceIdeal.lean ====
abbrev S17408x9216 : Shape := ⟨2, ![17408, 9216]⟩
abbrev S128x15x1024 : Shape := ⟨3, ![128, 15, 1024]⟩
abbrev S1024x1024 : Shape := ⟨2, ![1024, 1024]⟩
abbrev S128x8x1024 : Shape := ⟨3, ![128, 8, 1024]⟩
abbrev S128x23x1024 : Shape := ⟨3, ![128, 23, 1024]⟩
abbrev S8 : Shape := ⟨1, ![8]⟩
abbrev S_ : Shape := ⟨0, ![]⟩
abbrev S1x8x1 : Shape := ⟨3, ![1, 8, 1]⟩
abbrev S128x8x256 : Shape := ⟨3, ![128, 8, 256]⟩

abbrev nBuf : Space → Nat
  | .hbm => 111
  | .vmem => 0
  | .smem => 0
  | _ => 0

abbrev bufTy : (tb : Table) → Fin (tcTables nBuf tb) → BufTy
  | .hbm, ⟨0, _⟩ => ⟨S17408x9216, .bf16⟩
  | .hbm, ⟨1, _⟩ => ⟨S128x15x1024, .f32⟩
  | .hbm, ⟨2, _⟩ => ⟨S1024x1024, .bf16⟩
  | .hbm, ⟨3, _⟩ => ⟨S1024x1024, .f32⟩
  | .hbm, ⟨4, _⟩ => ⟨S128x8x1024, .f32⟩
  | .hbm, ⟨5, _⟩ => ⟨S128x23x1024, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .f32⟩
  | .hbm, ⟨11, _⟩ => ⟨S1x8x1, .f32⟩
  | .hbm, ⟨12, _⟩ => ⟨S128x8x256, .f32⟩
  | .hbm, ⟨13, _⟩ => ⟨S_, .f32⟩
  | .hbm, ⟨14, _⟩ => ⟨S128x8x256, .f32⟩
  | .hbm, ⟨15, _⟩ => ⟨S128x8x256, .f32⟩
  | .hbm, ⟨16, _⟩ => ⟨S128x8x256, .f32⟩
  | .hbm, ⟨17, _⟩ => ⟨S128x8x256, .f32⟩
  | .hbm, ⟨18, _⟩ => ⟨S_, .f32⟩
  | .hbm, ⟨19, _⟩ => ⟨S1x8x1, .f32⟩
  | .hbm, ⟨20, _⟩ => ⟨S1x8x1, .f32⟩
  | .hbm, ⟨21, _⟩ => ⟨S128x8x256, .f32⟩
  | .hbm, ⟨22, _⟩ => ⟨S128x8x256, .f32⟩
  | .hbm, ⟨23, _⟩ => ⟨S128x8x256, .f32⟩
  | .hbm, ⟨24, _⟩ => ⟨S128x8x256, .f32⟩
  | .hbm, ⟨25, _⟩ => ⟨S128x8x256, .f32⟩
  | .hbm, ⟨26, _⟩ => ⟨S_, .f32⟩
  | .hbm, ⟨27, _⟩ => ⟨S128x8x256, .f32⟩
  | .hbm, ⟨28, _⟩ => ⟨S128x8x256, .f32⟩
  | .hbm, ⟨29, _⟩ => ⟨S128x8x256, .f32⟩
  | .hbm, ⟨30, _⟩ => ⟨S128x8x256, .f32⟩
  | .hbm, ⟨31, _⟩ => ⟨S128x8x256, .f32⟩
  | .hbm, ⟨32, _⟩ => ⟨S128x8x256, .f32⟩
  | .hbm, ⟨33, _⟩ => ⟨S128x8x256, .f32⟩
  | .hbm, ⟨34, _⟩ => ⟨S128x8x256, .f32⟩
  | .hbm, ⟨35, _⟩ => ⟨S_, .f32⟩
  | .hbm, ⟨36, _⟩ => ⟨S1x8x1, .f32⟩
  | .hbm, ⟨37, _⟩ => ⟨S1x8x1, .f32⟩
  | .hbm, ⟨38, _⟩ => ⟨S128x8x256, .f32⟩
  | .hbm, ⟨39, _⟩ => ⟨S128x8x256, .f32⟩
  | .hbm, ⟨40, _⟩ => ⟨S128x8x256, .f32⟩
  | .hbm, ⟨41, _⟩ => ⟨S128x8x256, .f32⟩
  | .hbm, ⟨42, _⟩ => ⟨S128x8x256, .f32⟩
  | .hbm, ⟨43, _⟩ => ⟨S_, .f32⟩
  | .hbm, ⟨44, _⟩ => ⟨S128x8x256, .f32⟩
  | .hbm, ⟨45, _⟩ => ⟨S128x8x256, .f32⟩
  | .hbm, ⟨46, _⟩ => ⟨S128x8x256, .f32⟩
  | .hbm, ⟨47, _⟩ => ⟨S128x8x256, .f32⟩
  | .hbm, ⟨48, _⟩ => ⟨S128x8x256, .f32⟩
  | .hbm, ⟨49, _⟩ => ⟨S128x8x256, .f32⟩
  | .hbm, ⟨50, _⟩ => ⟨S128x8x256, .f32⟩
  | .hbm, ⟨51, _⟩ => ⟨S128x8x256, .f32⟩
  | .hbm, ⟨52, _⟩ => ⟨S128x8x256, .f32⟩
  | .hbm, ⟨53, _⟩ => ⟨S128x8x256, .f32⟩
  | .hbm, ⟨54, _⟩ => ⟨S128x8x256, .f32⟩
  | .hbm, ⟨55, _⟩ => ⟨S128x8x256, .f32⟩
  | .hbm, ⟨56, _⟩ => ⟨S128x8x256, .f32⟩
  | .hbm, ⟨57, _⟩ => ⟨S128x8x256, .f32⟩
  | .hbm, ⟨58, _⟩ => ⟨S128x8x256, .f32⟩
  | .hbm, ⟨59, _⟩ => ⟨S128x8x256, .f32⟩
  | .hbm, ⟨60, _⟩ => ⟨S_, .f32⟩
  | .hbm, ⟨61, _⟩ => ⟨S1x8x1, .f32⟩
  | .hbm, ⟨62, _⟩ => ⟨S1x8x1, .f32⟩
  | .hbm, ⟨63, _⟩ => ⟨S128x8x256, .f32⟩
  | .hbm, ⟨64, _⟩ => ⟨S128x8x256, .f32⟩
  | .hbm, ⟨65, _⟩ => ⟨S128x8x256, .f32⟩
  | .hbm, ⟨66, _⟩ => ⟨S128x8x256, .f32⟩
  | .hbm, ⟨67, _⟩ => ⟨S128x8x256, .f32⟩
  | .hbm, ⟨68, _⟩ => ⟨S_, .f32⟩
  | .hbm, ⟨69, _⟩ => ⟨S128x8x256, .f32⟩
  | .hbm, ⟨70, _⟩ => ⟨S128x8x256, .f32⟩
  | .hbm, ⟨71, _⟩ => ⟨S128x8x256, .f32⟩
  | .hbm, ⟨72, _⟩ => ⟨S128x8x256, .f32⟩
  | .hbm, ⟨73, _⟩ => ⟨S128x8x256, .f32⟩
  | .hbm, ⟨74, _⟩ => ⟨S128x8x256, .f32⟩
  | .hbm, ⟨75, _⟩ => ⟨S128x8x256, .f32⟩
  | .hbm, ⟨76, _⟩ => ⟨S128x8x256, .f32⟩
  | .hbm, ⟨77, _⟩ => ⟨S128x8x256, .f32⟩
  | .hbm, ⟨78, _⟩ => ⟨S128x8x256, .f32⟩
  | .hbm, ⟨79, _⟩ => ⟨S128x8x256, .f32⟩
  | .hbm, ⟨80, _⟩ => ⟨S128x8x256, .f32⟩
  | .hbm, ⟨81, _⟩ => ⟨S128x8x256, .f32⟩
  | .hbm, ⟨82, _⟩ => ⟨S128x8x256, .f32⟩
  | .hbm, ⟨83, _⟩ => ⟨S128x8x256, .f32⟩
  | .hbm, ⟨84, _⟩ => ⟨S128x8x256, .f32⟩
  | .hbm, ⟨85, _⟩ => ⟨S128x8x256, .f32⟩
  | .hbm, ⟨86, _⟩ => ⟨S128x8x256, .f32⟩
  | .hbm, ⟨87, _⟩ => ⟨S128x8x256, .f32⟩
  | .hbm, ⟨88, _⟩ => ⟨S128x8x256, .f32⟩
  | .hbm, ⟨89, _⟩ => ⟨S128x8x256, .f32⟩
  | .hbm, ⟨90, _⟩ => ⟨S128x8x256, .f32⟩
  | .hbm, ⟨91, _⟩ => ⟨S128x8x256, .f32⟩
  | .hbm, ⟨92, _⟩ => ⟨S128x8x256, .f32⟩
  | .hbm, ⟨93, _⟩ => ⟨S128x8x256, .f32⟩
  | .hbm, ⟨94, _⟩ => ⟨S128x8x256, .f32⟩
  | .hbm, ⟨95, _⟩ => ⟨S128x8x256, .f32⟩
  | .hbm, ⟨96, _⟩ => ⟨S128x8x256, .f32⟩
  | .hbm, ⟨97, _⟩ => ⟨S128x8x256, .f32⟩
  | .hbm, ⟨98, _⟩ => ⟨S128x8x256, .f32⟩
  | .hbm, ⟨99, _⟩ => ⟨S128x8x256, .f32⟩
  | .hbm, ⟨100, _⟩ => ⟨S128x8x256, .f32⟩
  | .hbm, ⟨101, _⟩ => ⟨S_, .f32⟩
  | .hbm, ⟨102, _⟩ => ⟨S1x8x1, .f32⟩
  | .hbm, ⟨103, _⟩ => ⟨S1x8x1, .f32⟩
  | .hbm, ⟨104, _⟩ => ⟨S128x8x256, .f32⟩
  | .hbm, ⟨105, _⟩ => ⟨S128x8x256, .f32⟩
  | .hbm, ⟨106, _⟩ => ⟨S128x8x256, .f32⟩
  | .hbm, ⟨107, _⟩ => ⟨S128x8x256, .f32⟩
  | .hbm, ⟨108, _⟩ => ⟨S128x8x1024, .f32⟩
  | .hbm, ⟨109, _⟩ => ⟨S1024x1024, .f32⟩
  | .hbm, ⟨110, _⟩ => ⟨S1024x1024, .bf16⟩
  | _, _ => ⟨S17408x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_6 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩

abbrev nD : Nat := 1
abbrev τ : Topo := Topo.v7x

variable {F : FTy → Type} [FloatOps F]
-- ==== Dispatch.lean ====
abbrev S8x17408 : Shape := ⟨2, ![8, 17408]⟩
abbrev S256x1 : Shape := ⟨2, ![256, 1]⟩
abbrev S2x8x17408 : Shape := ⟨3, ![2, 8, 17408]⟩
abbrev S8x1024 : Shape := ⟨2, ![8, 1024]⟩
abbrev S2x8x1024 : Shape := ⟨3, ![2, 8, 1024]⟩
abbrev S256x1024 : Shape := ⟨2, ![256, 1024]⟩
abbrev S1x1024 : Shape := ⟨2, ![1, 1024]⟩
abbrev S1024 : Shape := ⟨1, ![1024]⟩
abbrev S1x8x1024 : Shape := ⟨3, ![1, 8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x17408, .i32⟩
  | .hbm, ⟨1, _⟩ => ⟨S8x17408, .i32⟩
  | .hbm, ⟨2, _⟩ => ⟨S256x1, .f32⟩
  | .hbm, ⟨3, _⟩ => ⟨S2x8x17408, .i32⟩
  | .local _ .vmem, ⟨0, _⟩ => ⟨S8x1024, .i32⟩
  | .local _ .vmem, ⟨1, _⟩ => ⟨S8x1024, .i32⟩
  | .local _ .vmem, ⟨2, _⟩ => ⟨S8x1024, .i32⟩
  | .local _ .vmem, ⟨3, _⟩ => ⟨S8x1024, .i32⟩
  | .local _ .vmem, ⟨4, _⟩ => ⟨S256x1, .f32⟩
  | .local _ .vmem, ⟨5, _⟩ => ⟨S2x8x1024, .i32⟩
  | .local _ .vmem, ⟨6, _⟩ => ⟨S2x8x1024, .i32⟩
  | _, _ => ⟨S8x17408, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DispatchReferenceIdeal.lean ====
abbrev S8x17408 : Shape := ⟨2, ![8, 17408]⟩
abbrev S256x1 : Shape := ⟨2, ![256, 1]⟩
abbrev S256 : Shape := ⟨1, ![256]⟩
abbrev S8x17408x1 : Shape := ⟨3, ![8, 17408, 1]⟩
abbrev S1 : Shape := ⟨1, ![1]⟩
abbrev S_ : Shape := ⟨0, ![]⟩
abbrev S1x1x1 : Shape := ⟨3, ![1, 1, 1]⟩
abbrev S1x8x17408 : Shape := ⟨3, ![1, 8, 17408]⟩
abbrev S2x8x17408 : Shape := ⟨3, ![2, 8, 17408]⟩

abbrev nBuf : Space → Nat
  | .hbm => 30
  | .vmem => 0
  | .smem => 0
  | _ => 0

abbrev bufTy : (tb : Table) → Fin (tcTables nBuf tb) → BufTy
  | .hbm, ⟨0, _⟩ => ⟨S8x17408, .i32⟩
  | .hbm, ⟨1, _⟩ => ⟨S8x17408, .i32⟩
  | .hbm, ⟨2, _⟩ => ⟨S256x1, .f32⟩
  | .hbm, ⟨3, _⟩ => ⟨S256, .f32⟩
  | .hbm, ⟨4, _⟩ => ⟨S8x17408x1, .i32⟩
  | .hbm, ⟨5, _⟩ => ⟨S1, .i32⟩
  | .hbm, ⟨6, _⟩ => ⟨S_, .i32⟩
  | .hbm, ⟨7, _⟩ => ⟨S8x17408x1, .i32⟩
  | .hbm, ⟨8, _⟩ => ⟨S8x17408x1, .i1⟩
  | .hbm, ⟨9, _⟩ => ⟨S1x1x1, .i32⟩
  | .hbm, ⟨10, _⟩ => ⟨S8x17408x1, .i32⟩
  | .hbm, ⟨11, _⟩ => ⟨S8x17408x1, .i1⟩
  | .hbm, ⟨12, _⟩ => ⟨S8x17408x1, .i1⟩
  | .hbm, ⟨13, _⟩ => ⟨S_, .i1⟩
  | .hbm, ⟨14, _⟩ => ⟨S8x17408, .i1⟩
  | .hbm, ⟨15, _⟩ => ⟨S8x17408, .f32⟩
  | .hbm, ⟨16, _⟩ => ⟨S_, .f32⟩
  | .hbm, ⟨17, _⟩ => ⟨S8x17408, .f32⟩
  | .hbm, ⟨18, _⟩ => ⟨S8x17408, .f32⟩
  | .hbm, ⟨19, _⟩ => ⟨S8x17408, .i32⟩
  | .hbm, ⟨20, _⟩ => ⟨S8x17408, .i32⟩
  | .hbm, ⟨21, _⟩ => ⟨S_, .i32⟩
  | .hbm, ⟨22, _⟩ => ⟨S8x17408, .i32⟩
  | .hbm, ⟨23, _⟩ => ⟨S8x17408, .i32⟩
  | .hbm, ⟨24, _⟩ => ⟨S_, .i32⟩
  | .hbm, ⟨25, _⟩ => ⟨S8x17408, .i32⟩
  | .hbm, ⟨26, _⟩ => ⟨S8x17408, .i32⟩
  | .hbm, ⟨27, _⟩ => ⟨S1x8x17408, .i32⟩
  | .hbm, ⟨28, _⟩ => ⟨S1x8x17408, .i32⟩
  | .hbm, ⟨29, _⟩ => ⟨S2x8x17408, .i32⟩
  | _, _ => ⟨S8x17408, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.TakeRows.lean ====
/- Rows taken by number: what `jnp.take(x, rows, axis=0)` holds where the row numbers are known and in range. -/
module

public import Idealize.ShloMosaic.Lib.Routing.Ops
public import Idealize.ShloMosaic.Lib.ReduceAll
public import Idealize.ShloMosaic.Lib.Pointwise
public import Idealize.ShloMosaic.Lib.Tactic.WordOmega

@[expose] public section

noncomputable section

open Idealize.ShloMosaic

namespace Cert.TakeRows

/-- A row number below `N` is not moved by the wrap of negative numbers. -/
theorem wrap_word (N v : ℕ) (hN : N < 2 ^ 31) (hv : v < N) (w : BitVec 32) (hw : w = BitVec.ofNat 32 v) :
    Scalar.select (IntOp.cmpi .slt w 0#32) (IntOp.addi w (BitVec.ofNat 32 N)) w = BitVec.ofNat 32 v := by
  subst hw; word_omega

/-- A row number below `N` passes the test from below. -/
theorem ge_word (N v : ℕ) (hN : N < 2 ^ 31) (hv : v < N) : IntOp.cmpi .sge (BitVec.ofNat 32 v) 0#32 = 1#1 := by
  word_omega

/-- A row number below `N` passes the test from above. -/
theorem le_word (N v : ℕ) (hN : N < 2 ^ 31) (hv : v < N) : IntOp.cmpi .sle (BitVec.ofNat 32 v) (BitVec.ofNat 32 (N - 1)) = 1#1 := by
  word_omega

/-- A row number computed in words: block `b` of `L` rows, from row `o` on, the `j`-th. -/
theorem row_word (b L o j : ℕ) : IntOp.addi (IntOp.addi (IntOp.muli (BitVec.ofNat 32 b) (BitVec.ofNat 32 L)) (BitVec.ofNat 32 o)) (BitVec.ofNat 32 j)
    = BitVec.ofNat 32 (b * L + o + j) := by
  simp only [IntOp.addi, IntOp.muli, BitVec.ofNat_add, BitVec.ofNat_mul]

variable {N D n : ℕ}

/-- A vector stretched over the columns holds at `(i, k)` its entry `i`. -/
theorem stretch_at {α : Type} (h : (⟨1, ![n]⟩ : Shape).BroadcastsInDim ⟨2, ![n, D]⟩ ![0]) (v : (⟨1, ![n]⟩ : Shape).Idx → α) (i : Fin n) (k : Fin D) :
    broadcastInDim ⟨2, ![n, D]⟩ ![0] h v (ix2 i k) = v (ix1 i) := by
  unfold broadcastInDim
  refine congrArg v (funext fun a => Fin.ext ?_)
  obtain rfl : a = 0 := Subsingleton.elim _ _
  have hi : i.val < n := i.isLt
  split
  · rename_i h1
    have h1 : n = 1 := h1
    show 0 = i.val
    omega
  · rfl

/-- The row numbers after the wrap, as a column. -/
abbrev column (n N : ℕ) (w : IVec ⟨1, ![n]⟩ 32) (h1 : (⟨0, ![]⟩ : Shape).BroadcastsInDim ⟨1, ![n]⟩ ![])
    (h2 : (⟨1, ![n]⟩ : Shape).BroadcastsInDim ⟨2, ![n, 1]⟩ ![0]) : IVec ⟨2, ![n, 1]⟩ 32 :=
  broadcastInDim ⟨2, ![n, 1]⟩ ![0] h2 (select (cmpi .slt w (broadcastInDim ⟨1, ![n]⟩ ![] h1 (constantI ⟨0, ![]⟩ 32 0#32)))
    (addi w (broadcastInDim ⟨1, ![n]⟩ ![] h1 (constantI ⟨0, ![]⟩ 32 (BitVec.ofNat 32 N)))) w)

/-- The wrap leaves row numbers below `N` as they are. -/
theorem column_at (hN : N < 2 ^ 31) (w : IVec ⟨1, ![n]⟩ 32) (f : Fin n → Fin N) (hw : ∀ i, w (ix1 i) = BitVec.ofNat 32 (f i).val) (h1) (h2)
    (i : Fin n) (z : Fin 1) : column n N w h1 h2 (ix2 i z) = BitVec.ofNat 32 (f i).val := by
  refine (stretch_at h2 _ i z).trans ?_
  pointwise
  exact wrap_word N _ hN (f i).isLt _ (hw i)

/-- The taken rows: the mask of the numbers in range passes everywhere, and the gather reads the row named. -/
theorem take_at (hN : N < 2 ^ 31) (d : GatherDims ⟨2, ![N, D]⟩ ⟨2, ![n, 1]⟩ ⟨2, ![n, D]⟩) (hoff : d.offsetDims = [1])
    (hcoll : d.collapsedSliceDims = [0]) (hob : d.operandBatchingDims = []) (hsim : d.startIndexMap = [0]) (hivd : d.indexVectorDim = 1)
    (x : FVec Ideal ⟨2, ![N, D]⟩ .f32) (w : IVec ⟨1, ![n]⟩ 32) (f : Fin n → Fin N) (hw : ∀ i, w (ix1 i) = BitVec.ofNat 32 (f i).val)
    (h1) (h2) (h3 : (⟨0, ![]⟩ : Shape).BroadcastsInDim ⟨2, ![n, 1]⟩ ![]) (h4 : (⟨1, ![1]⟩ : Shape).BroadcastsInDim ⟨2, ![1, 1]⟩ ![1])
    (h5 : (⟨2, ![1, 1]⟩ : Shape).BroadcastsInDim ⟨2, ![n, 1]⟩ ![0, 1]) (h6 : (⟨2, ![n, 1]⟩ : Shape).ReducesTo [1] ⟨1, ![n]⟩)
    (h7 : 0 < (⟨0, ![]⟩ : Shape).numel) (h8 : (⟨1, ![n]⟩ : Shape).BroadcastsInDim ⟨2, ![n, D]⟩ ![0]) (o : FVec Ideal ⟨2, ![n, D]⟩ .f32)
    (i : Fin n) (k : Fin D) :
    select (broadcastInDim ⟨2, ![n, D]⟩ ![0] h8 (Host.reduce IntOp.andi
        (andi (cmpi .sge (column n N w h1 h2) (broadcastInDim ⟨2, ![n, 1]⟩ ![] h3 (constantI ⟨0, ![]⟩ 32 0#32)))
          (cmpi .sle (column n N w h1 h2) (broadcastInDim ⟨2, ![n, 1]⟩ ![0, 1] h5
            (broadcastInDim ⟨2, ![1, 1]⟩ ![1] h4 (constantI ⟨1, ![1]⟩ 32 (BitVec.ofNat 32 (N - 1)))))))
        (constantI ⟨0, ![]⟩ 1 1#1) h6 h7))
      (Host.gather d x (column n N w h1 h2)) o (ix2 i k) = x (ix2 (f i) k) := by
  have hr : Host.reduce IntOp.andi
        (andi (cmpi .sge (column n N w h1 h2) (broadcastInDim ⟨2, ![n, 1]⟩ ![] h3 (constantI ⟨0, ![]⟩ 32 0#32)))
          (cmpi .sle (column n N w h1 h2) (broadcastInDim ⟨2, ![n, 1]⟩ ![0, 1] h5
            (broadcastInDim ⟨2, ![1, 1]⟩ ![1] h4 (constantI ⟨1, ![1]⟩ 32 (BitVec.ofNat 32 (N - 1)))))))
        (constantI ⟨0, ![]⟩ 1 1#1) h6 h7 (ix1 i) = 1#1 := by
    refine Host.reduce_andi_one _ _ _ _ _ rfl fun q => ?_
    obtain ⟨a, b, rfl⟩ : ∃ (a : Fin n) (b : Fin 1), q = ix2 a b := ⟨q 0, q 1, by funext e; fin_cases e <;> rfl⟩
    have hc := column_at hN w f hw h1 h2 a b
    generalize column n N w h1 h2 = C at hc ⊢
    pointwise
    rw [hc, ge_word N _ hN (f a).isLt, le_word N _ hN (f a).isLt]
    rfl
  have hg := Routing.gather_row d hoff hcoll hob hsim hivd x (column n N w h1 h2) i k (f i) (column_at hN w f hw h1 h2 i 0) hN
  generalize column n N w h1 h2 = C at hr hg ⊢
  generalize Host.gather d x C = G at hg ⊢
  generalize Host.reduce IntOp.andi _ _ h6 h7 = R at hr ⊢
  have hs := (stretch_at (D := D) h8 R i k).trans hr
  generalize broadcastInDim _ _ h8 R = S at hs ⊢
  pointwise
  rw [hs]
  exact hg

end Cert.TakeRows

end
-- ==== Proof.ConvRowsHost.lean ====
/- The operations before the product of the carried convolution rows: which rows and which weights the product is taken of. -/
module

public import proofs.«01_k».proof.Proof.Gen.ConvRowsIdeal
public import proofs.«01_k».proof.Proof.Gen.ConvRowsIdeal.Frame
public import proofs.«01_k».proof.Proof.TakeRows
public import Idealize.ShloMosaic.Lib.Pipeline.Value
public import Idealize.ShloMosaic.Lib.Pipeline.ValueKit
public import Idealize.ShloMosaic.Lib.StableHlo.ReadAt

@[expose] public section

noncomputable section
open Idealize.ShloMosaic Idealize.ShloMosaic.TcCoe Idealize.SL.Sem
open Idealize.ShloMosaic.StableHlo

namespace Cert.ConvRowsIdeal.Rows
open Cert.ConvRowsIdeal Cert.ConvRowsIdeal.Gen
variable (σ : Valuation τ sig (Elt Ideal))

/-- The weights without the two narrow bands: below column 6144 they are the argument's own columns. -/
theorem w_at (k : Fin 1024) (j : Fin 9216) (hj : j.val < 6144) : (after hostOps0 σ (Proc.devRef .tc main_v4) : FVec Ideal S1024x9216 .bf16) (ix2 k j)
    = (σ (Proc.devRef .tc main_arg2) : FVec Ideal S1x1024x9248 .f32) (ix3 0 k ⟨j.val, by omega⟩) := by
  unfold hostOps0
  after_reads_at
  rw [dif_pos hj]
  after_reads_at

/-- The row numbers asked of the prompts: the last three of each sequence. -/
theorem rows_p (i : Fin 24) : (after hostOps0 σ (Proc.devRef .tc main_v20) : IVec S24 32) (ix1 i) = BitVec.ofNat 32 (i.val / 3 * 2048 + 2045 + i.val % 3) := by
  unfold hostOps0
  after_reads_at
  exact TakeRows.row_word _ _ _ _

/-- The prompts' rows, taken by known row numbers. -/
theorem take_p (f : Fin 24 → Fin 16384) (hw : ∀ i, (σ (Proc.devRef .tc main_v20) : IVec S24 32) (ix1 i) = BitVec.ofNat 32 (f i).val) (i : Fin 24) (k : Fin 1024) :
    (after hostOps0_1 σ (Proc.devRef .tc main_v21) : FVec Ideal S24x1024 .f32) (ix2 i k)
      = (σ (Proc.devRef .tc main_v5) : FVec Ideal S16384x1024 .f32) (ix2 (f i) k) := by
  unfold hostOps0_1
  after_reads_simp
  all_goals try simp -implicitDefEqProofs only [StableHlo.TRef.toBuf, StableHlo.TRef.ofBuf, cast_cast, cast_eq]
  all_goals clean_types
  exact TakeRows.take_at (by decide) _ rfl rfl rfl rfl rfl _ _ f hw bcast_S_S24 bcast_S24_S24x1_0 bcast_S_S24x1 bcast_S1_S1x1_1 bcast_S1x1_S24x1_0_1
    reducesTo_S24x1_S24_d1 h_S_ bcast_S24_S24x1024_0 _ i k

/-- The rows below 408 are the joined ones; the padding is below them. -/
theorem pad_at (i : Fin 512) (k : Fin 1024) (hi : i.val < 408) : (after hostOps0_5 σ (Proc.devRef .tc main_v38) : FVec Ideal S512x1024 .bf16) (ix2 i k)
    = (σ (Proc.devRef .tc main_v37) : FVec Ideal S408x1024 .bf16) (ix2 ⟨i.val, hi⟩ k) := by
  unfold hostOps0_5
  after_reads_at
  rw [dif_pos hi]

/-- The prompts' 24 rows come first, then the samples' 384. -/
theorem cat_at (i : Fin 408) (k : Fin 1024) : (after hostOps0_4 σ (Proc.devRef .tc main_v37) : FVec Ideal S408x1024 .bf16) (ix2 i k)
    = if h : i.val < 24 then (σ (Proc.devRef .tc main_v22) : FVec Ideal S24x1024 .bf16) (ix2 ⟨i.val, h⟩ k) else (σ (Proc.devRef .tc main_v35) : FVec Ideal S384x1024 .f32) (ix2 ⟨i.val - 24, by omega⟩ k) := by
  unfold hostOps0_4
  after_reads_at

/-- The row numbers asked of the samples: the last three of each sequence. -/
theorem rows_s (i : Fin 384) : (after hostOps0_2 σ (Proc.devRef .tc main_v34) : IVec S384 32) (ix1 i) = BitVec.ofNat 32 (i.val / 3 * 8 + 5 + i.val % 3) := by
  unfold hostOps0_2
  after_reads_at
  exact TakeRows.row_word _ _ _ _

/-- The samples' rows, taken by known row numbers. -/
theorem take_s (f : Fin 384 → Fin 1024) (hw : ∀ i, (σ (Proc.devRef .tc main_v34) : IVec S384 32) (ix1 i) = BitVec.ofNat 32 (f i).val) (i : Fin 384) (k : Fin 1024) :
    (after hostOps0_3 σ (Proc.devRef .tc main_v35) : FVec Ideal S384x1024 .f32) (ix2 i k)
      = (σ (Proc.devRef .tc main_v6) : FVec Ideal S1024x1024 .f32) (ix2 (f i) k) := by
  unfold hostOps0_3
  after_reads_simp
  all_goals try simp -implicitDefEqProofs only [StableHlo.TRef.toBuf, StableHlo.TRef.ofBuf, cast_cast, cast_eq]
  all_goals clean_types
  exact TakeRows.take_at (by decide) _ rfl rfl rfl rfl rfl _ _ f hw bcast_S_S384 bcast_S384_S384x1_0 bcast_S_S384x1 bcast_S1_S1x1_1 bcast_S1x1_S384x1_0_1
    reducesTo_S384x1_S384_d1 h_S_ bcast_S384_S384x1024_0 _ i k

/-- The prompts laid out as one list of rows. -/
theorem prompt_at (i : Fin 16384) (k : Fin 1024) : (after hostOps0 σ (Proc.devRef .tc main_v5) : FVec Ideal S16384x1024 .f32) (ix2 i k)
    = (σ (Proc.devRef .tc main_arg0) : FVec Ideal S8x2048x1024 .f32) (ix3 ⟨i.val / 2048, by omega⟩ ⟨i.val % 2048, by omega⟩ k) := by
  unfold hostOps0
  after_reads_at

/-- The samples laid out as one list of rows. -/
theorem sample_at (i : Fin 1024) (k : Fin 1024) : (after hostOps0 σ (Proc.devRef .tc main_v6) : FVec Ideal S1024x1024 .f32) (ix2 i k)
    = (σ (Proc.devRef .tc main_arg1) : FVec Ideal S128x8x1024 .f32) (ix3 ⟨i.val / 8, by omega⟩ ⟨i.val % 8, by omega⟩ k) := by
  unfold hostOps0
  after_reads_at

/-- The samples' rows are not written while the prompts' rows are taken. -/
theorem keep_v6 : after hostOps0_2 (after hostOps0_1 σ) (Proc.devRef .tc main_v6) = σ (Proc.devRef .tc main_v6) := by
  unfold hostOps0_2 hostOps0_1
  after_reads_simp

/-- The prompts' taken rows in the narrower format: the same extended reals. -/
theorem cast_p (i : Fin 24) (k : Fin 1024) : (after hostOps0_3 (after hostOps0_2 σ) (Proc.devRef .tc main_v22) : FVec Ideal S24x1024 .bf16) (ix2 i k)
    = (σ (Proc.devRef .tc main_v21) : FVec Ideal S24x1024 .f32) (ix2 i k) := by
  unfold hostOps0_3 hostOps0_2
  after_reads_at

/-- What the region starts from, one stretch of operations after another. -/
theorem stages (m : (ℓ : Loc nD τ sig) → Buf (Elt Ideal) ℓ) (c : Dev nD) : V0 m c = after hostOps0_5 (after hostOps0_4 (after hostOps0_3 (after hostOps0_2 (after hostOps0_1 (after hostOps0 fun b => m (c, b)))))) := rfl

/-- The weights are not written by any later stretch. -/
theorem keep_v4 : after hostOps0_5 (after hostOps0_4 (after hostOps0_3 (after hostOps0_2 (after hostOps0_1 σ)))) (Proc.devRef .tc main_v4) = σ (Proc.devRef .tc main_v4) := by
  unfold hostOps0_5 hostOps0_4 hostOps0_3 hostOps0_2 hostOps0_1
  after_reads_simp

/-- The rows that the product is taken of: each sequence's last three. -/
def row (m : (ℓ : Loc nD τ sig) → Buf (Elt Ideal) ℓ) (c : Dev nD) (i : Fin 408) (k : Fin 1024) : EReal :=
  if h : i.val < 24 then (m ((c.tc : Thread nD τ).loc main_arg0) : FVec Ideal S8x2048x1024 .f32) (ix3 ⟨i.val / 3, by omega⟩ ⟨2045 + i.val % 3, by omega⟩ k)
    else (m ((c.tc : Thread nD τ).loc main_arg1) : FVec Ideal S128x8x1024 .f32) (ix3 ⟨(i.val - 24) / 3, by omega⟩ ⟨5 + (i.val - 24) % 3, by omega⟩ k)

/-- The left operand of the product holds the carried rows. -/
theorem x_at (m : (ℓ : Loc nD τ sig) → Buf (Elt Ideal) ℓ) (c : Dev nD) (i : Fin 512) (k : Fin 1024) (hi : i.val < 408) :
    (V m c main_v38 : FVec Ideal S512x1024 .bf16) (ix2 i k) = row m c ⟨i.val, hi⟩ k := by
  unfold V
  rw [stages]
  refine (pad_at _ i k hi).trans ((cat_at _ _ k).trans ?_)
  unfold row
  by_cases h : i.val < 24
  · rw [dif_pos h, dif_pos h]
    refine (cast_p _ _ k).trans ((take_p _ (fun i => ⟨i.val / 3 * 2048 + 2045 + i.val % 3, by omega⟩) (rows_p _) _ k).trans ((prompt_at _ _ k).trans ?_))
    refine congrArg _ ?_
    congr 1 <;> exact Fin.ext (by dsimp only; omega)
  · rw [dif_neg h, dif_neg h]
    refine (take_s _ (fun i => ⟨i.val / 3 * 8 + 5 + i.val % 3, by omega⟩) (rows_s _) _ k).trans ((congrFun (keep_v6 _) _).trans ((sample_at _ _ k).trans ?_))
    refine congrArg _ ?_
    congr 1 <;> exact Fin.ext (by dsimp only; omega)

end Cert.ConvRowsIdeal.Rows

end
-- ==== Proof.ConvRowsValue.lean ====
/- The carried convolution rows: the product, the results cut from it, and the claim. -/
module

public import proofs.«01_k».proof.Proof.ConvRowsHost
public import proofs.«01_k».proof.Proof.Gen.ConvRowsIdeal.Points
public import proofs.«01_k».proof.Proof.Gen.ConvRowsReferenceIdeal
public import proofs.«01_k».proof.Proof.Gen.ConvRowsReferenceIdeal.Read
public import proofs.«01_k».proof.Proof.Gen.ConvRowsReferenceIdeal.Run
public import proofs.«01_k».proof.Defs

@[expose] public section

set_option maxRecDepth 16384
noncomputable section
open Idealize.ShloMosaic Idealize.ShloMosaic.TcCoe Idealize.SL.Sem
open Idealize.ShloMosaic.StableHlo
open Idealize.ShloMosaic.Pipeline (Dat)
open scoped BigOperators

namespace Cert.ConvRowsIdeal.Rows
open Cert.ConvRowsIdeal Cert.ConvRowsIdeal.Gen
variable (m : (ℓ : Loc nD τ sig) → Buf (Elt Ideal) ℓ)

/-- Which block of each array a step works on. -/
theorem idx : ∀ t : Fin cfg0.N, win0_0.index t = ![0, 0] ∧ win0_1.index t = ![0, t.val] ∧ win0_2.index t = ![0, t.val] ∧ t.val < 4 :=
  (by decide +kernel : ∀ t : Fin grid0.N, _)

/-- The rows times the first columns of the weights. -/
def mul (a : FVec Ideal S512x1024 .bf16) (b : FVec Ideal S1024x9216 .bf16) : FVec Ideal S512x4096 .f32 := fun y =>
  ∑ k : Fin 1024, a (ix2 (y 0) k) * b (ix2 k ⟨(y 1).val, by have : (y 1).val < 4096 := (y 1).isLt; omega⟩)

/-- The product the run forms, from what the region starts with. -/
def product (c : Dev nD) : FVec Ideal S512x4096 .f32 := mul (V m c main_v38) (V m c main_v4)

/-- One step: the product of the rows with one block of columns. -/
theorem pay_at (a : FVec Ideal S512x1024 .bf16) (b : FVec Ideal S1024x1024 .bf16) (y : S512x1024.Idx) :
    k0_pay1 (F := Ideal) a b y = ∑ k : Fin 1024, a (ix2 (y 0) k) * b (ix2 k (y 1)) := by
  pointwise [k0_pay1]

/-- The array of products, after all steps. -/
theorem final (c : Dev nD) : (dats m 0 c).arrAt 2 (cfgs 0).N = product m c := by
  refine (dats m 0 c).arrAt_eq_of_covers 2 _ (by decide +kernel) fun t hf y => ?_
  blk_simp; rw [after0_2]; frame_out
  refine (pay_at _ _ y).trans ?_
  unfold product mul
  blk_point [iblk, idx t]

/-- The first result is the first 24 rows of the products, three to a sequence. -/
theorem tail_p (σ : Valuation τ sig (Elt Ideal)) (z : Fin 1) (b : Fin 8) (r : Fin 3) (j : Fin 4096) :
    (after hostOps1 σ (Proc.devRef .tc main_v44) : FVec Ideal S1x8x3x4096 .f32) (ix4 z b r j)
      = (σ (Proc.devRef .tc main_v39) : FVec Ideal S512x4096 .f32) (ix2 ⟨b.val * 3 + r.val, by omega⟩ j) := by
  unfold hostOps1
  after_reads_at

/-- The second result is the next 384 rows of the products, three to a sequence. -/
theorem tail_s (σ : Valuation τ sig (Elt Ideal)) (z : Fin 1) (b : Fin 128) (r : Fin 3) (j : Fin 4096) :
    (after hostOps1 σ (Proc.devRef .tc main_v45) : FVec Ideal S1x128x3x4096 .f32) (ix4 z b r j)
      = (σ (Proc.devRef .tc main_v39) : FVec Ideal S512x4096 .f32) (ix2 ⟨24 + (b.val * 3 + r.val), by omega⟩ j) := by
  unfold hostOps1
  after_reads_at

/-- The reference's prompt rows: of the extended sequence the last three, which lie behind the zeros. -/
theorem ref_p (x : FVec Ideal S8x2048x1024 .f32) (w : FVec Ideal S1x1024x9248 .f32) (z : Fin 1) (b : Fin 8) (r : Fin 3) (j : Fin 4096) :
    Cert.ConvRowsReferenceIdeal.Read.val_main_v9 (F := Ideal) x w (ix4 z b r j)
      = ∑ k : Fin 1024, x (ix3 b ⟨2045 + r.val, by omega⟩ k) * w (ix3 0 k ⟨j.val, by omega⟩) := by
  pointwise [Cert.ConvRowsReferenceIdeal.Read.val_main_v9, Cert.ConvRowsReferenceIdeal.Read.val_main_v8, Cert.ConvRowsReferenceIdeal.Read.val_main_v4,
    Cert.ConvRowsReferenceIdeal.Read.val_main_v3, Cert.ConvRowsReferenceIdeal.Read.val_main_v2, Cert.ConvRowsReferenceIdeal.Read.val_main_v1, Cert.ConvRowsReferenceIdeal.Read.val_main_v0]
  rw [dif_neg (by omega)]
  refine Finset.sum_congr rfl fun k _ => ?_
  congr 2; congr 1; apply Fin.ext; show 2048 + r.val - 3 = 2045 + r.val; omega

/-- The reference's sample rows: of the extended sequence the last three, which lie behind the old state. -/
theorem ref_s (x : FVec Ideal S128x8x1024 .f32) (w : FVec Ideal S1x1024x9248 .f32) (o : FVec Ideal S1x128x3x4096 .f32) (z : Fin 1) (b : Fin 128) (r : Fin 3) (j : Fin 4096) :
    Cert.ConvRowsReferenceIdeal.Read.val_main_v11 (F := Ideal) x w o (ix4 z b r j)
      = ∑ k : Fin 1024, x (ix3 b ⟨5 + r.val, by omega⟩ k) * w (ix3 0 k ⟨j.val, by omega⟩) := by
  pointwise [Cert.ConvRowsReferenceIdeal.Read.val_main_v11, Cert.ConvRowsReferenceIdeal.Read.val_main_v10, Cert.ConvRowsReferenceIdeal.Read.val_main_v7,
    Cert.ConvRowsReferenceIdeal.Read.val_main_v6, Cert.ConvRowsReferenceIdeal.Read.val_main_v5, Cert.ConvRowsReferenceIdeal.Read.val_main_v1, Cert.ConvRowsReferenceIdeal.Read.val_main_v0]
  rw [dif_neg (by omega)]
  refine Finset.sum_congr rfl fun k _ => ?_
  congr 2; congr 1; apply Fin.ext; show 8 + r.val - 3 = 5 + r.val; omega

/-- The product of rows and columns at one place. -/
theorem mul_at (a : FVec Ideal S512x1024 .bf16) (b : FVec Ideal S1024x9216 .bf16) (i : Fin 512) (j : Fin 4096) :
    mul a b (ix2 i j) = ∑ k : Fin 1024, a (ix2 i k) * b (ix2 k ⟨j.val, by omega⟩) := rfl

/-- The weights that the product reads are the argument's. -/
theorem weight_at (c : Dev nD) (k : Fin 1024) (j : Fin 9216) (hj : j.val < 6144) :
    (V m c main_v4 : FVec Ideal S1024x9216 .bf16) (ix2 k j)
      = (m ((c.tc : Thread nD τ).loc main_arg2) : FVec Ideal S1x1024x9248 .f32) (ix3 0 k ⟨j.val, by omega⟩) := by
  unfold V
  rw [stages, keep_v4]
  exact w_at _ k j hj

/-- A row of the products, from the arguments. -/
theorem row_at (c : Dev nD) (i : Fin 408) (j : Fin 4096) :
    product m c (ix2 ⟨i.val, by omega⟩ j) = ∑ k : Fin 1024, row m c i k * (m ((c.tc : Thread nD τ).loc main_arg2) : FVec Ideal S1x1024x9248 .f32) (ix3 0 k ⟨j.val, by omega⟩) :=
  (mul_at _ _ _ j).trans (Finset.sum_congr rfl fun k _ =>
    congrArg₂ (fun a b : EReal => a * b) (x_at m c ⟨i.val, by omega⟩ k i.isLt) (weight_at m c k ⟨j.val, by omega⟩ (by show j.val < 6144; omega)))

/-- Row `3b + r` is row `2045 + r` of prompt `b`. -/
theorem prompt_row (c : Dev nD) (b : Fin 8) (r : Fin 3) (k : Fin 1024) (h : b.val * 3 + r.val < 408) :
    row m c ⟨b.val * 3 + r.val, h⟩ k = (m ((c.tc : Thread nD τ).loc main_arg0) : FVec Ideal S8x2048x1024 .f32) (ix3 b ⟨2045 + r.val, by omega⟩ k) := by
  unfold row
  rw [dif_pos (by show b.val * 3 + r.val < 24; omega)]
  congr 2 <;> apply Fin.ext
  · show (b.val * 3 + r.val) / 3 = b.val; omega
  · show 2045 + (b.val * 3 + r.val) % 3 = 2045 + r.val; omega

/-- Row `24 + 3b + r` is row `5 + r` of sample `b`. -/
theorem sample_row (c : Dev nD) (b : Fin 128) (r : Fin 3) (k : Fin 1024) (h : 24 + (b.val * 3 + r.val) < 408) :
    row m c ⟨24 + (b.val * 3 + r.val), h⟩ k = (m ((c.tc : Thread nD τ).loc main_arg1) : FVec Ideal S128x8x1024 .f32) (ix3 b ⟨5 + r.val, by omega⟩ k) := by
  unfold row
  rw [dif_neg (by show ¬ 24 + (b.val * 3 + r.val) < 24; omega)]
  congr 2 <;> apply Fin.ext
  · show (24 + (b.val * 3 + r.val) - 24) / 3 = b.val; omega
  · show 5 + (24 + (b.val * 3 + r.val) - 24) % 3 = 5 + r.val; omega

/-- The prompts' result equals the reference's. -/
theorem result_p (c : Dev nD) : (Pipeline.afterTail₀ cfgs (dats m) 0 (V0 m) [hostOps1] c main_v44 : FVec Ideal S1x8x3x4096 .f32)
    = Cert.ConvRowsReferenceIdeal.Read.val_main_v9 (F := Ideal) (m ((c.tc : Thread nD τ).loc main_arg0)) (m ((c.tc : Thread nD τ).loc main_arg2)) := by
  funext y
  obtain ⟨z, b, r, j, rfl⟩ : ∃ (z : Fin 1) (b : Fin 8) (r : Fin 3) (j : Fin 4096), y = ix4 z b r j := ⟨y 0, y 1, y 2, y 3, by funext i; fin_cases i <;> rfl⟩
  refine (tail_p _ z b r j).trans (Eq.trans ?_ (ref_p _ _ z b r j).symm)
  refine (congrFun ((Pipeline.withArrays_arr spec0 (by decide) c (V0 m c) _ 2).trans (final m c)) _).trans ((row_at m c ⟨b.val * 3 + r.val, by omega⟩ j).trans ?_)
  exact Finset.sum_congr rfl fun k _ => congrArg (fun a : EReal => a * _) (prompt_row m c b r k _)

/-- The samples' result equals the reference's. -/
theorem result_s (c : Dev nD) : (Pipeline.afterTail₀ cfgs (dats m) 0 (V0 m) [hostOps1] c main_v45 : FVec Ideal S1x128x3x4096 .f32)
    = Cert.ConvRowsReferenceIdeal.Read.val_main_v11 (F := Ideal) (m ((c.tc : Thread nD τ).loc main_arg1)) (m ((c.tc : Thread nD τ).loc main_arg2)) (m ((c.tc : Thread nD τ).loc main_arg3)) := by
  funext y
  obtain ⟨z, b, r, j, rfl⟩ : ∃ (z : Fin 1) (b : Fin 128) (r : Fin 3) (j : Fin 4096), y = ix4 z b r j := ⟨y 0, y 1, y 2, y 3, by funext i; fin_cases i <;> rfl⟩
  refine (tail_s _ z b r j).trans (Eq.trans ?_ (ref_s _ _ _ z b r j).symm)
  refine (congrFun ((Pipeline.withArrays_arr spec0 (by decide) c (V0 m c) _ 2).trans (final m c)) _).trans ((row_at m c ⟨24 + (b.val * 3 + r.val), by omega⟩ j).trans ?_)
  exact Finset.sum_congr rfl fun k _ => congrArg (fun a : EReal => a * _) (sample_row m c b r k _)

instance ideal_facts : Cert.ConvRowsIdeal.Facts := Cert.ConvRowsIdeal.Gen.facts
instance reference_facts : Cert.ConvRowsReferenceIdeal.Facts := Cert.ConvRowsReferenceIdeal.Gen.facts

/-- What the run leaves in its two results. -/
theorem run (g : Dev nD → PrngReg) : θ_run defs (onTc (τ := τ) (main (F := Ideal))) ⟨m, fun _ => 0, g⟩ (fun r => ∀ c : Dev nD,
    r.2.mem ((c.tc : Thread nD τ).loc main_v44) = Pipeline.afterTail₀ cfgs (dats m) 0 (V0 m) [hostOps1] c main_v44
      ∧ r.2.mem ((c.tc : Thread nD τ).loc main_v45) = Pipeline.afterTail₀ cfgs (dats m) 0 (V0 m) [hostOps1] c main_v45) :=
  (θ_run defs _ _).mono (fun r h c => ⟨(h c).2 main_v44 (Pipeline.mem_restRefs_of main_v44 (by decide) (by decide)),
    (h c).2 main_v45 (Pipeline.mem_restRefs_of main_v45 (by decide) (by decide))⟩) (run_main m g)

/-- The carried convolution rows agree with the reference over the extended reals. -/
theorem alg : Cert.algebraic_ConvRowsIdeal_ConvRowsReferenceIdeal := by
  intro m g m' g' hpre hagree
  refine ⟨_, _, (θ_run Cert.ConvRowsIdeal.defs _ _).mono (fun r h c => ⟨(h.1 c).1, (h.1 c).2, h.2 c⟩) (θ_run_and (run m g) (unchanged m g)),
    (θ_run Cert.ConvRowsReferenceIdeal.defs _ _).mono (fun r h c => ?_) (Cert.ConvRowsReferenceIdeal.Value.run m' g')⟩
  obtain ⟨e0, e1, e2, e3⟩ := hagree c
  refine ⟨(h c).1.trans ?_, (h c).2.1.trans ?_, (h c).2.2⟩
  · rw [Cert.ConvRowsReferenceIdeal.Read.val_main_v9_eq, e0, e2]
    exact (result_p m c).symm
  · rw [Cert.ConvRowsReferenceIdeal.Read.val_main_v11_eq, e1, e2, e3]
    exact (result_s m c).symm

end Cert.ConvRowsIdeal.Rows

end
-- ==== Proof.PoolRowsHost.lean ====
/- The operations before the product of the carried pooling rows: which rows and which weights the product is taken of. -/
module

public import proofs.«01_k».proof.Proof.Gen.PoolRowsIdeal
public import proofs.«01_k».proof.Proof.Gen.PoolRowsIdeal.Frame
public import proofs.«01_k».proof.Proof.TakeRows
public import Idealize.ShloMosaic.Lib.Pipeline.Value
public import Idealize.ShloMosaic.Lib.Pipeline.ValueKit
public import Idealize.ShloMosaic.Lib.StableHlo.ReadAt

@[expose] public section

noncomputable section
open Idealize.ShloMosaic Idealize.ShloMosaic.TcCoe Idealize.SL.Sem
open Idealize.ShloMosaic.StableHlo

namespace Cert.PoolRowsIdeal.Rows
open Cert.PoolRowsIdeal Cert.PoolRowsIdeal.Gen
variable (σ : Valuation τ sig (Elt Ideal))

/-- The weights without the two narrow bands: from column 6144 on they are the argument's columns 32 further on. -/
theorem w_at (k : Fin 1024) (j : Fin 9216) (hj : ¬ j.val < 6144) : (after hostOps0 σ (Proc.devRef .tc main_v4) : FVec Ideal S1024x9216 .bf16) (ix2 k j)
    = (σ (Proc.devRef .tc main_arg2) : FVec Ideal S1x1024x9248 .f32) (ix3 0 k ⟨j.val + 32, by omega⟩) := by
  unfold hostOps0
  after_reads_at
  rw [dif_neg hj]
  after_reads_at
  have e : 6176 + (j.val - 6144) = j.val + 32 := by omega
  exact congrArg (fun q : Fin 9248 => (σ (Proc.devRef .tc main_arg2) : FVec Ideal S1x1024x9248 .f32) (ix3 0 k q)) (Fin.ext e)

/-- The row numbers asked of the prompts: the last fifteen of each sequence. -/
theorem rows_p (i : Fin 120) : (after hostOps0 σ (Proc.devRef .tc main_v20) : IVec S120 32) (ix1 i) = BitVec.ofNat 32 (i.val / 15 * 2048 + 2033 + i.val % 15) := by
  unfold hostOps0
  after_reads_at
  exact TakeRows.row_word _ _ _ _

/-- The prompts' rows, taken by known row numbers. -/
theorem take_p (f : Fin 120 → Fin 16384) (hw : ∀ i, (σ (Proc.devRef .tc main_v20) : IVec S120 32) (ix1 i) = BitVec.ofNat 32 (f i).val) (i : Fin 120) (k : Fin 1024) :
    (after hostOps0_1 σ (Proc.devRef .tc main_v21) : FVec Ideal S120x1024 .f32) (ix2 i k)
      = (σ (Proc.devRef .tc main_v5) : FVec Ideal S16384x1024 .f32) (ix2 (f i) k) := by
  unfold hostOps0_1
  after_reads_simp
  all_goals try simp -implicitDefEqProofs only [StableHlo.TRef.toBuf, StableHlo.TRef.ofBuf, cast_cast, cast_eq]
  all_goals clean_types
  exact TakeRows.take_at (by decide) _ rfl rfl rfl rfl rfl _ _ f hw bcast_S_S120 bcast_S120_S120x1_0 bcast_S_S120x1 bcast_S1_S1x1_1 bcast_S1x1_S120x1_0_1
    reducesTo_S120x1_S120_d1 h_S_ bcast_S120_S120x1024_0 _ i k

/-- The rows below 1144 are the joined ones; the padding is below them. -/
theorem pad_at (i : Fin 1152) (k : Fin 1024) (hi : i.val < 1144) : (after hostOps0_5 σ (Proc.devRef .tc main_v38) : FVec Ideal S1152x1024 .bf16) (ix2 i k)
    = (σ (Proc.devRef .tc main_v37) : FVec Ideal S1144x1024 .bf16) (ix2 ⟨i.val, hi⟩ k) := by
  unfold hostOps0_5
  after_reads_at
  rw [dif_pos hi]

/-- The prompts' 120 rows come first, then the samples' 1024. -/
theorem cat_at (i : Fin 1144) (k : Fin 1024) : (after hostOps0_4 σ (Proc.devRef .tc main_v37) : FVec Ideal S1144x1024 .bf16) (ix2 i k)
    = if h : i.val < 120 then (σ (Proc.devRef .tc main_v22) : FVec Ideal S120x1024 .bf16) (ix2 ⟨i.val, h⟩ k) else (σ (Proc.devRef .tc main_v35) : FVec Ideal S1024x1024 .f32) (ix2 ⟨i.val - 120, by omega⟩ k) := by
  unfold hostOps0_4
  after_reads_at

/-- The row numbers asked of the samples: all eight of each sequence. -/
theorem rows_s (i : Fin 1024) : (after hostOps0_2 σ (Proc.devRef .tc main_v34) : IVec S1024 32) (ix1 i) = BitVec.ofNat 32 (i.val / 8 * 8 + 0 + i.val % 8) := by
  unfold hostOps0_2
  after_reads_at
  exact TakeRows.row_word _ _ _ _

/-- The samples' rows, taken by known row numbers. -/
theorem take_s (f : Fin 1024 → Fin 1024) (hw : ∀ i, (σ (Proc.devRef .tc main_v34) : IVec S1024 32) (ix1 i) = BitVec.ofNat 32 (f i).val) (i : Fin 1024) (k : Fin 1024) :
    (after hostOps0_3 σ (Proc.devRef .tc main_v35) : FVec Ideal S1024x1024 .f32) (ix2 i k)
      = (σ (Proc.devRef .tc main_v6) : FVec Ideal S1024x1024 .f32) (ix2 (f i) k) := by
  unfold hostOps0_3
  after_reads_simp
  all_goals try simp -implicitDefEqProofs only [StableHlo.TRef.toBuf, StableHlo.TRef.ofBuf, cast_cast, cast_eq]
  all_goals clean_types
  exact TakeRows.take_at (by decide) _ rfl rfl rfl rfl rfl _ _ f hw bcast_S_S1024 bcast_S1024_S1024x1_0 bcast_S_S1024x1 bcast_S1_S1x1_1 bcast_S1x1_S1024x1_0_1
    reducesTo_S1024x1_S1024_d1 h_S_ bcast_S1024_S1024x1024_0 _ i k

/-- The prompts laid out as one list of rows. -/
theorem prompt_at (i : Fin 16384) (k : Fin 1024) : (after hostOps0 σ (Proc.devRef .tc main_v5) : FVec Ideal S16384x1024 .f32) (ix2 i k)
    = (σ (Proc.devRef .tc main_arg0) : FVec Ideal S8x2048x1024 .f32) (ix3 ⟨i.val / 2048, by omega⟩ ⟨i.val % 2048, by omega⟩ k) := by
  unfold hostOps0
  after_reads_at

/-- The samples laid out as one list of rows. -/
theorem sample_at (i : Fin 1024) (k : Fin 1024) : (after hostOps0 σ (Proc.devRef .tc main_v6) : FVec Ideal S1024x1024 .f32) (ix2 i k)
    = (σ (Proc.devRef .tc main_arg1) : FVec Ideal S128x8x1024 .f32) (ix3 ⟨i.val / 8, by omega⟩ ⟨i.val % 8, by omega⟩ k) := by
  unfold hostOps0
  after_reads_at

/-- The samples' rows are not written while the prompts' rows are taken. -/
theorem keep_v6 : after hostOps0_2 (after hostOps0_1 σ) (Proc.devRef .tc main_v6) = σ (Proc.devRef .tc main_v6) := by
  unfold hostOps0_2 hostOps0_1
  after_reads_simp

/-- The prompts' taken rows in the narrower format: the same extended reals. -/
theorem cast_p (i : Fin 120) (k : Fin 1024) : (after hostOps0_3 (after hostOps0_2 σ) (Proc.devRef .tc main_v22) : FVec Ideal S120x1024 .bf16) (ix2 i k)
    = (σ (Proc.devRef .tc main_v21) : FVec Ideal S120x1024 .f32) (ix2 i k) := by
  unfold hostOps0_3 hostOps0_2
  after_reads_at

/-- What the region starts from, one stretch of operations after another. -/
theorem stages (m : (ℓ : Loc nD τ sig) → Buf (Elt Ideal) ℓ) (c : Dev nD) : V0 m c = after hostOps0_5 (after hostOps0_4 (after hostOps0_3 (after hostOps0_2 (after hostOps0_1 (after hostOps0 fun b => m (c, b)))))) := rfl

/-- The old state of the samples, without its leading 1. -/
theorem old_at (b : Fin 128) (r : Fin 15) (j : Fin 1024) : (after hostOps0 σ (Proc.devRef .tc main_v8) : FVec Ideal S128x15x1024 .f32) (ix3 b r j)
    = (σ (Proc.devRef .tc main_arg3) : FVec Ideal S1x128x15x1024 .f32) (ix4 0 b r j) := by
  unfold hostOps0
  after_reads_at

/-- The old state is not written by any later stretch. -/
theorem keep_v8 : after hostOps0_5 (after hostOps0_4 (after hostOps0_3 (after hostOps0_2 (after hostOps0_1 σ)))) (Proc.devRef .tc main_v8) = σ (Proc.devRef .tc main_v8) := by
  unfold hostOps0_5 hostOps0_4 hostOps0_3 hostOps0_2 hostOps0_1
  after_reads_simp

/-- The weights are not written by any later stretch. -/
theorem keep_v4 : after hostOps0_5 (after hostOps0_4 (after hostOps0_3 (after hostOps0_2 (after hostOps0_1 σ)))) (Proc.devRef .tc main_v4) = σ (Proc.devRef .tc main_v4) := by
  unfold hostOps0_5 hostOps0_4 hostOps0_3 hostOps0_2 hostOps0_1
  after_reads_simp

/-- The rows that the product is taken of: each prompt's last fifteen and all of each sample's. -/
def row (m : (ℓ : Loc nD τ sig) → Buf (Elt Ideal) ℓ) (c : Dev nD) (i : Fin 1144) (k : Fin 1024) : EReal :=
  if h : i.val < 120 then (m ((c.tc : Thread nD τ).loc main_arg0) : FVec Ideal S8x2048x1024 .f32) (ix3 ⟨i.val / 15, by omega⟩ ⟨2033 + i.val % 15, by omega⟩ k)
    else (m ((c.tc : Thread nD τ).loc main_arg1) : FVec Ideal S128x8x1024 .f32) (ix3 ⟨(i.val - 120) / 8, by omega⟩ ⟨(i.val - 120) % 8, by omega⟩ k)

/-- The left operand of the product holds the carried rows. -/
theorem x_at (m : (ℓ : Loc nD τ sig) → Buf (Elt Ideal) ℓ) (c : Dev nD) (i : Fin 1152) (k : Fin 1024) (hi : i.val < 1144) :
    (V m c main_v38 : FVec Ideal S1152x1024 .bf16) (ix2 i k) = row m c ⟨i.val, hi⟩ k := by
  unfold V
  rw [stages]
  refine (pad_at _ i k hi).trans ((cat_at _ _ k).trans ?_)
  unfold row
  by_cases h : i.val < 120
  · rw [dif_pos h, dif_pos h]
    refine (cast_p _ _ k).trans ((take_p _ (fun i => ⟨i.val / 15 * 2048 + 2033 + i.val % 15, by omega⟩) (rows_p _) _ k).trans ((prompt_at _ _ k).trans ?_))
    refine congrArg _ ?_
    congr 1 <;> exact Fin.ext (by dsimp only; omega)
  · rw [dif_neg h, dif_neg h]
    refine (take_s _ (fun i => ⟨i.val / 8 * 8 + 0 + i.val % 8, by omega⟩) (rows_s _) _ k).trans ((congrFun (keep_v6 _) _).trans ((sample_at _ _ k).trans ?_))
    refine congrArg _ ?_
    congr 1 <;> exact Fin.ext (by dsimp only; omega)

end Cert.PoolRowsIdeal.Rows

end
-- ==== Proof.PoolRowsValue.lean ====
/- The carried pooling rows: the product, the results cut from it, and the claim. -/
module

public import proofs.«01_k».proof.Proof.PoolRowsHost
public import proofs.«01_k».proof.Proof.Gen.PoolRowsIdeal.Points
public import proofs.«01_k».proof.Proof.Gen.PoolRowsReferenceIdeal
public import proofs.«01_k».proof.Proof.Gen.PoolRowsReferenceIdeal.Read
public import proofs.«01_k».proof.Proof.Gen.PoolRowsReferenceIdeal.Run
public import proofs.«01_k».proof.Defs

@[expose] public section

set_option maxRecDepth 16384
noncomputable section
open Idealize.ShloMosaic Idealize.ShloMosaic.TcCoe Idealize.SL.Sem
open Idealize.ShloMosaic.StableHlo
open Idealize.ShloMosaic.Pipeline (Dat)
open scoped BigOperators

namespace Cert.PoolRowsIdeal.Rows
open Cert.PoolRowsIdeal Cert.PoolRowsIdeal.Gen
variable (m : (ℓ : Loc nD τ sig) → Buf (Elt Ideal) ℓ)

/-- Which block of each array a step works on. -/
theorem idx : ∀ t : Fin cfg0.N, win0_0.index t = ![0, 0] ∧ win0_1.index t = ![0, 6] ∧ win0_2.index t = ![0, 0] :=
  (by decide +kernel : ∀ t : Fin grid0.N, _)

/-- The rows times the first columns of the weights. -/
def mul (a : FVec Ideal S1152x1024 .bf16) (b : FVec Ideal S1024x9216 .bf16) : FVec Ideal S1152x1024 .f32 := fun y =>
  ∑ k : Fin 1024, a (ix2 (y 0) k) * b (ix2 k ⟨6144 + (y 1).val, by have : (y 1).val < 1024 := (y 1).isLt; omega⟩)

/-- The product the run forms, from what the region starts with. -/
def product (c : Dev nD) : FVec Ideal S1152x1024 .f32 := mul (V m c main_v38) (V m c main_v4)

/-- One step: the product of the rows with one block of columns. -/
theorem pay_at (a : FVec Ideal S1152x1024 .bf16) (b : FVec Ideal S1024x1024 .bf16) (y : S1152x1024.Idx) :
    k0_pay1 (F := Ideal) a b y = ∑ k : Fin 1024, a (ix2 (y 0) k) * b (ix2 k (y 1)) := by
  pointwise [k0_pay1]

/-- The array of products, after all steps. -/
theorem final (c : Dev nD) : (dats m 0 c).arrAt 2 (cfgs 0).N = product m c := by
  refine (dats m 0 c).arrAt_eq_of_covers 2 _ (by decide +kernel) fun t hf y => ?_
  blk_simp; rw [after0_2]; frame_out
  refine (pay_at _ _ y).trans ?_
  unfold product mul
  blk_point [iblk, idx t]

/-- The first result is the first 120 rows of the products, fifteen to a sequence. -/
theorem tail_p (σ : Valuation τ sig (Elt Ideal)) (z : Fin 1) (b : Fin 8) (r : Fin 15) (j : Fin 1024) :
    (after hostOps1 σ (Proc.devRef .tc main_v46) : FVec Ideal S1x8x15x1024 .f32) (ix4 z b r j)
      = (σ (Proc.devRef .tc main_v39) : FVec Ideal S1152x1024 .f32) (ix2 ⟨b.val * 15 + r.val, by omega⟩ j) := by
  unfold hostOps1
  after_reads_at

/-- The second result is, to a sequence, seven rows of the old state and eight of the next 1024 rows of the products. -/
theorem tail_s (σ : Valuation τ sig (Elt Ideal)) (z : Fin 1) (b : Fin 128) (r : Fin 15) (j : Fin 1024) :
    (after hostOps1 σ (Proc.devRef .tc main_v47) : FVec Ideal S1x128x15x1024 .f32) (ix4 z b r j)
      = if h : r.val < 7 then (σ (Proc.devRef .tc main_v8) : FVec Ideal S128x15x1024 .f32) (ix3 b ⟨8 + r.val, by omega⟩ j)
        else (σ (Proc.devRef .tc main_v39) : FVec Ideal S1152x1024 .f32) (ix2 ⟨120 + (b.val * 8 + (r.val - 7)), by omega⟩ j) := by
  unfold hostOps1
  after_reads_at
  by_cases h : r.val < 7
  · rw [dif_pos h, dif_pos h]
    after_reads_at
  · rw [dif_neg h, dif_neg h]
    after_reads_at

/-- The reference's prompt rows: of the extended sequence the last fifteen, which lie behind the zeros. -/
theorem ref_p (x : FVec Ideal S8x2048x1024 .f32) (w : FVec Ideal S1x1024x9248 .f32) (z : Fin 1) (b : Fin 8) (r : Fin 15) (j : Fin 1024) :
    Cert.PoolRowsReferenceIdeal.Read.val_main_v9 (F := Ideal) x w (ix4 z b r j)
      = ∑ k : Fin 1024, x (ix3 b ⟨2033 + r.val, by omega⟩ k) * w (ix3 0 k ⟨6176 + j.val, by omega⟩) := by
  pointwise [Cert.PoolRowsReferenceIdeal.Read.val_main_v9, Cert.PoolRowsReferenceIdeal.Read.val_main_v8, Cert.PoolRowsReferenceIdeal.Read.val_main_v4,
    Cert.PoolRowsReferenceIdeal.Read.val_main_v3, Cert.PoolRowsReferenceIdeal.Read.val_main_v2, Cert.PoolRowsReferenceIdeal.Read.val_main_v1, Cert.PoolRowsReferenceIdeal.Read.val_main_v0]
  rw [dif_neg (by omega)]
  refine Finset.sum_congr rfl fun k _ => ?_
  congr 2; congr 1; apply Fin.ext; show 2048 + r.val - 15 = 2033 + r.val; omega

/-- The reference's sample rows: of the extended sequence the last fifteen, seven of the old state and the eight new ones. -/
theorem ref_s (x : FVec Ideal S128x8x1024 .f32) (w : FVec Ideal S1x1024x9248 .f32) (o : FVec Ideal S1x128x15x1024 .f32) (z : Fin 1) (b : Fin 128) (r : Fin 15) (j : Fin 1024) :
    Cert.PoolRowsReferenceIdeal.Read.val_main_v11 (F := Ideal) x w o (ix4 z b r j)
      = if h : r.val < 7 then o (ix4 0 b ⟨8 + r.val, by omega⟩ j)
        else ∑ k : Fin 1024, x (ix3 b ⟨r.val - 7, by omega⟩ k) * w (ix3 0 k ⟨6176 + j.val, by omega⟩) := by
  pointwise [Cert.PoolRowsReferenceIdeal.Read.val_main_v11, Cert.PoolRowsReferenceIdeal.Read.val_main_v10, Cert.PoolRowsReferenceIdeal.Read.val_main_v7,
    Cert.PoolRowsReferenceIdeal.Read.val_main_v6, Cert.PoolRowsReferenceIdeal.Read.val_main_v5, Cert.PoolRowsReferenceIdeal.Read.val_main_v1, Cert.PoolRowsReferenceIdeal.Read.val_main_v0]
  by_cases h : r.val < 7
  · rw [dif_pos h, dif_pos (by omega)]
  · rw [dif_neg h, dif_neg (by omega)]
    refine Finset.sum_congr rfl fun k _ => ?_
    congr 2; congr 1; apply Fin.ext; show 8 + r.val - 15 = r.val - 7; omega

/-- The product of rows and columns at one place. -/
theorem mul_at (a : FVec Ideal S1152x1024 .bf16) (b : FVec Ideal S1024x9216 .bf16) (i : Fin 1152) (j : Fin 1024) :
    mul a b (ix2 i j) = ∑ k : Fin 1024, a (ix2 i k) * b (ix2 k ⟨6144 + j.val, by omega⟩) := rfl

/-- The weights that the product reads are the argument's. -/
theorem weight_at (c : Dev nD) (k : Fin 1024) (j : Fin 9216) (hj : ¬ j.val < 6144) :
    (V m c main_v4 : FVec Ideal S1024x9216 .bf16) (ix2 k j)
      = (m ((c.tc : Thread nD τ).loc main_arg2) : FVec Ideal S1x1024x9248 .f32) (ix3 0 k ⟨j.val + 32, by omega⟩) := by
  unfold V
  rw [stages, keep_v4]
  exact w_at _ k j hj

/-- A row of the products, from the arguments. -/
theorem row_at (c : Dev nD) (i : Fin 1144) (j : Fin 1024) :
    product m c (ix2 ⟨i.val, by omega⟩ j) = ∑ k : Fin 1024, row m c i k * (m ((c.tc : Thread nD τ).loc main_arg2) : FVec Ideal S1x1024x9248 .f32) (ix3 0 k ⟨6176 + j.val, by omega⟩) :=
  (mul_at _ _ _ j).trans (Finset.sum_congr rfl fun k _ =>
    congrArg₂ (fun a b : EReal => a * b) (x_at m c ⟨i.val, by omega⟩ k i.isLt) ((weight_at m c k ⟨6144 + j.val, by omega⟩ (by show ¬ 6144 + j.val < 6144; omega)).trans
      (congrArg (fun q : Fin 9248 => (m ((c.tc : Thread nD τ).loc main_arg2) : FVec Ideal S1x1024x9248 .f32) (ix3 0 k q)) (Fin.ext (by show 6144 + j.val + 32 = 6176 + j.val; omega)))))

/-- Row `15b + r` is row `2033 + r` of prompt `b`. -/
theorem prompt_row (c : Dev nD) (b : Fin 8) (r : Fin 15) (k : Fin 1024) (h : b.val * 15 + r.val < 1144) :
    row m c ⟨b.val * 15 + r.val, h⟩ k = (m ((c.tc : Thread nD τ).loc main_arg0) : FVec Ideal S8x2048x1024 .f32) (ix3 b ⟨2033 + r.val, by omega⟩ k) := by
  unfold row
  rw [dif_pos (by show b.val * 15 + r.val < 120; omega)]
  congr 2 <;> apply Fin.ext
  · show (b.val * 15 + r.val) / 15 = b.val; omega
  · show 2033 + (b.val * 15 + r.val) % 15 = 2033 + r.val; omega

/-- Row `120 + 8b + r` is row `r` of sample `b`. -/
theorem sample_row (c : Dev nD) (b : Fin 128) (r : Fin 8) (k : Fin 1024) (h : 120 + (b.val * 8 + r.val) < 1144) :
    row m c ⟨120 + (b.val * 8 + r.val), h⟩ k = (m ((c.tc : Thread nD τ).loc main_arg1) : FVec Ideal S128x8x1024 .f32) (ix3 b r k) := by
  unfold row
  rw [dif_neg (by show ¬ 120 + (b.val * 8 + r.val) < 120; omega)]
  congr 2 <;> apply Fin.ext
  · show (120 + (b.val * 8 + r.val) - 120) / 8 = b.val; omega
  · show (120 + (b.val * 8 + r.val) - 120) % 8 = r.val; omega

/-- The old state that the last operations read is the argument. -/
theorem state_at (c : Dev nD) (b : Fin 128) (r : Fin 15) (j : Fin 1024) : (V0 m c (Proc.devRef .tc main_v8) : FVec Ideal S128x15x1024 .f32) (ix3 b r j)
    = (m ((c.tc : Thread nD τ).loc main_arg3) : FVec Ideal S1x128x15x1024 .f32) (ix4 0 b r j) := by
  rw [stages, keep_v8]
  exact old_at _ b r j

/-- The prompts' result equals the reference's. -/
theorem result_p (c : Dev nD) : (Pipeline.afterTail₀ cfgs (dats m) 0 (V0 m) [hostOps1] c main_v46 : FVec Ideal S1x8x15x1024 .f32)
    = Cert.PoolRowsReferenceIdeal.Read.val_main_v9 (F := Ideal) (m ((c.tc : Thread nD τ).loc main_arg0)) (m ((c.tc : Thread nD τ).loc main_arg2)) := by
  funext y
  obtain ⟨z, b, r, j, rfl⟩ : ∃ (z : Fin 1) (b : Fin 8) (r : Fin 15) (j : Fin 1024), y = ix4 z b r j := ⟨y 0, y 1, y 2, y 3, by funext i; fin_cases i <;> rfl⟩
  refine (tail_p _ z b r j).trans (Eq.trans ?_ (ref_p _ _ z b r j).symm)
  refine (congrFun ((Pipeline.withArrays_arr spec0 (by decide) c (V0 m c) _ 2).trans (final m c)) _).trans ((row_at m c ⟨b.val * 15 + r.val, by omega⟩ j).trans ?_)
  exact Finset.sum_congr rfl fun k _ => congrArg (fun a : EReal => a * _) (prompt_row m c b r k _)

/-- The samples' result equals the reference's. -/
theorem result_s (c : Dev nD) : (Pipeline.afterTail₀ cfgs (dats m) 0 (V0 m) [hostOps1] c main_v47 : FVec Ideal S1x128x15x1024 .f32)
    = Cert.PoolRowsReferenceIdeal.Read.val_main_v11 (F := Ideal) (m ((c.tc : Thread nD τ).loc main_arg1)) (m ((c.tc : Thread nD τ).loc main_arg2)) (m ((c.tc : Thread nD τ).loc main_arg3)) := by
  funext y
  obtain ⟨z, b, r, j, rfl⟩ : ∃ (z : Fin 1) (b : Fin 128) (r : Fin 15) (j : Fin 1024), y = ix4 z b r j := ⟨y 0, y 1, y 2, y 3, by funext i; fin_cases i <;> rfl⟩
  refine (tail_s _ z b r j).trans (Eq.trans ?_ (ref_s _ _ _ z b r j).symm)
  by_cases h : r.val < 7
  · rw [dif_pos h, dif_pos h]
    exact (congrFun (Pipeline.withArrays_of_ne spec0 c (V0 m c) _ main_v8 (by decide)) _).trans (state_at m c b ⟨8 + r.val, by omega⟩ j)
  · rw [dif_neg h, dif_neg h]
    refine (congrFun ((Pipeline.withArrays_arr spec0 (by decide) c (V0 m c) _ 2).trans (final m c)) _).trans ((row_at m c ⟨120 + (b.val * 8 + (r.val - 7)), by omega⟩ j).trans ?_)
    exact Finset.sum_congr rfl fun k _ => congrArg (fun a : EReal => a * _) (sample_row m c b ⟨r.val - 7, by omega⟩ k _)

instance ideal_facts : Cert.PoolRowsIdeal.Facts := Cert.PoolRowsIdeal.Gen.facts
instance reference_facts : Cert.PoolRowsReferenceIdeal.Facts := Cert.PoolRowsReferenceIdeal.Gen.facts

/-- What the run leaves in its two results. -/
theorem run (g : Dev nD → PrngReg) : θ_run defs (onTc (τ := τ) (main (F := Ideal))) ⟨m, fun _ => 0, g⟩ (fun r => ∀ c : Dev nD,
    r.2.mem ((c.tc : Thread nD τ).loc main_v46) = Pipeline.afterTail₀ cfgs (dats m) 0 (V0 m) [hostOps1] c main_v46
      ∧ r.2.mem ((c.tc : Thread nD τ).loc main_v47) = Pipeline.afterTail₀ cfgs (dats m) 0 (V0 m) [hostOps1] c main_v47) :=
  (θ_run defs _ _).mono (fun r h c => ⟨(h c).2 main_v46 (Pipeline.mem_restRefs_of main_v46 (by decide) (by decide)),
    (h c).2 main_v47 (Pipeline.mem_restRefs_of main_v47 (by decide) (by decide))⟩) (run_main m g)

/-- The carried pooling rows agree with the reference over the extended reals. -/
theorem alg : Cert.algebraic_PoolRowsIdeal_PoolRowsReferenceIdeal := by
  intro m g m' g' hpre hagree
  refine ⟨_, _, (θ_run Cert.PoolRowsIdeal.defs _ _).mono (fun r h c => ⟨(h.1 c).1, (h.1 c).2, h.2 c⟩) (θ_run_and (run m g) (unchanged m g)),
    (θ_run Cert.PoolRowsReferenceIdeal.defs _ _).mono (fun r h c => ?_) (Cert.PoolRowsReferenceIdeal.Value.run m' g')⟩
  obtain ⟨e0, e1, e2, e3⟩ := hagree c
  refine ⟨(h c).1.trans ?_, (h c).2.1.trans ?_, (h c).2.2⟩
  · rw [Cert.PoolRowsReferenceIdeal.Read.val_main_v9_eq, e0, e2]
    exact (result_p m c).symm
  · rw [Cert.PoolRowsReferenceIdeal.Read.val_main_v11_eq, e1, e2, e3]
    exact (result_s m c).symm

end Cert.PoolRowsIdeal.Rows

end
-- ==== Proof.InProjRun.lean ====
/- The run of the ideal input projection, with what each output array ends holding. At the first of the three points
   of a row block the body casts the rows into its scratch buffer and writes the narrow product; at every point it
   multiplies the scratch rows by the point's block of weight columns. So the scratch buffer and the narrow product
   are fixed by the row block, and the invariant carries the scratch between the points of one row block. -/
module

public import proofs.«01_k».proof.Proof.Gen.InProjIdeal.Frame
public import proofs.«01_k».proof.Proof.Gen.InProjIdeal.Skeleton
public import Idealize.ShloMosaic.Lib.Pipeline.ValueKit
public import Idealize.ShloMosaic.Lib.Claim

@[expose] public section

set_option maxRecDepth 16384

noncomputable section

namespace Cert.InProjIdeal.Rows

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two cases -/

/-- The rows are cast exactly at the points divisible by three. -/
theorem first_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- The scratch buffer of the cast rows. -/
abbrev scr : Memref sig .tc .vmem S1024x1024 .bf16 := Memref.whole cc0_scratch0

set_option maxHeartbeats 1000000 in
/-- The body at the first point of a row block: whatever the scratch and the outputs held, they end at the cast rows,
    the wide product's block and the narrow product. -/
theorem run_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1024x3072 .bf16) (harg6 : arg6.IsWhole) (arg7 : Memref sig .tc .vmem S1024x128 .f32) (harg7 : arg7.IsWhole) (arg8 : Memref sig .tc .vmem S1024x1024 .bf16) (harg8 : arg8.IsWhole) (hc : k0_cond1 i = 1#1)
    (x0 : Vec F S1024x1024 .f32) (x1 : Vec F S1024x1024 .f32) (x2 : Vec F S1024x3072 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 i x0 x1) x2) ∗ owns (c : Thread nD τ) arg7 fullShare (k0_pay3 i x0 x1 x3) ∗ owns (c : Thread nD τ) arg8 fullShare (k0_pay2 i x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap; · iexact H4
    ipureintro
    rw [View.read_writes_eq_canon _ _ _ (fun y => ⟨_, List.mem_singleton_self _, View.mem_set_unit_zero (View.eq_zero_of_forall (by decide)) (by decide) y⟩)]
    frame_out
  isplitl [H5]
  · iexists _; isplitr; swap; · iexact H5
    ipureintro
    rw [View.read_writes_eq_canon _ _ _ (fun y => ⟨_, List.mem_singleton_self _, View.mem_set_unit_zero (View.eq_zero_of_forall (by decide)) (by decide) y⟩)]
    frame_out
  iexists _; isplitr; swap; · iexact HS0
  ipureintro
  unfold run_first.sl.HS0_1
  rw [View.read_writes_eq_canon _ _ _ (fun y => ⟨_, List.mem_singleton_self _, View.mem_set_unit_zero (View.eq_zero_of_forall (by decide)) (by decide) y⟩)]
  frame_out

set_option maxHeartbeats 1000000 in
/-- The body at a later point of a row block: it reads the scratch rows, writes the wide product's block, and leaves
    the scratch and the narrow product's buffer alone. -/
theorem run_later (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1024x3072 .bf16) (harg6 : arg6.IsWhole) (arg7 : Memref sig .tc .vmem S1024x128 .f32) (harg7 : arg7.IsWhole) (arg8 : Memref sig .tc .vmem S1024x1024 .bf16) (harg8 : arg8.IsWhole) (hc : ¬ k0_cond1 i = 1#1)
    (x2 : Vec F S1024x3072 .bf16) (xs : Vec F S1024x1024 .bf16) (E : Set ℕ) (K : PUnit → sProp 𝕄) :
    iprop(owns (c : Thread nD τ) arg4 fullShare x2 ∗ (∃ d, owns (c : Thread nD τ) arg6 fullShare d) ∗ owns (c : Thread nD τ) arg8 fullShare xs
        ∗ (iprop(owns (c : Thread nD τ) arg4 fullShare x2 ∗ owns (c : Thread nD τ) arg6 fullShare (k0_pay4 xs x2) ∗ owns (c : Thread nD τ) arg8 fullShare xs) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d4, %f4, -, H4⟩, ⟨%fs0, %hfs0, HS0⟩, Hk⟩
  subst hf2 hfs0
  sl_exec (disch := first | sl_exact hc)
  sl_step
  iapply Hk
  isplitl [H2]
  · iexists f2; isplitr; · ipureintro; rfl
    iexact H2
  isplitl [H4]
  · iexists _; isplitr; swap; · iexact H4
    ipureintro
    rw [View.read_writes_eq_canon _ _ _ (fun y => ⟨_, List.mem_singleton_self _, View.mem_set_unit_zero (View.eq_zero_of_forall (by decide)) (by decide) y⟩)]
    frame_out
  iexists fs0; isplitr; · ipureintro; rfl
  iexact HS0

/-! ## The proof data -/

/-- The first point of the row block that point number `n` works on. -/
def pt (n : ℕ) : Fin cfg0.N := ⟨n / 3 * 3 % 51, lt_of_lt_of_eq (Nat.mod_lt _ (by decide)) (show 51 = cfg0.N from N_0.symm)⟩

theorem pt_first (t : Fin cfg0.N) (h : t.val % 3 = 0) : pt t.val = t := by
  have hN : t.val < 51 := lt_of_lt_of_eq t.isLt (show cfg0.N = 51 from N_0)
  apply Fin.ext; show t.val / 3 * 3 % 51 = t.val; omega

theorem pt_succ (n : ℕ) (h : (n + 1) % 3 ≠ 0) : pt (n + 1) = pt n := by
  apply Fin.ext; show (n + 1) / 3 * 3 % 51 = n / 3 * 3 % 51; omega

/-- The cast rows that the scratch holds while the row block of point number `n` is worked on. -/
def rows (c : Dev nD) (n : ℕ) : Vec F S1024x1024 .bf16 :=
  k0_pay2 (grid0.coords (pt n)) (iblk m c 0 (pt n)) (iblk m c 1 (pt n))

/-- The narrow product's block of the row block of point number `n`. -/
def narrow (c : Dev nD) (n : ℕ) : Vec F S1024x128 .f32 :=
  k0_pay3 (grid0.coords (pt n)) (iblk m c 0 (pt n)) (iblk m c 1 (pt n)) (iblk m c 3 (pt n))

/-- The invariant before point number `n`: in the middle of a row block the scratch holds the cast rows; between two
    row blocks it holds anything. -/
def inv (c : Dev nD) (n : ℕ) : sProp 𝕄 :=
  if n % 3 = 0 then Pipeline.ΦA spec0 c
  else iprop(owns (c : Thread nD τ) scr fullShare (rows m c n) ∗ (∃ r, prngReg c r))

theorem inv_first (c : Dev nD) (n : ℕ) (h : n % 3 = 0) : inv m c n = Pipeline.ΦA spec0 c := if_pos h
theorem inv_later (c : Dev nD) (n : ℕ) (h : n % 3 ≠ 0) :
    inv m c n = iprop(owns (c : Thread nD τ) scr fullShare (rows m c n) ∗ (∃ r, prngReg c r)) := if_neg h

/-- The launch's invariant, read: the scratch at some contents and the generator register. -/
theorem launch_inv (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The proof data of the pipeline: the arrays as the launch finds them; after the body at a point each input at its
    block, the wide product's block, and the narrow product's block of the point's row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t.val) (iblk m c 2 t)
    | ⟨5, _⟩ => narrow m c t.val
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (rows m c t.val) (iblk m c 2 t) := by dsimp only [dats]
theorem after_5 (c : Dev nD) (t : Fin cfg0.N) : (dats m 0 c).after 5 t = narrow m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The narrow product's window is idle exactly after the first point of a row block. -/
theorem idle_5 (t : Fin cfg0.N) : cfg0.idle 5 (cfg0.grid.coords t) = !(decide (t.val % 3 = 0)) := by
  have h := first_iff t
  show (!(k0_cond1 (grid0.coords t) == 1#1)) = _
  by_cases h0 : t.val % 3 = 0
  · rw [h.mpr h0]; simp [h0]
  · have : ¬ k0_cond1 (grid0.coords t) = 1#1 := fun e => h0 (h.mp e)
    simp [h0, this]

/-- After the first point of a row block the narrow product's buffer still holds that block's narrow product. -/
theorem before_5_aux (c : Dev nD) (n : ℕ) : ∀ (hn : n < cfg0.N), n % 3 ≠ 0 → ∀ d, (dats m 0 c).before 5 ⟨n, hn⟩ d = narrow m c n := by
  induction n with
  | zero => intro hn h; exact absurd rfl h
  | succ k ih =>
    intro hn h d
    have hk : k < cfg0.N := Nat.lt_of_succ_lt hn
    have hfl : (cfg0.win 5).flush ⟨k, hk⟩ = false := by
      rw [← Bool.not_eq_true]; intro e; have := (flush0_5 ⟨k, hk⟩).mp e; simp only at this; omega
    have hstep := (dats m 0 c).before_of_pos 5 ⟨k + 1, hn⟩ (Nat.succ_ne_zero k) ((cfg0.win 5).fetch_out rfl _) d
    rw [hstep]
    show (if (cfg0.win 5).flush ⟨k, hk⟩ then d else (dats m 0 c).left 5 ⟨k, hk⟩ d) = _
    rw [hfl, if_neg Bool.false_ne_true]
    have e5 : narrow m c (k + 1) = narrow m c k := by unfold narrow; rw [pt_succ k h]
    rw [e5]
    unfold Dat.left
    rw [idle_5 ⟨k, hk⟩]
    by_cases hk0 : k % 3 = 0
    · simp only [hk0, decide_true, Bool.not_true]
      unfold Dat.kept
      rw [Pipeline.fill_of_clip_none (cfg := cfg0) 5 _ (fun _ => rfl) d ((dats m 0 c).after 5 ⟨k, hk⟩), Pipeline.Window.fill_cut, after_5]
    · simp only [hk0, decide_false, Bool.not_false]
      exact ih hk hk0 d

theorem before_5 (c : Dev nD) (t : Fin cfg0.N) (h : t.val % 3 ≠ 0) (d) : (dats m 0 c).before 5 t d = narrow m c t.val :=
  before_5_aux m c t.val t.isLt h d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The narrow product's buffer after a later point of a row block: as the body found it, which is what it must be. -/
theorem leaves_later (c : Dev nD) (t : Fin cfg0.N) (h : t.val % 3 ≠ 0) :
    (owns (c : Thread nD τ) (st0_5 t) fullShare (narrow m c t.val) : sProp 𝕄) ⊢ (dats m 0 c).leavesExact 5 t := by
  have hi : cfg0.idle 5 (cfg0.grid.coords t) = true := by rw [idle_5]; simp [h]
  by_cases hf : (cfg0.win 5).flush t = true
  · have e : (dats m 0 c).leavesExact 5 t = owns (c : Thread nD τ) (st0_5 t) fullShare ((dats m 0 c).after 5 t) := by
      unfold Dat.leavesExact; rw [hi, hf]
    rw [e, after_5]
  · rw [(dats m 0 c).leavesExact_idle 5 t hi (by simpa using hf)]
    iintro H
    iexists (fun _ => default)
    rw [before_5 m c t h]
    iexact H

set_option maxHeartbeats 800000 in
/-- The body at any point, by whether the point is the first of its row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_live m c 0 t rfl, leaves_live m c 1 t rfl, leaves_live m c 2 t rfl, leaves_live m c 3 t rfl, leaves_live m c 4 t rfl,
    after_0, after_1, after_2, after_3, after_4]
  rw [show (dats m 0 c).owesAt () t.succ = (dats m 0 c).owesAt () t.castSucc from rfl,
    show (dats m 0 c).Φ t.castSucc = inv m c t.val from rfl, show (dats m 0 c).Φ t.succ = inv m c (t.val + 1) from rfl]
  by_cases h0 : t.val % 3 = 0
  · have hr : rows m c t.val = k0_pay2 (grid0.coords t) (iblk m c 0 t) (iblk m c 1 t) := by unfold rows; rw [pt_first t h0]
    have hn : narrow m c t.val = k0_pay3 (grid0.coords t) (iblk m c 0 t) (iblk m c 1 t) (iblk m c 3 t) := by unfold narrow; rw [pt_first t h0]
    have hr' : rows m c (t.val + 1) = rows m c t.val := by unfold rows; rw [pt_succ t.val (by omega)]
    rw [leaves_live m c 5 t (by rw [idle_5]; simp [h0]), after_5, inv_first m c _ h0, launch_inv, inv_later m c (t.val + 1) (by omega), hr', hr, hn]
    iintro ⟨⟨HS0, Hg⟩, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ _ _ ((first_iff t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h0]
    rw [inv_later m c _ h0]
    have hinv : (iprop(owns (c : Thread nD τ) scr fullShare (rows m c t.val) ∗ (∃ r, prngReg c r)) : sProp 𝕄) ⊢ inv m c (t.val + 1) := by
      by_cases h1 : (t.val + 1) % 3 = 0
      · rw [inv_first m c _ h1, launch_inv]
        iintro ⟨HS0, Hg⟩
        isplitl [HS0]
        · iexists _; iexact HS0
        iexact Hg
      · have hr' : rows m c (t.val + 1) = rows m c t.val := by unfold rows; rw [pt_succ t.val h1]
        rw [inv_later m c _ h1, hr']
    iintro ⟨⟨HS0, Hg⟩, Ho, ⟨%d0, H0⟩, ⟨%d1, H1⟩, ⟨%d2, H2⟩, ⟨%d3, H3⟩, ⟨%d4, H4⟩, ⟨%d5, H5⟩⟩
    iapply ((run_later c (grid0.coords t) _ (hstage0_0 ((cfg0.slots t 0).cast nbuf0_0)) _ (hstage0_1 ((cfg0.slots t 1).cast nbuf0_1)) _ _ _ (hstage0_3 ((cfg0.slots t 3).cast nbuf0_3)) _ _ _ (hstage0_5 ((cfg0.slots t 5).cast nbuf0_5)) _ _ (fun e => h0 ((first_iff t).mp e)) (iblk m c 2 t) (rows m c t.val)) Set.univ _)
    isplitl [H2]; · iexact H2
    isplitl [H4]; · iexists _; iexact H4
    isplitl [HS0]; · iexact HS0
    iintro ⟨H2, H4, HS0⟩
    isplitl [HS0 Hg]
    · iapply hinv
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves_later m c t h0)
    iexact H5

/-- The body table's row at a point's slots is the body. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
/-- The launch: every array of the pipeline at what the proof data says, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InProjIdeal.Rows

end
-- ==== Proof.InProjValue.lean ====
/- The input projection: the two result arrays of the kernel are the reference's products. -/
module

public import proofs.«01_k».proof.Proof.InProjRun
public import proofs.«01_k».proof.Proof.Gen.InProjReferenceIdeal.Read
public import Idealize.ShloMosaic.Lib.Pipeline.Value
public import Idealize.ShloMosaic.Lib.Pointwise
public import Idealize.ShloMosaic.Lib.ValueIdx

@[expose] public section

set_option maxRecDepth 16384

noncomputable section

namespace Cert.InProjIdeal.Rows

open Cert.InProjIdeal Cert.InProjIdeal.Gen
open Idealize.ShloMosaic Idealize.ShloMosaic.TcCoe Idealize.SL.Sem
open Idealize.ShloMosaic.Pipeline (Dat)
open Cert.InProjReferenceIdeal.Read
open scoped BigOperators

variable (m : (ℓ : Loc nD τ sig) → Buf (Elt Ideal) ℓ) (c : Dev nD) (t : Fin cfg0.N)

/-- Where each window's block sits at each point. -/
theorem idx : ∀ t : Fin cfg0.N, win0_0.index t = ![if t.val < 48 then t.val / 3 else 15, 0]
    ∧ win0_1.index t = ![if t.val < 48 then 0 else t.val / 3 - 16, 0]
    ∧ win0_2.index t = ![0, t.val % 3]
    ∧ win0_3.index t = ![0, 0]
    ∧ win0_4.index t = ![t.val / 3, t.val % 3]
    ∧ win0_5.index t = ![t.val / 3, 0]
    ∧ (Scalar.cmpi .slt (BitVec.ofNat 32 ((grid0.coords t) 0).val) 16#32 = 1#1 ↔ t.val < 48) ∧ t.val < 51 :=
  (by decide +kernel : ∀ t : Fin grid0.N, _)

theorem pt_val (t : Fin cfg0.N) : (pt t.val).val = t.val / 3 * 3 := by
  have : t.val < 51 := (idx t).2.2.2.2.2.2.2
  show t.val / 3 * 3 % 51 = _
  omega

abbrev a0 : FVec Ideal S16384x1024 .f32 := m ((c : Thread nD τ).loc main_arg0)
abbrev a1 : FVec Ideal S1024x1024 .f32 := m ((c : Thread nD τ).loc main_arg1)
abbrev a2 : FVec Ideal S1024x9216 .bf16 := m ((c : Thread nD τ).loc main_arg2)
abbrev a3 : FVec Ideal S1024x128 .bf16 := m ((c : Thread nD τ).loc main_arg3)

/-- Row `r` of the two token arrays one after the other. -/
def cat (r : Fin 17408) (k : Fin 1024) : EReal :=
  if h : r.val < 16384 then a0 m c (ix2 ⟨r.val, h⟩ k) else a1 m c (ix2 ⟨r.val - 16384, by omega⟩ k)

/-- The row of the whole arrays that row `r` of a block at point `t` is. -/
def rowAt (t : Fin cfg0.N) (r : Fin 1024) : Fin 17408 :=
  ⟨t.val / 3 * 1024 + r.val, by have : t.val < 51 := (idx t).2.2.2.2.2.2.2; omega⟩

theorem pay2_apply (i : grid0.Coords) (x0 x1 : Vec Ideal S1024x1024 .f32) (y : S1024x1024.Idx) :
    k0_pay2 i x0 x1 y = Scalar.select (Scalar.cmpi .slt (BitVec.ofNat 32 (i 0).val) 16#32) (x0 y) (x1 y) := by
  pointwise [k0_pay2, k0_pay1]

theorem pay3_apply (i : grid0.Coords) (x0 x1 : Vec Ideal S1024x1024 .f32) (x3 : Vec Ideal S1024x128 .bf16) (y : S1024x128.Idx) :
    k0_pay3 i x0 x1 x3 y = ∑ k : Fin 1024, (k0_pay2 i x0 x1 (ix2 (y 0) k) : EReal) * x3 (ix2 k (y 1)) := by
  pointwise [k0_pay3, k0_pay2, k0_pay1]

theorem pay4_apply (x : Vec Ideal S1024x1024 .bf16) (w : Vec Ideal S1024x3072 .bf16) (y : S1024x3072.Idx) :
    k0_pay4 x w y = ∑ k : Fin 1024, (x (ix2 (y 0) k) : EReal) * w (ix2 k (y 1)) := by
  pointwise [k0_pay4]

theorem ref3_apply (x0 : FVec Ideal Cert.InProjReferenceIdeal.S16384x1024 .f32) (x1 : FVec Ideal Cert.InProjReferenceIdeal.S1024x1024 .f32)
    (x2 : FVec Ideal Cert.InProjReferenceIdeal.S1024x9216 .bf16) (i : Cert.InProjReferenceIdeal.S17408x9216.Idx) :
    val_main_v3 (F := Ideal) x0 x1 x2 i = ∑ k : Fin 1024, (if h : (i 0).val < 16384 then x0 (ix2 ⟨(i 0).val, h⟩ k)
        else x1 (ix2 ⟨(i 0).val - 16384, by have : (i 0).val < 17408 := (i 0).isLt; omega⟩ k) : EReal) * x2 (ix2 k (i 1)) := by
  pointwise [val_main_v0, val_main_v1, val_main_v2, val_main_v3]

theorem ref5_apply (x0 : FVec Ideal Cert.InProjReferenceIdeal.S16384x1024 .f32) (x1 : FVec Ideal Cert.InProjReferenceIdeal.S1024x1024 .f32)
    (x3 : FVec Ideal Cert.InProjReferenceIdeal.S1024x128 .bf16) (i : Cert.InProjReferenceIdeal.S17408x128.Idx) :
    val_main_v5 (F := Ideal) x0 x1 x3 i = ∑ k : Fin 1024, (if h : (i 0).val < 16384 then x0 (ix2 ⟨(i 0).val, h⟩ k)
        else x1 (ix2 ⟨(i 0).val - 16384, by have : (i 0).val < 17408 := (i 0).isLt; omega⟩ k) : EReal) * x3 (ix2 k (i 1)) := by
  pointwise [val_main_v0, val_main_v4, val_main_v5]

/-- The cast rows of a block are the joined token arrays' rows. -/
theorem rows_apply (r : Fin 1024) (k : Fin 1024) :
    (k0_pay2 (grid0.coords (pt t.val)) (iblk m c 0 (pt t.val)) (iblk m c 1 (pt t.val)) (ix2 r k) : EReal) = cat m c (rowAt t r) k := by
  refine (pay2_apply _ _ _ _).trans ?_
  obtain ⟨ea, eb, -, -, -, -, es, hN⟩ := idx (pt t.val)
  have hp := pt_val t
  unfold cat
  by_cases ht : (pt t.val).val < 48
  · rw [es.mpr ht, dif_pos (show (rowAt t r).val < 16384 by show t.val / 3 * 1024 + r.val < 16384; omega)]
    show (iblk m c 0 (pt t.val) : Vec Ideal S1024x1024 .f32) (ix2 r k) = _
    rw [if_pos ht, hp] at ea
    blk_point [iblk, V, ea, rowAt]
  · rw [Idealize.ShloMosaic.ValueIdx.eq_zero_of_ne_one (fun e => ht (es.mp e)),
      dif_neg (show ¬ (rowAt t r).val < 16384 by show ¬ t.val / 3 * 1024 + r.val < 16384; omega)]
    show (iblk m c 1 (pt t.val) : Vec Ideal S1024x1024 .f32) (ix2 r k) = _
    rw [if_neg ht, hp] at eb
    blk_point [iblk, V, eb, rowAt]

theorem wide_col (k : Fin 1024) (j : Fin 3072) :
    (iblk m c 2 t : Vec Ideal S1024x3072 .bf16) (ix2 k j) = a2 m c (ix2 k ⟨t.val % 3 * 3072 + j.val, by omega⟩) := by
  blk_point [iblk, V, idx t]

theorem narrow_all : (iblk m c 3 t : Vec Ideal S1024x128 .bf16) = a3 m c := by funext y; blk_point [iblk, V, idx t]

/-- The wide product. -/
theorem final_4 : (dats m 0 c).arrAt 4 (cfgs 0).N = val_main_v3 (F := Ideal) (a0 m c) (a1 m c) (a2 m c) := by
  refine (dats m 0 c).arrAt_eq_of_covers 4 _ (by decide +kernel) fun t hf y => ?_
  blk_simp; rw [after_4]
  refine (pay4_apply _ _ y).trans ?_
  refine Eq.trans ?_ (ref3_apply (a0 m c) (a1 m c) (a2 m c) _).symm
  refine Finset.sum_congr rfl fun k _ => congrArg₂ (· * ·) ((rows_apply m c t (y 0) k).trans ?_) ((wide_col m c t k (y 1)).trans (congrArg _ ?_))
  · have e : ((cfg0.win 4).blk t).view.emb y 0 = rowAt t (y 0) := by
      apply Fin.ext
      blk_simp [rowAt, idx t]
    exact congrArg (fun r => cat m c r k) e.symm
  · blk_ext [idx t]

/-- The narrow product. -/
theorem final_5 : (dats m 0 c).arrAt 5 (cfgs 0).N = val_main_v5 (F := Ideal) (a0 m c) (a1 m c) (a3 m c) := by
  refine (dats m 0 c).arrAt_eq_of_covers 5 _ (by decide +kernel) fun t hf y => ?_
  blk_simp; rw [after_5]
  refine (pay3_apply _ _ _ _ y).trans ?_
  refine Eq.trans ?_ (ref5_apply (a0 m c) (a1 m c) (a3 m c) _).symm
  refine Finset.sum_congr rfl fun k _ => congrArg₂ (· * ·) ((rows_apply m c t (y 0) k).trans ?_) ((congrFun (narrow_all m c (pt t.val)) _).trans (congrArg _ ?_))
  · have e : ((cfg0.win 5).blk t).view.emb y 0 = rowAt t (y 0) := by
      apply Fin.ext
      blk_simp [rowAt, idx t]
    exact congrArg (fun r => cat m c r k) e.symm
  · blk_ext [idx t]

end Cert.InProjIdeal.Rows

end
-- ==== Proof.InProjClaim.lean ====
/- The input projection: the claim, from the result arrays. -/
module

public import proofs.«01_k».proof.Defs
public import proofs.«01_k».proof.Proof.InProjValue
public import proofs.«01_k».proof.Proof.Gen.InProjReferenceIdeal
public import proofs.«01_k».proof.Proof.Gen.InProjReferenceIdeal.Run

@[expose] public section

set_option maxRecDepth 16384

noncomputable section

namespace Cert.InProjIdeal.Rows

open Cert.InProjIdeal Cert.InProjIdeal.Gen
open Idealize.ShloMosaic Idealize.SL.Sem

instance ideal_facts : Cert.InProjIdeal.Facts := Cert.InProjIdeal.Gen.facts
instance reference_facts : Cert.InProjReferenceIdeal.Facts := Cert.InProjReferenceIdeal.Gen.facts

theorem alg : Cert.algebraic_InProjIdeal_InProjReferenceIdeal := by
  intro m g m' g' hpre hagree
  refine ⟨fun c => (dats m 0 c).arrAt 4 (cfgs 0).N, fun c => (dats m 0 c).arrAt 5 (cfgs 0).N,
    (θ_run Cert.InProjIdeal.defs _ _).mono (fun r h c => ⟨(h.1 c).1 4, (h.1 c).1 5, h.2 c⟩)
      (θ_run_and (run_main m g) (unchanged m g)),
    (θ_run Cert.InProjReferenceIdeal.defs _ _).mono (fun r h c => ?_) (Cert.InProjReferenceIdeal.Value.run m' g')⟩
  obtain ⟨e0, e1, e2, e3⟩ := hagree c
  refine ⟨(h c).1.trans ?_, (h c).2.1.trans ?_, (h c).2.2⟩
  · rw [Cert.InProjReferenceIdeal.Read.val_main_v3_eq, e0, e1, e2]
    exact (final_4 m c).symm
  · rw [Cert.InProjReferenceIdeal.Read.val_main_v5_eq, e0, e1, e3]
    exact (final_5 m c).symm

end Cert.InProjIdeal.Rows

end
-- ==== Proof.RowMath.lean ====
/- Facts on extended reals that several of the calls share: the sigmoid written with a hyperbolic tangent is the
   sigmoid written with an exponential. -/
module

public import Idealize.ShloMosaic.Lib.IdealHost
public import Idealize.ShloMosaic.Lib.Claim

@[expose] public section

noncomputable section

namespace Cert.RowMath

open Idealize.ShloMosaic
open scoped BigOperators

/-- The f32 constant 0.5 as an extended real. -/
theorem half_f32 : Ideal.ofBits .f32 0x3F000000#32 = ((1 / 2 : ℝ) : EReal) := by
  simp [Ideal.ofBits, Ideal.ieee]
  rw [← EReal.coe_mul]
  norm_num

/-- On the reals `tanh (x/2) / 2 + 1/2 = 1 / (1 + exp (-x))`. -/
theorem real_sigmoid (r : ℝ) : 1 / 2 * Real.tanh (1 / 2 * r) + 1 / 2 = (1 + Real.exp (-r))⁻¹ := by
  have h1 : Real.exp (1 / 2 * r) ≠ 0 := Real.exp_ne_zero _
  have e1 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, e1, Real.exp_neg]
  have h2 : 0 < Real.exp (1 / 2 * r) := Real.exp_pos _
  field_simp
  ring

/-- The sigmoid by a hyperbolic tangent is the sigmoid by an exponential, at every extended real. -/
theorem sigmoid_tanh (x : EReal) :
    ((1 / 2 : ℝ) : EReal) * Ideal.tanh (((1 / 2 : ℝ) : EReal) * x) + ((1 / 2 : ℝ) : EReal) = Ideal.logistic x := by
  have hp : (0 : ℝ) < 1 / 2 := by norm_num
  induction x using EReal.rec with
  | bot =>
    rw [EReal.coe_mul_bot_of_pos hp, Ideal.tanh_bot, Ideal.logistic_bot, show (-1 : EReal) = ((-1 : ℝ) : EReal) by simp, ← EReal.coe_mul, ← EReal.coe_add]
    norm_num
  | top =>
    rw [EReal.coe_mul_top_of_pos hp, Ideal.tanh_top, Ideal.logistic_top, mul_one, ← EReal.coe_add]
    norm_num
  | coe r => rw [← EReal.coe_mul, Ideal.tanh_coe, Ideal.logistic_coe, ← EReal.coe_mul, ← EReal.coe_add, real_sigmoid]

/-- One entry of a layer norm over a row of 1024, with its gain and its offset. -/
def layerNorm (h : Fin 1024 → EReal) (g b : EReal) (j : Fin 1024) : EReal :=
  (h j - Ideal.div (∑ k, h k) (Ideal.ofBits .f32 0x44800000#32))
    * Ideal.rsqrt (Ideal.div (∑ k, (h k - Ideal.div (∑ k, h k) (Ideal.ofBits .f32 0x44800000#32)) * (h k - Ideal.div (∑ k, h k) (Ideal.ofBits .f32 0x44800000#32))) (Ideal.ofBits .f32 0x44800000#32) + Ideal.ofBits .f32 0x3727C5AC#32) * g + b

/-- The layer norm of equal rows by equal factors. -/
theorem layerNorm_congr {h h' : Fin 1024 → EReal} {g g' b b' : EReal} (hh : ∀ k, h k = h' k) (hg : g = g') (hb : b = b')
    (j : Fin 1024) : layerNorm h g b j = layerNorm h' g' b' j := by
  rw [funext hh, hg, hb]

end Cert.RowMath

end
-- ==== Proof.PostRows.lean ====
/- The mixers' joint part, entry by entry: the block's payloads and the reference's stages are both the same function of
   one row of the residual stream, of the pooled row, of the attention row and of the two gate rows. -/
module

public import proofs.«01_k».proof.Proof.RowMath
public import proofs.«01_k».proof.Proof.Gen.PostIdeal.Frame
public import proofs.«01_k».proof.Proof.Gen.PostIdeal.Value
public import proofs.«01_k».proof.Proof.Gen.PostReferenceIdeal.Read
public import Idealize.ShloMosaic.Lib.Pipeline.Value
public import Idealize.ShloMosaic.Lib.Pointwise
public import Idealize.ShloMosaic.Lib.Claim

@[expose] public section

set_option maxRecDepth 16384

noncomputable section

namespace Cert.PostIdeal.Rows

open Cert.PostIdeal Cert.PostIdeal.Gen Cert.RowMath
open Idealize.ShloMosaic Idealize.ShloMosaic.TcCoe Idealize.SL.Sem
open scoped BigOperators

/-- Entry `j` of a row mapped group by group: columns `256 g …` of the row by the `g`-th of four square matrices. -/
def mixed (p : Fin 1024 → EReal) (w : FVec Ideal S4x256x256 .bf16) (j : Fin 1024) : EReal :=
  ∑ k : Fin 256, p ⟨j.val / 256 * 256 + k.val, by omega⟩ * w (ix3 ⟨j.val / 256, by omega⟩ k ⟨j.val % 256, by omega⟩)

/-- Entry `j` of a row before the layer norm: the scaled residual, plus the gated sum of the two branches mapped by the
    output matrix. -/
def pre (x p : Fin 1024 → EReal) (o : Fin 2048 → EReal) (ga gb : Fin 1024 → EReal) (w : FVec Ideal S4x256x256 .bf16)
    (ps : FVec Ideal S1x1024 .f32) (wb : FVec Ideal S1024x1024 .bf16) (wa : FVec Ideal S2048x1024 .bf16)
    (wo : FVec Ideal S1024x1024 .bf16) (j : Fin 1024) : EReal :=
  Ideal.ofBits .f32 0x3F9837F0#32 * x j
    + ∑ c : Fin 1024, (Ideal.logistic (ga c) * ∑ k : Fin 2048, o k * wa (ix2 k c)
        + Ideal.logistic (gb c) * ∑ k : Fin 1024, mixed p w k * ps (ix2 0 k) * wb (ix2 k c)) * wo (ix2 c j)

/-- The word the point's number is compared by: the first 32 points work on the first array's rows. -/
def sel (i : grid0.Coords) (a b : EReal) : EReal := Scalar.select (Scalar.cmpi .slt (BitVec.ofNat 32 (i 0).val) 32#32) a b

theorem pay1_apply (h : FVec Ideal S512x1024 .f32) (g b : Vec Ideal S1x1024 .f32) (y : S512x1024.Idx) :
    k0_pay1 h g b y = layerNorm (fun k => h (ix2 (y 0) k)) (g (ix2 0 (y 1))) (b (ix2 0 (y 1))) (y 1) := by
  pointwise [k0_pay1, layerNorm]

theorem pay2_apply (h : FVec Ideal S512x1024 .f32) (g b : Vec Ideal S1x1024 .f32) (x : S1x512x512.Idx) :
    k0_pay2 h g b x = k0_pay1 h g b (ix2 (x 1) ⟨(x 2).val, by have : (x 2).val < 512 := (x 2).isLt; omega⟩) := by
  pointwise [k0_pay2]

theorem pay3_apply (h : FVec Ideal S512x1024 .f32) (g b : Vec Ideal S1x1024 .f32) (x : S1x512x512.Idx) :
    k0_pay3 h g b x = k0_pay1 h g b (ix2 (x 1) ⟨512 + (x 2).val, by have : (x 2).val < 512 := (x 2).isLt; omega⟩) := by
  pointwise [k0_pay3]

theorem pay6_apply (i : grid0.Coords) (p0 p1 : Vec Ideal S512x1024 .bf16) (w : Vec Ideal S4x256x256 .bf16) (y : S512x1024.Idx) :
    k0_pay6 i (View.ld p0 r0_0) (View.ld p1 r0_0) (View.ld w r0_2) (View.ld w r0_3) (View.ld w r0_4) (View.ld w r0_5) y
      = mixed (fun k => sel i (p0 (ix2 (y 0) k)) (p1 (ix2 (y 0) k))) w (y 1) := by
  have hy : (y 1).val < 1024 := (y 1).isLt
  pointwise [k0_pay6, mixed, sel]
  have key : ∀ (a : ℕ) (ha : a + 256 ≤ 1024) (g : Fin 4) (hg : g.val * 256 = a) (c : Fin 256) (hc : a + c.val = (y 1).val),
      (∑ x : Fin 256, Scalar.select (Scalar.cmpi .slt (BitVec.ofNat 32 (i 0).val) 32#32) (p0 (ix2 (y 0) ⟨a + x.val, by omega⟩)) (p1 (ix2 (y 0) ⟨a + x.val, by omega⟩))
          * w (ix3 g x c) : EReal)
        = ∑ x : Fin 256, Scalar.select (Scalar.cmpi .slt (BitVec.ofNat 32 (i 0).val) 32#32) (p0 (ix2 (y 0) ⟨(y 1).val / 256 * 256 + x.val, by omega⟩)) (p1 (ix2 (y 0) ⟨(y 1).val / 256 * 256 + x.val, by omega⟩))
          * w (ix3 ⟨(y 1).val / 256, by omega⟩ x ⟨(y 1).val % 256, by omega⟩) := by
    intro a ha g hg c hc
    have e1 : (y 1).val / 256 * 256 = a := by omega
    have e2 : (⟨(y 1).val / 256, by omega⟩ : Fin 4) = g := Fin.ext (by show (y 1).val / 256 = g.val; omega)
    have e3 : (⟨(y 1).val % 256, by omega⟩ : Fin 256) = c := Fin.ext (by show (y 1).val % 256 = c.val; omega)
    simp only [e1, e2, e3]
  split
  · exact (by simpa using key 0 (by omega) 0 (by rfl) ⟨(y 1).val, by assumption⟩ (by simp))
  split
  · exact key 256 (by omega) 1 (by rfl) ⟨(y 1).val - 256, by assumption⟩ (by show 256 + ((y 1).val - 256) = _; omega)
  split
  · exact key 512 (by omega) 2 (by rfl) ⟨(y 1).val - 256 - 256, by assumption⟩ (by show 512 + ((y 1).val - 256 - 256) = _; omega)
  · exact key 768 (by omega) 3 (by rfl) ⟨(y 1).val - 256 - 256 - 256, by omega⟩ (by show 768 + ((y 1).val - 256 - 256 - 256) = _; omega)

theorem pay8_apply (i : grid0.Coords) (x0 x1 : Vec Ideal S512x1024 .bf16) (x2 x3 : Vec Ideal S512x2048 .bf16)
    (x4 x5 : Vec Ideal S512x1024 .bf16) (x6 x7 : Vec Ideal S512x1024 .f32) (x8 : Vec Ideal S4x256x256 .bf16)
    (x9 : Vec Ideal S1x1024 .f32) (x10 : Vec Ideal S1024x1024 .bf16) (x11 : Vec Ideal S2048x1024 .bf16)
    (x12 : Vec Ideal S1024x1024 .bf16) (x13 x14 : Vec Ideal S1x1024 .f32) (y : S512x1024.Idx) :
    k0_pay8 i x0 x1 x2 x3 x4 x5 x6 x7 x8 x9 x10 x11 x12 x13 x14 y
      = pre (fun k => sel i (x6 (ix2 (y 0) k)) (x7 (ix2 (y 0) k))) (fun k => sel i (x0 (ix2 (y 0) k)) (x1 (ix2 (y 0) k)))
          (fun k => sel i (x2 (ix2 (y 0) k)) (x3 (ix2 (y 0) k))) (fun k => x4 (ix2 (y 0) k)) (fun k => x5 (ix2 (y 0) k))
          x8 x9 x10 x11 x12 (y 1) := by
  unfold k0_pay8
  pointwise [k0_pay7, k0_pay4, k0_pay5, pre]
  simp only [half_f32, sigmoid_tanh, pay6_apply]
  rfl

/-- Row `r` of two arrays one after the other. -/
def cat {n : ℕ} (a : Fin 16384 → Fin n → EReal) (b : Fin 1024 → Fin n → EReal) (r : Fin 17408) (k : Fin n) : EReal :=
  if h : r.val < 16384 then a ⟨r.val, h⟩ k else b ⟨r.val - 16384, by omega⟩ k

open Cert.PostReferenceIdeal.Read

section Reference

variable (x0 : FVec Ideal Cert.PostReferenceIdeal.S16384x1024 .bf16) (x1 : FVec Ideal Cert.PostReferenceIdeal.S1024x1024 .bf16)
    (x2 : FVec Ideal Cert.PostReferenceIdeal.S16384x2048 .bf16) (x3 : FVec Ideal Cert.PostReferenceIdeal.S1024x2048 .bf16)
    (x4 : FVec Ideal Cert.PostReferenceIdeal.S17408x9216 .bf16) (x5 : FVec Ideal Cert.PostReferenceIdeal.S16384x1024 .f32)
    (x6 : FVec Ideal Cert.PostReferenceIdeal.S1024x1024 .f32) (x7 : FVec Ideal Cert.PostReferenceIdeal.S4x256x256 .bf16)
    (x8 : FVec Ideal Cert.PostReferenceIdeal.S1x1024 .f32) (x9 : FVec Ideal Cert.PostReferenceIdeal.S1024x1024 .bf16)
    (x10 : FVec Ideal Cert.PostReferenceIdeal.S2048x1024 .bf16) (x11 : FVec Ideal Cert.PostReferenceIdeal.S1024x1024 .bf16)
    (x12 x13 : FVec Ideal Cert.PostReferenceIdeal.S1x1024 .f32)

/-- Row `r` of the reference before the layer norm. -/
def preRow (r : Fin 17408) (j : Fin 1024) : EReal :=
  pre (cat (fun r k => x5 (ix2 r k)) (fun r k => x6 (ix2 r k)) r) (cat (fun r k => x0 (ix2 r k)) (fun r k => x1 (ix2 r k)) r)
    (cat (fun r k => x2 (ix2 r k)) (fun r k => x3 (ix2 r k)) r) (fun k => x4 (ix2 r ⟨7168 + k.val, by omega⟩))
    (fun k => x4 (ix2 r ⟨8192 + k.val, by omega⟩)) x7 x8 x9 x10 x11 j

theorem ref39_apply (i : Cert.PostReferenceIdeal.S17408x1024.Idx) :
    val_main_v39 (F := Ideal) x0 x1 x2 x3 x4 x5 x6 x7 x8 x9 x10 x11 i = preRow x0 x1 x2 x3 x4 x5 x6 x7 x8 x9 x10 x11 (i 0) (i 1) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, preRow, pre, mixed, cat]
  simp only [Ideal.logistic, mul_comm (x7 _)]

theorem ref61_apply (i : Cert.PostReferenceIdeal.S17408x1024.Idx) :
    val_main_v61 (F := Ideal) x0 x1 x2 x3 x4 x5 x6 x7 x8 x9 x10 x11 x12 x13 i
      = layerNorm (preRow x0 x1 x2 x3 x4 x5 x6 x7 x8 x9 x10 x11 (i 0)) (x12 (ix2 0 (i 1))) (x13 (ix2 0 (i 1))) (i 1) := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_cst_4, val_main_cst_5, val_main_cst_6, val_main_cst_7, val_main_cst_8, layerNorm]
  simp only [ref39_apply]
  rfl

theorem ref64_apply (i : Cert.PostReferenceIdeal.S2x17408x512.Idx) :
    val_main_v64 (F := Ideal) x0 x1 x2 x3 x4 x5 x6 x7 x8 x9 x10 x11 x12 x13 i
      = val_main_v61 (F := Ideal) x0 x1 x2 x3 x4 x5 x6 x7 x8 x9 x10 x11 x12 x13 (ix2 (i 1) ⟨(i 0).val * 512 + (i 2).val, by have h0 : (i 0).val < 2 := (i 0).isLt; have h2 : (i 2).val < 512 := (i 2).isLt; omega⟩) := by
  pointwise [val_main_v62, val_main_v63, val_main_v64]

end Reference

end Cert.PostIdeal.Rows

end
-- ==== Proof.PostValue.lean ====
/- The mixers' joint part: the two result arrays of the kernel are the reference's. -/
module

public import proofs.«01_k».proof.Proof.PostRows
public import Idealize.ShloMosaic.Lib.Pipeline.ValueKit
public import Idealize.ShloMosaic.Lib.ValueIdx

@[expose] public section

set_option maxRecDepth 16384

noncomputable section

namespace Cert.PostIdeal.Rows

open Cert.PostIdeal Cert.PostIdeal.Gen Cert.RowMath
open Idealize.ShloMosaic Idealize.ShloMosaic.TcCoe Idealize.SL.Sem
open Idealize.ShloMosaic.Pipeline (Dat)
open Cert.PostReferenceIdeal.Read
open scoped BigOperators

variable (m : (ℓ : Loc nD τ sig) → Buf (Elt Ideal) ℓ)

/-- Where each window's block sits at each point. -/
theorem idx : ∀ t : Fin cfg0.N, win0_0.index t = ![if t.val < 32 then t.val else 31, 0]
    ∧ win0_1.index t = ![if t.val < 32 then 0 else t.val - 32, 0]
    ∧ win0_2.index t = ![if t.val < 32 then t.val else 31, 0]
    ∧ win0_3.index t = ![if t.val < 32 then 0 else t.val - 32, 0]
    ∧ win0_4.index t = ![t.val, 7]
    ∧ win0_5.index t = ![t.val, 8]
    ∧ win0_6.index t = ![if t.val < 32 then t.val else 31, 0]
    ∧ win0_7.index t = ![if t.val < 32 then 0 else t.val - 32, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val, 0]
    ∧ win0_16.index t = ![0, t.val, 0]
    ∧ (Scalar.cmpi .slt (BitVec.ofNat 32 ((grid0.coords t) 0).val) 32#32 = 1#1 ↔ t.val < 32) ∧ t.val < 34 :=
  (by decide +kernel : ∀ t : Fin grid0.N, _)

/-- The row of the whole arrays that row `r` of a block at point `t` is. -/
def rowAt (t : Fin cfg0.N) (r : Fin 512) : Fin 17408 :=
  ⟨t.val * 512 + r.val, by have : t.val < 34 := (idx t).2.2.2.2.2.2.2.2.2.2.2.2.2.2.2.2.2.2; omega⟩

variable (c : Dev nD) (t : Fin cfg0.N)

/-- The arrays the region finds, in the order of the arguments. -/
abbrev a0 : FVec Ideal S16384x1024 .bf16 := m ((c : Thread nD τ).loc main_arg0)
abbrev a1 : FVec Ideal S1024x1024 .bf16 := m ((c : Thread nD τ).loc main_arg1)
abbrev a2 : FVec Ideal S16384x2048 .bf16 := m ((c : Thread nD τ).loc main_arg2)
abbrev a3 : FVec Ideal S1024x2048 .bf16 := m ((c : Thread nD τ).loc main_arg3)
abbrev a4 : FVec Ideal S17408x9216 .bf16 := m ((c : Thread nD τ).loc main_arg4)
abbrev a5 : FVec Ideal S16384x1024 .f32 := m ((c : Thread nD τ).loc main_arg5)
abbrev a6 : FVec Ideal S1024x1024 .f32 := m ((c : Thread nD τ).loc main_arg6)
abbrev a7 : FVec Ideal S4x256x256 .bf16 := m ((c : Thread nD τ).loc main_arg7)
abbrev a8 : FVec Ideal S1x1024 .f32 := m ((c : Thread nD τ).loc main_arg8)
abbrev a9 : FVec Ideal S1024x1024 .bf16 := m ((c : Thread nD τ).loc main_arg9)
abbrev a10 : FVec Ideal S2048x1024 .bf16 := m ((c : Thread nD τ).loc main_arg10)
abbrev a11 : FVec Ideal S1024x1024 .bf16 := m ((c : Thread nD τ).loc main_arg11)
abbrev a12 : FVec Ideal S1x1024 .f32 := m ((c : Thread nD τ).loc main_arg12)
abbrev a13 : FVec Ideal S1x1024 .f32 := m ((c : Thread nD τ).loc main_arg13)

/-- Choosing between the two blocks of a point is reading the joined array at the point's row. -/
theorem sel_cat {n : ℕ} (a : Fin 16384 → Fin n → EReal) (b : Fin 1024 → Fin n → EReal) (x y : EReal) (r : Fin 512) (k : Fin n)
    (hx : ∀ h : t.val < 32, x = a ⟨t.val * 512 + r.val, by omega⟩ k)
    (hy : ∀ (h : ¬ t.val < 32) (hb : t.val * 512 + r.val - 16384 < 1024), y = b ⟨t.val * 512 + r.val - 16384, hb⟩ k) :
    sel (grid0.coords t) x y = cat a b (rowAt t r) k := by
  obtain ⟨-, -, -, -, -, -, -, -, -, -, -, -, -, -, -, -, -, es, hN⟩ := idx t
  unfold sel cat
  by_cases ht : t.val < 32
  · rw [es.mpr ht, dif_pos (show (rowAt t r).val < 16384 by show t.val * 512 + r.val < 16384; omega)]
    exact hx ht
  · rw [Idealize.ShloMosaic.ValueIdx.eq_zero_of_ne_one (fun e => ht (es.mp e)),
      dif_neg (show ¬ (rowAt t r).val < 16384 by show ¬ t.val * 512 + r.val < 16384; omega)]
    exact hy ht _

theorem row_x (r : Fin 512) (k : Fin 1024) :
    sel (grid0.coords t) ((iblk m c 6 t : Vec Ideal S512x1024 .f32) (ix2 r k)) ((iblk m c 7 t : Vec Ideal S512x1024 .f32) (ix2 r k))
      = cat (fun r k => a5 m c (ix2 r k)) (fun r k => a6 m c (ix2 r k)) (rowAt t r) k := by
  obtain ⟨-, -, -, -, -, -, ea, eb, -⟩ := idx t
  refine sel_cat t _ _ _ _ r k (fun h => ?_) (fun h hb => ?_)
  · rw [if_pos h] at ea
    blk_point [iblk, V, ea]
  · rw [if_neg h] at eb
    blk_point [iblk, V, eb]

theorem row_p (r : Fin 512) (k : Fin 1024) :
    sel (grid0.coords t) ((iblk m c 0 t : Vec Ideal S512x1024 .bf16) (ix2 r k)) ((iblk m c 1 t : Vec Ideal S512x1024 .bf16) (ix2 r k))
      = cat (fun r k => a0 m c (ix2 r k)) (fun r k => a1 m c (ix2 r k)) (rowAt t r) k := by
  obtain ⟨ea, eb, -⟩ := idx t
  refine sel_cat t _ _ _ _ r k (fun h => ?_) (fun h hb => ?_)
  · rw [if_pos h] at ea
    blk_point [iblk, V, ea]
  · rw [if_neg h] at eb
    blk_point [iblk, V, eb]

theorem row_o (r : Fin 512) (k : Fin 2048) :
    sel (grid0.coords t) ((iblk m c 2 t : Vec Ideal S512x2048 .bf16) (ix2 r k)) ((iblk m c 3 t : Vec Ideal S512x2048 .bf16) (ix2 r k))
      = cat (fun r k => a2 m c (ix2 r k)) (fun r k => a3 m c (ix2 r k)) (rowAt t r) k := by
  obtain ⟨-, -, ea, eb, -⟩ := idx t
  refine sel_cat t _ _ _ _ r k (fun h => ?_) (fun h hb => ?_)
  · rw [if_pos h] at ea
    blk_point [iblk, V, ea]
  · rw [if_neg h] at eb
    blk_point [iblk, V, eb]

theorem row_ga (r : Fin 512) (k : Fin 1024) :
    (iblk m c 4 t : Vec Ideal S512x1024 .bf16) (ix2 r k) = a4 m c (ix2 (rowAt t r) ⟨7168 + k.val, by omega⟩) := by
  blk_point [iblk, V, rowAt, idx t]

theorem row_gb (r : Fin 512) (k : Fin 1024) :
    (iblk m c 5 t : Vec Ideal S512x1024 .bf16) (ix2 r k) = a4 m c (ix2 (rowAt t r) ⟨8192 + k.val, by omega⟩) := by
  blk_point [iblk, V, rowAt, idx t]

theorem all_7 : (iblk m c 8 t : Vec Ideal S4x256x256 .bf16) = a7 m c := by funext y; blk_point [iblk, V, idx t]
theorem all_8 : (iblk m c 9 t : Vec Ideal S1x1024 .f32) = a8 m c := by funext y; blk_point [iblk, V, idx t]
theorem all_9 : (iblk m c 10 t : Vec Ideal S1024x1024 .bf16) = a9 m c := by funext y; blk_point [iblk, V, idx t]
theorem all_10 : (iblk m c 11 t : Vec Ideal S2048x1024 .bf16) = a10 m c := by funext y; blk_point [iblk, V, idx t]
theorem all_11 : (iblk m c 12 t : Vec Ideal S1024x1024 .bf16) = a11 m c := by funext y; blk_point [iblk, V, idx t]
theorem all_12 : (iblk m c 13 t : Vec Ideal S1x1024 .f32) = a12 m c := by funext y; blk_point [iblk, V, idx t]
theorem all_13 : (iblk m c 14 t : Vec Ideal S1x1024 .f32) = a13 m c := by funext y; blk_point [iblk, V, idx t]

/-- A row of the block before the layer norm is the reference's row. -/
theorem pre_block (y : S512x1024.Idx) :
    k0_pay8 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) y
      = preRow (a0 m c) (a1 m c) (a2 m c) (a3 m c) (a4 m c) (a5 m c) (a6 m c) (a7 m c) (a8 m c) (a9 m c) (a10 m c) (a11 m c)
          (rowAt t (y 0)) (y 1) := by
  refine (pay8_apply (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) y).trans ?_
  unfold preRow
  rw [← funext (row_x m c t (y 0)), ← funext (row_p m c t (y 0)), ← funext (row_o m c t (y 0)), ← all_7 m c t, ← all_8 m c t,
    ← all_9 m c t, ← all_10 m c t, ← all_11 m c t, ← funext (row_ga m c t (y 0)), ← funext (row_gb m c t (y 0))]

/-- An entry of the row after the layer norm is the reference's entry. -/
theorem norm_block (y : S512x1024.Idx) :
    k0_pay1 (k0_pay8 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t)) (iblk m c 13 t) (iblk m c 14 t) y
      = val_main_v61 (F := Ideal) (a0 m c) (a1 m c) (a2 m c) (a3 m c) (a4 m c) (a5 m c) (a6 m c) (a7 m c) (a8 m c) (a9 m c)
          (a10 m c) (a11 m c) (a12 m c) (a13 m c) (ix2 (rowAt t (y 0)) (y 1)) := by
  refine (pay1_apply _ _ _ y).trans ?_
  refine Eq.trans ?_ (ref61_apply (a0 m c) (a1 m c) (a2 m c) (a3 m c) (a4 m c) (a5 m c) (a6 m c) (a7 m c) (a8 m c) (a9 m c)
          (a10 m c) (a11 m c) (a12 m c) (a13 m c) (ix2 (rowAt t (y 0)) (y 1))).symm
  exact layerNorm_congr (fun k => pre_block m c t (ix2 (y 0) k)) (congrFun (all_12 m c t) _) (congrFun (all_13 m c t) _) _

/-- What a point leaves of the first result array is the reference's. -/
theorem final_15 : (dats m 0 c).arrAt 15 (cfgs 0).N = val_main_v61 (F := Ideal) (a0 m c) (a1 m c) (a2 m c) (a3 m c) (a4 m c)
    (a5 m c) (a6 m c) (a7 m c) (a8 m c) (a9 m c) (a10 m c) (a11 m c) (a12 m c) (a13 m c) := by
  refine (dats m 0 c).arrAt_eq_of_covers 15 _ (by decide +kernel) fun t hf y => ?_
  blk_simp; rw [after0_15]; frame_out
  refine (norm_block m c t y).trans (congrArg _ ?_)
  blk_ext [rowAt, idx t]

/-- What a point leaves of the second result array, whose halves are kept one after the other, is the reference's. -/
theorem final_16 : (dats m 0 c).arrAt 16 (cfgs 0).N = val_main_v64 (F := Ideal) (a0 m c) (a1 m c) (a2 m c) (a3 m c) (a4 m c)
    (a5 m c) (a6 m c) (a7 m c) (a8 m c) (a9 m c) (a10 m c) (a11 m c) (a12 m c) (a13 m c) := by
  refine (dats m 0 c).arrAt_eq_of_covers 16 _ (by decide +kernel) fun t hf y => ?_
  blk_simp; rw [after0_16]
  refine Eq.trans ?_ (ref64_apply (a0 m c) (a1 m c) (a2 m c) (a3 m c) (a4 m c) (a5 m c) (a6 m c) (a7 m c) (a8 m c) (a9 m c)
    (a10 m c) (a11 m c) (a12 m c) (a13 m c) _).symm
  canon_tiles x h
  · simp (disch := decide) only [View.ld_unit_lit', r0_6]
    refine (pay3_apply _ _ _ x).trans ?_
    refine (norm_block m c t (ix2 (x 1) ⟨512 + (x 2).val, by omega⟩)).trans (congrArg _ ?_)
    blk_ext [rowAt, idx t]
  · simp (disch := decide) only [View.ld_unit_lit', r0_6]
    refine (pay2_apply _ _ _ x).trans ?_
    refine (norm_block m c t (ix2 (x 1) ⟨(x 2).val, by omega⟩)).trans (congrArg _ ?_)
    blk_ext [rowAt, idx t]

end Cert.PostIdeal.Rows

end
-- ==== Proof.PostClaim.lean ====
/- The mixers' joint part: the claim, from the result arrays. -/
module

public import proofs.«01_k».proof.Defs
public import proofs.«01_k».proof.Proof.PostValue
public import proofs.«01_k».proof.Proof.Gen.PostReferenceIdeal
public import proofs.«01_k».proof.Proof.Gen.PostReferenceIdeal.Run

@[expose] public section

set_option maxRecDepth 16384

noncomputable section

namespace Cert.PostIdeal.Rows

open Idealize.ShloMosaic Idealize.SL.Sem

instance ideal_facts : Cert.PostIdeal.Facts := Cert.PostIdeal.Gen.facts
instance reference_facts : Cert.PostReferenceIdeal.Facts := Cert.PostReferenceIdeal.Gen.facts

theorem alg : Cert.algebraic_PostIdeal_PostReferenceIdeal := by
  intro m g m' g' hpre hagree
  refine ⟨_, _, Cert.PostIdeal.Value.run_blocks m g,
    (θ_run Cert.PostReferenceIdeal.defs _ _).mono (fun r h c => ?_) (Cert.PostReferenceIdeal.Value.run m' g')⟩
  obtain ⟨e0, e1, e2, e3, e4, e5, e6, e7, e8, e9, e10, e11, e12, e13⟩ := hagree c
  refine ⟨(h c).1.trans ?_, (h c).2.1.trans ?_, (h c).2.2⟩
  · rw [Cert.PostReferenceIdeal.Read.val_main_v61_eq, e0, e1, e2, e3, e4, e5, e6, e7, e8, e9, e10, e11, e12, e13]
    exact (final_15 m c).symm
  · rw [Cert.PostReferenceIdeal.Read.val_main_v64_eq, e0, e1, e2, e3, e4, e5, e6, e7, e8, e9, e10, e11, e12, e13]
    exact (final_16 m c).symm

end Cert.PostIdeal.Rows

end
-- ==== Proof.InProjFrame.lean ====
/- The input projection as printed and its ideal reading are one program, so the frame proved of the one is the frame
   of the other, at the words' floats. -/
module

public import proofs.«01_k».proof.Defs
public import proofs.«01_k».proof.Proof.InProjRun
public import proofs.«01_k».proof.Proof.Gen.InProj

@[expose] public section

set_option maxRecDepth 16384

noncomputable section

namespace Cert.InProjIdeal.Rows

open Idealize.ShloMosaic Idealize.SL.Sem

instance printed_facts : Cert.InProj.Facts := Cert.InProj.Gen.facts

/-- The two programs' kernel bodies are the same. -/
theorem bodies : Cert.InProj.defs₀ (F := Bits) = Cert.InProjIdeal.defs₀ (F := Bits) := by
  unfold Cert.InProj.defs₀ Cert.InProjIdeal.defs₀
  refine congrArg _ ?_
  funext l a
  match l, a with
  | 0, (t, s) => rfl
  | ⟨_ + 1, h⟩, _ => exact absurd h (Nat.not_lt.2 (Nat.le_add_left _ _))

/-- The two programs' tables of bodies are the same. -/
theorem tables : Cert.InProj.defs (F := Bits) = Cert.InProjIdeal.defs (F := Bits) := by
  unfold Cert.InProj.defs Cert.InProjIdeal.defs
  rw [bodies]
  rfl

/-- The printed program ends without fault, its arguments unchanged and its counters at zero. -/
theorem frame_printed : Cert.quiescent_InProj := fun m ρ _ => by
  rw [tables]
  exact frame (F := Bits) m ρ

end Cert.InProjIdeal.Rows

end
-- ==== Proof.CombineRun.lean ====
/- The run of the combination with its layer norm, with what each output array ends holding. A point of the first 32
   writes its block of rows to the first result and leaves the second result's buffer alone; a point of the last two
   does the opposite. The first result's last block is written back only at the very end, from the buffer that the
   last two points leave alone. -/
module

public import proofs.«01_k».proof.Proof.Gen.CombineIdeal.Frame
public import proofs.«01_k».proof.Proof.Gen.CombineIdeal.Skeleton
public import Idealize.ShloMosaic.Lib.Pipeline.ValueKit
public import Idealize.ShloMosaic.Lib.Claim

@[expose] public section

set_option maxRecDepth 16384

noncomputable section

namespace Cert.CombineIdeal.Rows

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- The rectangle of the whole of each input block that the body reads at once. -/
abbrev rw1 : Rect S512x8 := Rect.unit (s := S512x8) ![0, 0] S512x8.size inb_S512x8_S512x8_0_0
abbrev rh : Rect S512x1024 := Rect.unit (s := S512x1024) ![0, 0] S512x1024.size inb_S512x1024_S512x1024_0_0
abbrev rg : Rect S1024x512 := Rect.unit (s := S1024x512) ![0, 0] S1024x512.size inb_S1024x512_S1024x512_0_0
abbrev rd : Rect S256x1024 := Rect.unit (s := S256x1024) ![0, 0] S256x1024.size inb_S256x1024_S256x1024_0_0
abbrev rv : Rect S1x1024 := Rect.unit (s := S1x1024) ![0, 0] S1x1024.size inb_S1x1024_S1x1024_0_0

/-- The rectangle of half a routed row: half `j`, expert slot `k`. -/
abbrev p00 : Rect S2x8x512x512 := Rect.unit (s := S2x8x512x512) ![0, 0, 0, 0] S1x1x512x512.size inb_S2x8x512x512_S1x1x512x512_0_0_0_0
abbrev p01 : Rect S2x8x512x512 := Rect.unit (s := S2x8x512x512) ![0, 1, 0, 0] S1x1x512x512.size inb_S2x8x512x512_S1x1x512x512_0_1_0_0
abbrev p02 : Rect S2x8x512x512 := Rect.unit (s := S2x8x512x512) ![0, 2, 0, 0] S1x1x512x512.size inb_S2x8x512x512_S1x1x512x512_0_2_0_0
abbrev p03 : Rect S2x8x512x512 := Rect.unit (s := S2x8x512x512) ![0, 3, 0, 0] S1x1x512x512.size inb_S2x8x512x512_S1x1x512x512_0_3_0_0
abbrev p04 : Rect S2x8x512x512 := Rect.unit (s := S2x8x512x512) ![0, 4, 0, 0] S1x1x512x512.size inb_S2x8x512x512_S1x1x512x512_0_4_0_0
abbrev p05 : Rect S2x8x512x512 := Rect.unit (s := S2x8x512x512) ![0, 5, 0, 0] S1x1x512x512.size inb_S2x8x512x512_S1x1x512x512_0_5_0_0
abbrev p06 : Rect S2x8x512x512 := Rect.unit (s := S2x8x512x512) ![0, 6, 0, 0] S1x1x512x512.size inb_S2x8x512x512_S1x1x512x512_0_6_0_0
abbrev p07 : Rect S2x8x512x512 := Rect.unit (s := S2x8x512x512) ![0, 7, 0, 0] S1x1x512x512.size inb_S2x8x512x512_S1x1x512x512_0_7_0_0
abbrev p10 : Rect S2x8x512x512 := Rect.unit (s := S2x8x512x512) ![1, 0, 0, 0] S1x1x512x512.size inb_S2x8x512x512_S1x1x512x512_1_0_0_0
abbrev p11 : Rect S2x8x512x512 := Rect.unit (s := S2x8x512x512) ![1, 1, 0, 0] S1x1x512x512.size inb_S2x8x512x512_S1x1x512x512_1_1_0_0
abbrev p12 : Rect S2x8x512x512 := Rect.unit (s := S2x8x512x512) ![1, 2, 0, 0] S1x1x512x512.size inb_S2x8x512x512_S1x1x512x512_1_2_0_0
abbrev p13 : Rect S2x8x512x512 := Rect.unit (s := S2x8x512x512) ![1, 3, 0, 0] S1x1x512x512.size inb_S2x8x512x512_S1x1x512x512_1_3_0_0
abbrev p14 : Rect S2x8x512x512 := Rect.unit (s := S2x8x512x512) ![1, 4, 0, 0] S1x1x512x512.size inb_S2x8x512x512_S1x1x512x512_1_4_0_0
abbrev p15 : Rect S2x8x512x512 := Rect.unit (s := S2x8x512x512) ![1, 5, 0, 0] S1x1x512x512.size inb_S2x8x512x512_S1x1x512x512_1_5_0_0
abbrev p16 : Rect S2x8x512x512 := Rect.unit (s := S2x8x512x512) ![1, 6, 0, 0] S1x1x512x512.size inb_S2x8x512x512_S1x1x512x512_1_6_0_0
abbrev p17 : Rect S2x8x512x512 := Rect.unit (s := S2x8x512x512) ![1, 7, 0, 0] S1x1x512x512.size inb_S2x8x512x512_S1x1x512x512_1_7_0_0

/-- The first quarter of the columns of the weighted sum of the first seven routed rows. -/
def quarter0 (x0 : Vec F S2x8x512x512 .bf16) (x1 : Vec F S512x8 .f32) : FVec F S512x256 .f32 :=
  k0_pay43 (View.ld x1 rw1) (k0_pay31 (View.ld x1 rw1) (k0_pay17 (View.ld x1 rw1) (k0_pay12 (View.ld x1 rw1) (View.ld x0 p00) (View.ld x0 p01)) (View.ld x0 p02)) (k0_pay23 (View.ld x0 p03)) (k0_pay27 (View.ld x1 rw1)) (View.ld x0 p04)) (k0_pay37 (View.ld x0 p05)) (View.ld x0 p06)

/-- The second quarter of the columns of the weighted sum of the first seven routed rows. -/
def quarter1 (x0 : Vec F S2x8x512x512 .bf16) (x1 : Vec F S512x8 .f32) : FVec F S512x256 .f32 :=
  k0_pay44 (View.ld x1 rw1) (k0_pay32 (View.ld x1 rw1) (k0_pay18 (View.ld x1 rw1) (k0_pay13 (View.ld x1 rw1) (View.ld x0 p00) (View.ld x0 p01)) (View.ld x0 p02)) (k0_pay24 (View.ld x0 p03)) (k0_pay27 (View.ld x1 rw1)) (View.ld x0 p04)) (k0_pay38 (View.ld x0 p05)) (View.ld x0 p06)

/-- The third quarter of the columns of the weighted sum of the first seven routed rows. -/
def quarter2 (x0 : Vec F S2x8x512x512 .bf16) (x1 : Vec F S512x8 .f32) : FVec F S512x256 .f32 :=
  k0_pay45 (View.ld x1 rw1) (k0_pay33 (View.ld x1 rw1) (k0_pay19 (View.ld x1 rw1) (k0_pay5 (View.ld x1 rw1) (View.ld x0 p10)) (k0_pay9 (View.ld x0 p11)) (k0_pay11 (View.ld x1 rw1)) (View.ld x0 p12)) (k0_pay25 (View.ld x0 p13)) (k0_pay27 (View.ld x1 rw1)) (View.ld x0 p14)) (k0_pay36 (View.ld x0 p15)) (View.ld x0 p16)

/-- The fourth quarter of the columns of the weighted sum of the first seven routed rows. -/
def quarter3 (x0 : Vec F S2x8x512x512 .bf16) (x1 : Vec F S512x8 .f32) : FVec F S512x256 .f32 :=
  k0_pay46 (View.ld x1 rw1) (k0_pay34 (View.ld x1 rw1) (k0_pay20 (View.ld x1 rw1) (k0_pay6 (View.ld x1 rw1) (View.ld x0 p10)) (k0_pay10 (View.ld x0 p11)) (k0_pay11 (View.ld x1 rw1)) (View.ld x0 p12)) (k0_pay26 (View.ld x0 p13)) (k0_pay27 (View.ld x1 rw1)) (View.ld x0 p14)) (k0_pay36 (View.ld x0 p15)) (View.ld x0 p16)

/-- The rows before the layer norm: the scaled residual, the eight weighted routed rows and the shared expert. -/
def preNorm (x0 : Vec F S2x8x512x512 .bf16) (x1 : Vec F S512x8 .f32) (x2 : Vec F S512x1024 .f32) (x3 : Vec F S1024x512 .bf16) (x4 : Vec F S256x1024 .bf16) : FVec F S512x1024 .f32 :=
  k0_pay48 (View.ld x1 rw1) (quarter0 x0 x1) (quarter1 x0 x1) (quarter2 x0 x1) (quarter3 x0 x1) (k0_pay47 (View.ld x0 p07)) (View.ld x0 p17) (View.ld x2 rh) (View.ld x3 rg) (View.ld x4 rd)

/-- The block of the result that a point computes. -/
def outBlk (x0 : Vec F S2x8x512x512 .bf16) (x1 : Vec F S512x8 .f32) (x2 : Vec F S512x1024 .f32) (x3 : Vec F S1024x512 .bf16) (x4 : Vec F S256x1024 .bf16) (x5 : Vec F S1x1024 .f32) (x6 : Vec F S1x1024 .f32) : Vec F S512x1024 .f32 :=
  View.canon [⟨rh, k0_pay1 (preNorm x0 x1 x2 x3 x4) (View.ld x5 rv) (View.ld x6 rv)⟩]

/-- The one store of the block covers its buffer. -/
theorem cover_out (p : Vec F S512x1024 .f32) (y : S512x1024.Idx) :
    ∃ pc ∈ ([⟨rh, p⟩] : List (View.Piece (Elt F) S512x1024 .f32)), y ∈ pc.1.set :=
  View.cover_of_tiled [⟨rh, p⟩] S512x1024.size (by rfl) y

/-! ## The body's two cases -/

theorem cond_1 : ∀ t : Fin cfg0.N, k0_cond1 (grid0.coords t) = 1#1 ↔ t.val < 32 :=
  (by decide +kernel : ∀ t : Fin grid0.N, k0_cond1 (grid0.coords t) = 1#1 ↔ t.val < 32)

theorem cond_2 : ∀ t : Fin cfg0.N, k0_cond2 (grid0.coords t) = 1#1 ↔ ¬ t.val < 32 :=
  (by decide +kernel : ∀ t : Fin grid0.N, k0_cond2 (grid0.coords t) = 1#1 ↔ ¬ t.val < 32)

set_option maxHeartbeats 1000000 in
/-- The body at one of the first 32 points: the block goes to the first result's buffer. -/
theorem run_front (c : Dev nD) (i : grid0.Coords) (arg1 : Memref sig .tc .vmem S2x8x512x512 .bf16) (harg1 : arg1.IsWhole) (arg2 : Memref sig .tc .vmem S512x8 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : k0_cond1 i = 1#1) (hc1 : ¬ k0_cond2 i = 1#1)
    (x0 : Vec F S2x8x512x512 .bf16) (x1 : Vec F S512x8 .f32) (x2 : Vec F S512x1024 .f32) (x3 : Vec F S1024x512 .bf16) (x4 : Vec F S256x1024 .bf16) (x5 : Vec F S1x1024 .f32) (x6 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc0_combine_ln2 i arg1 harg1 arg2 harg2 arg3 harg3 arg4 harg4 arg5 harg5 arg6 harg6 arg7 harg7 arg8 harg8 arg9 harg9) K := by
  simp only [cc0_combine_ln2_eq_skeleton]; unfold cc0_combine_ln2_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr; swap; · iexact H7
  ipureintro
  refine (View.read_writes_eq_canon _ _ _ (cover_out _)).trans ?_
  rfl

set_option maxHeartbeats 1000000 in
/-- The body at one of the last two points: the block goes to the second result's buffer. -/
theorem run_back (c : Dev nD) (i : grid0.Coords) (arg1 : Memref sig .tc .vmem S2x8x512x512 .bf16) (harg1 : arg1.IsWhole) (arg2 : Memref sig .tc .vmem S512x8 .f32) (harg2 : arg2.IsWhole) (arg3 : Memref sig .tc .vmem S512x1024 .f32) (harg3 : arg3.IsWhole) (arg4 : Memref sig .tc .vmem S1024x512 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬ k0_cond1 i = 1#1) (hc1 : k0_cond2 i = 1#1)
    (x0 : Vec F S2x8x512x512 .bf16) (x1 : Vec F S512x8 .f32) (x2 : Vec F S512x1024 .f32) (x3 : Vec F S1024x512 .bf16) (x4 : Vec F S256x1024 .bf16) (x5 : Vec F S1x1024 .f32) (x6 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare (outBlk x0 x1 x2 x3 x4 x5 x6)) -∗ K ⟨⟩))
      ⊢ wp frame (wpE (defs₀ (F := F)) Variants.none c none) E (cc0_combine_ln2 i arg1 harg1 arg2 harg2 arg3 harg3 arg4 harg4 arg5 harg5 arg6 harg6 arg7 harg7 arg8 harg8 arg9 harg9) K := by
  simp only [cc0_combine_ln2_eq_skeleton]; unfold cc0_combine_ln2_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr; swap; · iexact H7
  ipureintro
  refine (View.read_writes_eq_canon _ _ _ (cover_out _)).trans ?_
  rfl

/-! ## The proof data -/

/-- The block that point `t` computes. -/
def blk (c : Dev nD) (t : Fin cfg0.N) : Vec F S512x1024 .f32 :=
  outBlk (iblk m c 0 t) (iblk m c 1 t) (iblk m c 2 t) (iblk m c 3 t) (iblk m c 4 t) (iblk m c 5 t) (iblk m c 6 t)

/-- Point number `n`. -/
def pt (n : ℕ) : Fin cfg0.N := ⟨n % 34, lt_of_lt_of_eq (Nat.mod_lt _ (by decide)) (show 34 = cfg0.N from N_0.symm)⟩

theorem pt_val (t : Fin cfg0.N) : pt t.val = t :=
  Fin.ext (Nat.mod_eq_of_lt (lt_of_lt_of_eq t.isLt (show cfg0.N = 34 from N_0)))

/-- The proof data of the pipeline: the arrays as the launch finds them; after the body at a point each input at its
    block, the first result's buffer at the last block of the first 32 points so far, and the second result's at the
    block of the point, from point 32 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk m c (pt (min t.val 31))
    | ⟨8, _⟩ => blk m c (pt (max t.val 32))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = blk m c (pt (min t.val 31)) := by dsimp only [dats]
theorem after_8 (c : Dev nD) (t : Fin cfg0.N) : (dats m 0 c).after 8 t = blk m c (pt (max t.val 32)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem idle_7 (t : Fin cfg0.N) : cfg0.idle 7 (cfg0.grid.coords t) = !(decide (t.val < 32)) := by
  have h := cond_1 t
  show (!(k0_cond1 (grid0.coords t) == 1#1)) = _
  congr 1
  rw [Bool.eq_iff_iff, beq_iff_eq, decide_eq_true_iff]; exact h

theorem idle_8 (t : Fin cfg0.N) : cfg0.idle 8 (cfg0.grid.coords t) = !(decide (¬ t.val < 32)) := by
  have h := cond_2 t
  show (!(k0_cond2 (grid0.coords t) == 1#1)) = _
  congr 1
  rw [Bool.eq_iff_iff, beq_iff_eq, decide_eq_true_iff]; exact h

theorem flush_7 : ∀ t : Fin cfg0.N, (cfg0.win 7).flush t = true ↔ (t.val < 31 ∨ t.val = 33) :=
  (by decide +kernel : ∀ t : Fin grid0.N, win0_7.flush t = true ↔ (t.val < 31 ∨ t.val = 33))

theorem flush_8 : ∀ t : Fin cfg0.N, (cfg0.win 8).flush t = true ↔ ¬ t.val < 32 :=
  (by decide +kernel : ∀ t : Fin grid0.N, win0_8.flush t = true ↔ ¬ t.val < 32)

/-- At the last two points the first result's buffer still holds the block of the 32nd point. -/
theorem before_7 (c : Dev nD) (n : ℕ) : ∀ (hn : n < cfg0.N), ¬ n < 32 → ∀ d, (dats m 0 c).before 7 ⟨n, hn⟩ d = blk m c (pt 31) := by
  induction n with
  | zero => intro hn h; exact absurd (by decide) h
  | succ k ih =>
    intro hn h d
    have hN : k + 1 < 34 := lt_of_lt_of_eq hn (show cfg0.N = 34 from N_0)
    have hk : k < cfg0.N := Nat.lt_of_succ_lt hn
    have hfl : (cfg0.win 7).flush ⟨k, hk⟩ = false := by
      rw [← Bool.not_eq_true]; intro e; have := (flush_7 ⟨k, hk⟩).mp e; simp only at this; omega
    have hstep := (dats m 0 c).before_of_pos 7 ⟨k + 1, hn⟩ (Nat.succ_ne_zero k) ((cfg0.win 7).fetch_out rfl _) d
    rw [hstep]
    show (if (cfg0.win 7).flush ⟨k, hk⟩ then d else (dats m 0 c).left 7 ⟨k, hk⟩ d) = _
    rw [hfl, if_neg Bool.false_ne_true]
    unfold Dat.left
    rw [idle_7 ⟨k, hk⟩]
    by_cases hk0 : k < 32
    · simp only [hk0, decide_true, Bool.not_true]
      unfold Dat.kept
      rw [Pipeline.fill_of_clip_none (cfg := cfg0) 7 _ (fun _ => rfl) d ((dats m 0 c).after 7 ⟨k, hk⟩), Pipeline.Window.fill_cut, after_7]
      show blk m c (pt (min k 31)) = _
      rw [show min k 31 = 31 by omega]
    · simp only [hk0, decide_false, Bool.not_false]
      exact ih hk hk0 d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The second result's buffer after one of the first 32 points: as the body found it. -/
theorem leaves_front (c : Dev nD) (t : Fin cfg0.N) (h : t.val < 32) (d) :
    (owns (c : Thread nD τ) (st0_8 t) fullShare ((dats m 0 c).before 8 t d) : sProp 𝕄) ⊢ (dats m 0 c).leavesExact 8 t := by
  have hi : cfg0.idle 8 (cfg0.grid.coords t) = true := by rw [idle_8]; simp [h]
  have hf : (cfg0.win 8).flush t = false := by
    rw [← Bool.not_eq_true]; intro e; exact (flush_8 t).mp e h
  rw [(dats m 0 c).leavesExact_idle 8 t hi hf]
  iintro H
  iexists d
  iexact H

/-- The first result's buffer after one of the last two points: as the body found it, which is what it must be. -/
theorem leaves_back (c : Dev nD) (t : Fin cfg0.N) (h : ¬ t.val < 32) :
    (owns (c : Thread nD τ) (st0_7 t) fullShare (blk m c (pt 31)) : sProp 𝕄) ⊢ (dats m 0 c).leavesExact 7 t := by
  have hi : cfg0.idle 7 (cfg0.grid.coords t) = true := by rw [idle_7]; simp [h]
  by_cases hf : (cfg0.win 7).flush t = true
  · have e : (dats m 0 c).leavesExact 7 t = owns (c : Thread nD τ) (st0_7 t) fullShare ((dats m 0 c).after 7 t) := by
      unfold Dat.leavesExact; rw [hi, hf]
    rw [e, after_7, show min t.val 31 = 31 by omega]
  · rw [(dats m 0 c).leavesExact_idle 7 t hi (by simpa using hf)]
    iintro H
    iexists (fun _ => default)
    rw [before_7 m c t.val t.isLt h]
    iexact H

set_option maxHeartbeats 800000 in
/-- The body at any point, by whether the point is one of the first 32. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_live m c 0 t rfl, leaves_live m c 1 t rfl, leaves_live m c 2 t rfl, leaves_live m c 3 t rfl, leaves_live m c 4 t rfl, leaves_live m c 5 t rfl, leaves_live m c 6 t rfl,
    after_0, after_1, after_2, after_3, after_4, after_5, after_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl]
  by_cases h0 : t.val < 32
  · rw [leaves_live m c 7 t (by rw [idle_7]; simp [h0]), after_7, show min t.val 31 = t.val by omega, pt_val]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_front c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) ((cond_1 t).mpr h0) (fun e => (cond_2 t).mp e h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves_front m c t h0 d8)
    iexact H8
  · have h8 : max t.val 32 = t.val := by omega
    simp only [before_7 m c t.val t.isLt h0]
    rw [leaves_live m c 8 t (by rw [idle_8]; simp [h0]), after_8, h8, pt_val]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_back c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (fun e => h0 ((cond_1 t).mp e)) ((cond_2 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    iintro ⟨H0, H1, H2, H3, H4, H5, H6, H8⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves_back m c t h0)
      iexact H7
    iexact H8

/-- The body table's row at a point's slots is the body. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
/-- The launch: every array of the pipeline at what the proof data says, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.CombineIdeal.Rows

end
-- ==== Proof.CombineRows.lean ====
/- The combination, entry by entry: the kernel's block and the reference's stages are both the same function of the
   eight routed rows of a token, of their weights, and of the token's normalised row. -/
module

public import proofs.«01_k».proof.Proof.RowMath
public import proofs.«01_k».proof.Proof.CombineRun
public import proofs.«01_k».proof.Proof.Gen.CombineReferenceIdeal.Read
public import Idealize.ShloMosaic.Lib.Pipeline.Value
public import Idealize.ShloMosaic.Lib.Pointwise
public import Idealize.ShloMosaic.Lib.Claim

@[expose] public section

set_option maxRecDepth 16384

noncomputable section

namespace Cert.CombineIdeal.Rows

open Cert.CombineIdeal Cert.CombineIdeal.Gen Cert.RowMath
open Idealize.ShloMosaic Idealize.ShloMosaic.TcCoe Idealize.SL.Sem
open scoped BigOperators

/-- One entry of the weighted sum of the first seven of eight rows. -/
def seven (a w : Fin 8 → EReal) : EReal :=
  a 0 * w 0 + a 1 * w 1 + a 2 * w 2 + a 3 * w 3 + a 4 * w 4 + a 5 * w 5 + a 6 * w 6

theorem seven_add (a w : Fin 8 → EReal) : seven a w + a 7 * w 7 = ∑ k : Fin 8, a k * w k := by
  rw [Fin.sum_univ_eight]; rfl

/-- Entry `j` of the shared expert's row: the gated units mapped back to the model's width. -/
def shared (h : Fin 1024 → EReal) (wg : FVec Ideal S1024x512 .bf16) (wd : FVec Ideal S256x1024 .bf16) (j : Fin 1024) : EReal :=
  ∑ c : Fin 256, (∑ k : Fin 1024, h k * wg (ix2 k ⟨c.val, by omega⟩))
      * Ideal.logistic (∑ k : Fin 1024, h k * wg (ix2 k ⟨c.val, by omega⟩))
      * (∑ k : Fin 1024, h k * wg (ix2 k ⟨256 + c.val, by omega⟩)) * wd (ix2 c j)

/-- Entry `j` of a token's row before the layer norm: the scaled residual, the weighted sum of the eight routed rows
    (kept as two halves of 512 columns), and the shared expert. -/
def pre (y : Fin 2 → Fin 8 → Fin 512 → EReal) (w : Fin 8 → EReal) (h : Fin 1024 → EReal) (wg : FVec Ideal S1024x512 .bf16)
    (wd : FVec Ideal S256x1024 .bf16) (j : Fin 1024) : EReal :=
  Ideal.ofBits .f32 0x3F9837F0#32 * h j
    + ((∑ k : Fin 8, y ⟨j.val / 512, by omega⟩ k ⟨j.val % 512, by omega⟩ * w k) + shared h wg wd j)

theorem pay1_apply (h : FVec Ideal S512x1024 .f32) (g b : Vec Ideal S1x1024 .f32) (y : S512x1024.Idx) :
    k0_pay1 h g b y = layerNorm (fun k => h (ix2 (y 0) k)) (g (ix2 0 (y 1))) (b (ix2 0 (y 1))) (y 1) := by
  pointwise [k0_pay1, layerNorm]

section Block

variable (x0 : Vec Ideal S2x8x512x512 .bf16) (x1 : Vec Ideal S512x8 .f32) (x2 : Vec Ideal S512x1024 .f32)
    (x3 : Vec Ideal S1024x512 .bf16) (x4 : Vec Ideal S256x1024 .bf16)

theorem quarter0_apply (y : S512x256.Idx) : quarter0 x0 x1 y
    = seven (fun k => x0 (ix4 0 k (y 0) ⟨(y 1).val, by have : (y 1).val < 256 := (y 1).isLt; omega⟩)) (fun k => x1 (ix2 (y 0) k)) := by
  pointwise [quarter0, k0_pay43, k0_pay31, k0_pay17, k0_pay12, k0_pay23, k0_pay37, k0_pay2, k0_pay7, k0_pay14, k0_pay21, k0_pay28, k0_pay35, k0_pay40, k0_pay4, k0_pay11, k0_pay16, k0_pay27, k0_pay30, k0_pay39, k0_pay42, seven]

theorem quarter1_apply (y : S512x256.Idx) : quarter1 x0 x1 y
    = seven (fun k => x0 (ix4 0 k (y 0) ⟨256 + (y 1).val, by have : (y 1).val < 256 := (y 1).isLt; omega⟩)) (fun k => x1 (ix2 (y 0) k)) := by
  pointwise [quarter1, k0_pay44, k0_pay32, k0_pay18, k0_pay13, k0_pay24, k0_pay38, k0_pay2, k0_pay7, k0_pay14, k0_pay21, k0_pay28, k0_pay35, k0_pay40, k0_pay4, k0_pay11, k0_pay16, k0_pay27, k0_pay30, k0_pay39, k0_pay42, seven]

theorem quarter2_apply (y : S512x256.Idx) : quarter2 x0 x1 y
    = seven (fun k => x0 (ix4 1 k (y 0) ⟨(y 1).val, by have : (y 1).val < 256 := (y 1).isLt; omega⟩)) (fun k => x1 (ix2 (y 0) k)) := by
  pointwise [quarter2, k0_pay45, k0_pay33, k0_pay19, k0_pay5, k0_pay9, k0_pay25, k0_pay36, k0_pay3, k0_pay8, k0_pay15, k0_pay22, k0_pay29, k0_pay41, k0_pay4, k0_pay11, k0_pay16, k0_pay27, k0_pay30, k0_pay39, k0_pay42, seven]

theorem quarter3_apply (y : S512x256.Idx) : quarter3 x0 x1 y
    = seven (fun k => x0 (ix4 1 k (y 0) ⟨256 + (y 1).val, by have : (y 1).val < 256 := (y 1).isLt; omega⟩)) (fun k => x1 (ix2 (y 0) k)) := by
  pointwise [quarter3, k0_pay46, k0_pay34, k0_pay20, k0_pay6, k0_pay10, k0_pay26, k0_pay36, k0_pay3, k0_pay8, k0_pay15, k0_pay22, k0_pay29, k0_pay41, k0_pay4, k0_pay11, k0_pay16, k0_pay27, k0_pay30, k0_pay39, k0_pay42, seven]

theorem preNorm_apply (y : S512x1024.Idx) : preNorm x0 x1 x2 x3 x4 y
    = pre (fun j k c => x0 (ix4 j k (y 0) c)) (fun k => x1 (ix2 (y 0) k)) (fun k => x2 (ix2 (y 0) k)) x3 x4 (y 1) := by
  have hy : (y 1).val < 1024 := (y 1).isLt
  pointwise [preNorm, k0_pay48, k0_pay47, pre, shared]
  simp only [half_f32, sigmoid_tanh]
  refine congrArg₂ (fun a b : EReal => a + b) rfl (congrArg₂ (fun a b : EReal => a + b) ?_ rfl)
  refine Eq.trans ?_ (seven_add (fun k => x0 (ix4 ⟨(y 1).val / 512, by omega⟩ k (y 0) ⟨(y 1).val % 512, by omega⟩)) (fun k => x1 (ix2 (y 0) k)))
  have half (j : Fin 2) (k : Fin 512) (h : j.val * 512 + k.val = (y 1).val) : (⟨(y 1).val / 512, by omega⟩ : Fin 2) = j
      ∧ (⟨(y 1).val % 512, by omega⟩ : Fin 512) = k :=
    ⟨Fin.ext (by show (y 1).val / 512 = j.val; omega), Fin.ext (by show (y 1).val % 512 = k.val; omega)⟩
  by_cases h1 : (y 1).val < 256
  · obtain ⟨ej, ek⟩ := half 0 ⟨(y 1).val, by omega⟩ (by show 0 * 512 + (y 1).val = _; omega)
    rw [dif_pos h1, quarter0_apply, ej, ek]; rfl
  rw [dif_neg h1]
  by_cases h2 : (y 1).val - 256 < 256
  · obtain ⟨ej, ek⟩ := half 0 ⟨256 + ((y 1).val - 256), by omega⟩ (by show 0 * 512 + (256 + ((y 1).val - 256)) = _; omega)
    rw [dif_pos h2, quarter1_apply, ej, ek]; rfl
  rw [dif_neg h2]
  by_cases h3 : (y 1).val - 256 - 256 < 256
  · obtain ⟨ej, ek⟩ := half 1 ⟨(y 1).val - 256 - 256, by omega⟩ (by show 1 * 512 + ((y 1).val - 256 - 256) = _; omega)
    rw [dif_pos h3, quarter2_apply, ej, ek]; rfl
  · obtain ⟨ej, ek⟩ := half 1 ⟨256 + ((y 1).val - 256 - 256 - 256), by omega⟩ (by show 1 * 512 + (256 + ((y 1).val - 256 - 256 - 256)) = _; omega)
    rw [dif_neg h3, quarter3_apply, ej, ek]; rfl

end Block

open Cert.CombineReferenceIdeal.Read

section Reference

variable (x0 : FVec Ideal Cert.CombineReferenceIdeal.S2x8x17408x512 .bf16) (x1 : FVec Ideal Cert.CombineReferenceIdeal.S17408x8 .f32)
    (x2 : FVec Ideal Cert.CombineReferenceIdeal.S17408x1024 .f32) (x3 : FVec Ideal Cert.CombineReferenceIdeal.S1024x512 .bf16)
    (x4 : FVec Ideal Cert.CombineReferenceIdeal.S256x1024 .bf16) (x5 x6 : FVec Ideal Cert.CombineReferenceIdeal.S1x1024 .f32)

/-- Row `r` of the reference before the layer norm. -/
def preRow (r : Fin 17408) (j : Fin 1024) : EReal :=
  pre (fun j k c => x0 (ix4 j k r c)) (fun k => x1 (ix2 r k)) (fun k => x2 (ix2 r k)) x3 x4 j

theorem ref20_apply (i : Cert.CombineReferenceIdeal.S17408x1024.Idx) :
    val_main_v20 (F := Ideal) x0 x1 x2 x3 x4 i = preRow x0 x1 x2 x3 x4 (i 0) (i 1) := by
  have hi : (i 1).val < 1024 := (i 1).isLt
  pointwise [val_main_v0, val_main_v1, val_main_v2, val_main_v3, val_main_v4, val_main_v5, val_main_cst, val_main_v6, val_main_v7, val_main_v8, val_main_v9, val_main_v10, val_main_v11, val_main_v12, val_main_call0_v0, val_main_call0_v1, val_main_call0_cst, val_main_call0_v2, val_main_call0_v3, val_main_call0_cst_0, val_main_call0_v4, val_main_call0_v5, val_main_v13, val_main_v14, val_main_v15, val_main_v16, val_main_cst_0, val_main_v17, val_main_v18, val_main_v19, val_main_v20, preRow, pre, shared]
  simp only [Ideal.logistic]

theorem ref42_apply (i : Cert.CombineReferenceIdeal.S17408x1024.Idx) :
    val_main_v42 (F := Ideal) x0 x1 x2 x3 x4 x5 x6 i
      = layerNorm (preRow x0 x1 x2 x3 x4 (i 0)) (x5 (ix2 0 (i 1))) (x6 (ix2 0 (i 1))) (i 1) := by
  pointwise [val_main_cst_1, val_main_v21, val_main_v22, val_main_cst_2, val_main_v23, val_main_v24, val_main_v25, val_main_v26, val_main_v27, val_main_cst_3, val_main_v28, val_main_v29, val_main_cst_4, val_main_v30, val_main_v31, val_main_v32, val_main_v33, val_main_cst_5, val_main_v34, val_main_v35, val_main_v36, val_main_v37, val_main_v38, val_main_v39, val_main_v40, val_main_v41, val_main_v42, layerNorm]
  simp only [ref20_apply]
  rfl

theorem ref43_apply (i : Cert.CombineReferenceIdeal.S16384x1024.Idx) :
    val_main_v43 (F := Ideal) x0 x1 x2 x3 x4 x5 x6 i
      = val_main_v42 (F := Ideal) x0 x1 x2 x3 x4 x5 x6 (ix2 ⟨(i 0).val, by have : (i 0).val < 16384 := (i 0).isLt; omega⟩ (i 1)) := by
  pointwise [val_main_v43]

theorem ref44_apply (i : Cert.CombineReferenceIdeal.S1024x1024.Idx) :
    val_main_v44 (F := Ideal) x0 x1 x2 x3 x4 x5 x6 i
      = val_main_v42 (F := Ideal) x0 x1 x2 x3 x4 x5 x6 (ix2 ⟨16384 + (i 0).val, by have : (i 0).val < 1024 := (i 0).isLt; omega⟩ (i 1)) := by
  pointwise [val_main_v44]

end Reference

end Cert.CombineIdeal.Rows

end
-- ==== Proof.CombineValue.lean ====
/- The combination: the two result arrays of the kernel are the reference's. -/
module

public import proofs.«01_k».proof.Proof.CombineRows
public import Idealize.ShloMosaic.Lib.Pipeline.ValueKit
public import Idealize.ShloMosaic.Lib.ValueIdx

@[expose] public section

set_option maxRecDepth 16384

noncomputable section

namespace Cert.CombineIdeal.Rows

open Cert.CombineIdeal Cert.CombineIdeal.Gen Cert.RowMath
open Idealize.ShloMosaic Idealize.ShloMosaic.TcCoe Idealize.SL.Sem
open Idealize.ShloMosaic.Pipeline (Dat)
open Cert.CombineReferenceIdeal.Read
open scoped BigOperators

variable (m : (ℓ : Loc nD τ sig) → Buf (Elt Ideal) ℓ)

theorem idx : ∀ t : Fin cfg0.N, win0_0.index t = ![0, 0, t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![min t.val 31, 0]
    ∧ win0_8.index t = ![max t.val 32 - 32, 0]
    ∧ t.val < 34 :=
  (by decide +kernel : ∀ t : Fin grid0.N, _)

/-- The row of the whole arrays that row `r` of a block at point `t` is. -/
def rowAt (t : Fin cfg0.N) (r : Fin 512) : Fin 17408 :=
  ⟨t.val * 512 + r.val, by have : t.val < 34 := (idx t).2.2.2.2.2.2.2.2.2; omega⟩

variable (c : Dev nD) (t : Fin cfg0.N)

/-- The arrays the region finds, in the order of the arguments. -/
abbrev a0 : FVec Ideal S2x8x17408x512 .bf16 := m ((c : Thread nD τ).loc main_arg0)
abbrev a1 : FVec Ideal S17408x8 .f32 := m ((c : Thread nD τ).loc main_arg1)
abbrev a2 : FVec Ideal S17408x1024 .f32 := m ((c : Thread nD τ).loc main_arg2)
abbrev a3 : FVec Ideal S1024x512 .bf16 := m ((c : Thread nD τ).loc main_arg3)
abbrev a4 : FVec Ideal S256x1024 .bf16 := m ((c : Thread nD τ).loc main_arg4)
abbrev a5 : FVec Ideal S1x1024 .f32 := m ((c : Thread nD τ).loc main_arg5)
abbrev a6 : FVec Ideal S1x1024 .f32 := m ((c : Thread nD τ).loc main_arg6)

theorem row_y (j : Fin 2) (k : Fin 8) (r : Fin 512) (n : Fin 512) :
    (iblk m c 0 t : Vec Ideal S2x8x512x512 .bf16) (ix4 j k r n) = a0 m c (ix4 j k (rowAt t r) n) := by
  blk_point [iblk, V, rowAt, idx t]

theorem row_w (r : Fin 512) (k : Fin 8) :
    (iblk m c 1 t : Vec Ideal S512x8 .f32) (ix2 r k) = a1 m c (ix2 (rowAt t r) k) := by
  blk_point [iblk, V, rowAt, idx t]

theorem row_h (r : Fin 512) (k : Fin 1024) :
    (iblk m c 2 t : Vec Ideal S512x1024 .f32) (ix2 r k) = a2 m c (ix2 (rowAt t r) k) := by
  blk_point [iblk, V, rowAt, idx t]

theorem all_3 : (iblk m c 3 t : Vec Ideal S1024x512 .bf16) = a3 m c := by funext y; blk_point [iblk, V, idx t]
theorem all_4 : (iblk m c 4 t : Vec Ideal S256x1024 .bf16) = a4 m c := by funext y; blk_point [iblk, V, idx t]
theorem all_5 : (iblk m c 5 t : Vec Ideal S1x1024 .f32) = a5 m c := by funext y; blk_point [iblk, V, idx t]
theorem all_6 : (iblk m c 6 t : Vec Ideal S1x1024 .f32) = a6 m c := by funext y; blk_point [iblk, V, idx t]

/-- A row of the block before the layer norm is the reference's row. -/
theorem pre_block (y : S512x1024.Idx) :
    preNorm (F := Ideal) (iblk m c 0 t) (iblk m c 1 t) (iblk m c 2 t) (iblk m c 3 t) (iblk m c 4 t) y
      = preRow (a0 m c) (a1 m c) (a2 m c) (a3 m c) (a4 m c) (rowAt t (y 0)) (y 1) := by
  refine (preNorm_apply (iblk m c 0 t) (iblk m c 1 t) (iblk m c 2 t) (iblk m c 3 t) (iblk m c 4 t) y).trans ?_
  unfold preRow
  rw [← all_3 m c t, ← all_4 m c t, ← funext (row_w m c t (y 0)), ← funext (row_h m c t (y 0)),
    ← funext fun j => funext fun k => funext (row_y m c t j k (y 0))]

/-- An entry of a block is the reference's entry. -/
theorem blk_apply (y : S512x1024.Idx) :
    blk (F := Ideal) m c t y = val_main_v42 (F := Ideal) (a0 m c) (a1 m c) (a2 m c) (a3 m c) (a4 m c) (a5 m c) (a6 m c)
      (ix2 (rowAt t (y 0)) (y 1)) := by
  unfold blk outBlk
  frame_out
  refine (pay1_apply _ _ _ y).trans ?_
  refine Eq.trans ?_ (ref42_apply (a0 m c) (a1 m c) (a2 m c) (a3 m c) (a4 m c) (a5 m c) (a6 m c) (ix2 (rowAt t (y 0)) (y 1))).symm
  exact layerNorm_congr (fun k => pre_block m c t (ix2 (y 0) k)) (congrFun (all_5 m c t) _) (congrFun (all_6 m c t) _) _

theorem pt_of_lt (n : ℕ) (h : n < 34) : (pt n).val = n := Nat.mod_eq_of_lt h

/-- What the run leaves of the first result array is the reference's. -/
theorem final_7 : (dats m 0 c).arrAt 7 (cfgs 0).N = val_main_v43 (F := Ideal) (a0 m c) (a1 m c) (a2 m c) (a3 m c) (a4 m c)
    (a5 m c) (a6 m c) := by
  refine (dats m 0 c).arrAt_eq_of_covers 7 _ (by decide +kernel) fun t hf y => ?_
  have e : (pt (min t.val 31)).val = min t.val 31 := pt_of_lt _ (by omega)
  blk_simp; rw [after_7]
  refine (blk_apply m c _ y).trans ?_
  refine Eq.trans (congrArg _ ?_) (ref43_apply (a0 m c) (a1 m c) (a2 m c) (a3 m c) (a4 m c) (a5 m c) (a6 m c) _).symm
  blk_ext [rowAt, idx t, e]

/-- What the run leaves of the second result array is the reference's. -/
theorem final_8 : (dats m 0 c).arrAt 8 (cfgs 0).N = val_main_v44 (F := Ideal) (a0 m c) (a1 m c) (a2 m c) (a3 m c) (a4 m c)
    (a5 m c) (a6 m c) := by
  refine (dats m 0 c).arrAt_eq_of_covers 8 _ (by decide +kernel) fun t hf y => ?_
  have hN : t.val < 34 := (idx t).2.2.2.2.2.2.2.2.2
  have e : (pt (max t.val 32)).val = max t.val 32 := pt_of_lt _ (by omega)
  blk_simp; rw [after_8]
  refine (blk_apply m c _ y).trans ?_
  refine Eq.trans (congrArg _ ?_) (ref44_apply (a0 m c) (a1 m c) (a2 m c) (a3 m c) (a4 m c) (a5 m c) (a6 m c) _).symm
  blk_ext [rowAt, idx t, e]

end Cert.CombineIdeal.Rows

end
-- ==== Proof.CombineClaim.lean ====
/- The claims of the combination with its layer norm. -/
module

public import proofs.«01_k».proof.Defs
public import proofs.«01_k».proof.Proof.CombineValue
public import proofs.«01_k».proof.Proof.Gen.CombineReferenceIdeal
public import proofs.«01_k».proof.Proof.Gen.CombineReferenceIdeal.Run

@[expose] public section

noncomputable section

namespace Cert.CombineIdeal.Rows

open Cert.CombineIdeal Cert.CombineIdeal.Gen
open Idealize.ShloMosaic Idealize.SL.Sem

instance ideal_facts : Cert.CombineIdeal.Facts := Cert.CombineIdeal.Gen.facts
instance reference_facts : Cert.CombineReferenceIdeal.Facts := Cert.CombineReferenceIdeal.Gen.facts

theorem alg : Cert.algebraic_CombineIdeal_CombineReferenceIdeal := by
  intro m g m' g' hpre hagree
  refine ⟨fun c => (dats m 0 c).arrAt 7 (cfgs 0).N, fun c => (dats m 0 c).arrAt 8 (cfgs 0).N,
    (θ_run Cert.CombineIdeal.defs _ _).mono (fun r h c => ⟨(h.1 c).1 7, (h.1 c).1 8, h.2 c⟩)
      (θ_run_and (run_main m g) (unchanged m g)),
    (θ_run Cert.CombineReferenceIdeal.defs _ _).mono (fun r h c => ?_) (Cert.CombineReferenceIdeal.Value.run m' g')⟩
  obtain ⟨e0, e1, e2, e3, e4, e5, e6⟩ := hagree c
  refine ⟨(h c).1.trans ?_, (h c).2.1.trans ?_, (h c).2.2⟩
  · rw [Cert.CombineReferenceIdeal.Read.val_main_v43_eq, e0, e1, e2, e3, e4, e5, e6]
    exact (final_7 m c).symm
  · rw [Cert.CombineReferenceIdeal.Read.val_main_v44_eq, e0, e1, e2, e3, e4, e5, e6]
    exact (final_8 m c).symm

end Cert.CombineIdeal.Rows

end
-- ==== Proof.CombineFrame.lean ====
/- The combination as printed and its ideal reading are one program, so the frame proved of the one is the frame
   of the other, at the words' floats. -/
module

public import proofs.«01_k».proof.Defs
public import proofs.«01_k».proof.Proof.CombineRun
public import proofs.«01_k».proof.Proof.Gen.Combine

@[expose] public section

set_option maxRecDepth 16384

noncomputable section

namespace Cert.CombineIdeal.Rows

open Idealize.ShloMosaic Idealize.SL.Sem

instance printed_facts : Cert.Combine.Facts := Cert.Combine.Gen.facts

/-- The two programs' kernel bodies are the same. -/
theorem bodies : Cert.Combine.defs₀ (F := Bits) = Cert.CombineIdeal.defs₀ (F := Bits) := by
  unfold Cert.Combine.defs₀ Cert.CombineIdeal.defs₀
  refine congrArg _ ?_
  funext l a
  match l, a with
  | 0, (t, s) => rfl
  | ⟨_ + 1, h⟩, _ => exact absurd h (Nat.not_lt.2 (Nat.le_add_left _ _))

/-- The two programs' tables of bodies are the same. -/
theorem tables : Cert.Combine.defs (F := Bits) = Cert.CombineIdeal.defs (F := Bits) := by
  unfold Cert.Combine.defs Cert.CombineIdeal.defs
  rw [bodies]
  rfl

/-- The printed program ends without fault, its arguments unchanged and its counters at zero. -/
theorem frame_printed : Cert.quiescent_Combine := fun m ρ _ => by
  rw [tables]
  exact frame (F := Bits) m ρ

end Cert.CombineIdeal.Rows

end
-- ==== Proof.PoolMath.lean ====
/- Sums of the last rows by doubling: adding to an array its own rotation by `n` rows turns sums of `n` trailing rows into
   sums of `2 n` trailing rows, at the rows that lie far enough from the start not to meet the wrap. -/
module

public import Idealize.ShloMosaic.Lib.Pointwise
public import Idealize.ShloMosaic.Lib.Claim

@[expose] public section

set_option maxRecDepth 16384

noncomputable section

namespace Cert.PoolMath

open Idealize.ShloMosaic Idealize.SL.Sem
open scoped BigOperators

/-- The sum of the `n` entries of a column that end at row `i`. -/
def trail (e : ℕ → EReal) (n i : ℕ) : EReal := ∑ q ∈ Finset.range n, e (i - q)

/-- One entry of the pooling: the trailing sum of `n` entries at row `i`, divided by the smaller of the window's width and the
    number of rows there are, minus the token's own entry. -/
def pooled (e : ℕ → EReal) (n i : ℕ) (width count : EReal) : EReal :=
  Ideal.div (trail e n i) (min width count) - e i

theorem trail_double (e : ℕ → EReal) (n i : ℕ) : trail e (n + n) i = trail e n i + trail e n (i - n) := by
  unfold trail
  rw [Finset.sum_range_add]
  refine congrArg _ (Finset.sum_congr rfl fun q _ => ?_)
  rw [Nat.sub_sub]

theorem row_back (t q c : ℕ) (h : c + q = 15) : t + 16 - q = c + t + 1 := by omega

theorem trail_2 (e : ℕ → EReal) (t : ℕ) : trail e 2 (t + 16) = e (15 + t + 1) + e (14 + t + 1) := by
  simp only [trail, Finset.sum_range_succ, Finset.sum_range_zero, zero_add]
  rw [row_back t 0 15 rfl, row_back t 1 14 rfl]

theorem trail_4 (e : ℕ → EReal) (t : ℕ) : trail e 4 (t + 16) = e (15 + t + 1) + e (14 + t + 1) + e (13 + t + 1) + e (12 + t + 1) := by
  simp only [trail, Finset.sum_range_succ, Finset.sum_range_zero, zero_add]
  rw [row_back t 0 15 rfl, row_back t 1 14 rfl, row_back t 2 13 rfl, row_back t 3 12 rfl]

theorem trail_8 (e : ℕ → EReal) (t : ℕ) : trail e 8 (t + 16) = e (15 + t + 1) + e (14 + t + 1) + e (13 + t + 1) + e (12 + t + 1) + e (11 + t + 1) + e (10 + t + 1) + e (9 + t + 1) + e (8 + t + 1) := by
  simp only [trail, Finset.sum_range_succ, Finset.sum_range_zero, zero_add]
  rw [row_back t 0 15 rfl, row_back t 1 14 rfl, row_back t 2 13 rfl, row_back t 3 12 rfl, row_back t 4 11 rfl, row_back t 5 10 rfl, row_back t 6 9 rfl, row_back t 7 8 rfl]

theorem trail_16 (e : ℕ → EReal) (t : ℕ) : trail e 16 (t + 16) = e (15 + t + 1) + e (14 + t + 1) + e (13 + t + 1) + e (12 + t + 1) + e (11 + t + 1) + e (10 + t + 1) + e (9 + t + 1) + e (8 + t + 1) + e (7 + t + 1) + e (6 + t + 1) + e (5 + t + 1) + e (4 + t + 1) + e (3 + t + 1) + e (2 + t + 1) + e (1 + t + 1) + e (t + 1) := by
  simp only [trail, Finset.sum_range_succ, Finset.sum_range_zero, zero_add]
  rw [row_back t 0 15 rfl, row_back t 1 14 rfl, row_back t 2 13 rfl, row_back t 3 12 rfl, row_back t 4 11 rfl, row_back t 5 10 rfl, row_back t 6 9 rfl, row_back t 7 8 rfl, row_back t 8 7 rfl, row_back t 9 6 rfl, row_back t 10 5 rfl, row_back t 11 4 rfl, row_back t 12 3 rfl, row_back t 13 2 rfl, row_back t 14 1 rfl, row_back t 15 0 rfl, Nat.zero_add]

variable {L : ℕ}

/-- Every row far enough from the start holds the sum of its `n` trailing rows of `e`. -/
def Trails (X : FVec Ideal ⟨2, ![L, 256]⟩ .f32) (e : ℕ → Fin 256 → EReal) (n : ℕ) : Prop :=
  ∀ (i : Fin L) (j : Fin 256), n ≤ i.val + 1 → X (ix2 i j) = trail (fun k => e k j) n i.val

theorem trails_one (X : FVec Ideal ⟨2, ![L, 256]⟩ .f32) (e : ℕ → Fin 256 → EReal)
    (h : ∀ (i : Fin L) (j : Fin 256), X (ix2 i j) = e i.val j) : Trails X e 1 := by
  intro i j _
  rw [h]
  simp [trail]

/-- An array with its own rotation by some rows added. -/
def double (X : FVec Ideal ⟨2, ![L, 256]⟩ .f32) (b : BitVec 32) (h : (⟨2, ![L, 256]⟩ : Shape).Rotates 0 none) :
    FVec Ideal ⟨2, ![L, 256]⟩ .f32 := addf X (dynamicRotate 0 b none X h)

theorem trails_double (X : FVec Ideal ⟨2, ![L, 256]⟩ .f32) (e : ℕ → Fin 256 → EReal) (n : ℕ) (hn : 0 < n) (b : BitVec 32) (hb : b.toNat = n)
    (h : (⟨2, ![L, 256]⟩ : Shape).Rotates 0 none) (hX : Trails X e n) :
    Trails (double X b h) e (n + n) := by
  intro i j hi
  have hi' := i.isLt
  have hm : (i.val + L - n) % L = i.val - n := by
    rw [show i.val + L - n = (i.val - n) + L by omega, Nat.add_mod_right, Nat.mod_eq_of_lt (by omega)]
  rw [trail_double, ← hX i j (by omega), ← hX ⟨i.val - n, by omega⟩ j (by show n ≤ i.val - n + 1; omega)]
  show X _ + dynamicRotate 0 b none X h _ = _
  rw [Pointwise.dynamicRotate_apply, Shape.Idx.norm_def]
  refine congrArg (fun z => X (ix2 i j) + X z) ?_
  funext a
  match a with
  | ⟨0, _⟩ => exact Fin.ext (by simpa [hb, Nat.mod_eq_of_lt (show n < L by omega)] using hm)
  | ⟨1, _⟩ => exact Fin.ext (by simp)

/-- What a window's group of columns computes from its trailing sums: the sums below the sixteen rows of the past, divided
    by the smaller of the width and the row count, minus the tokens' own entries. -/
def finish {T : ℕ} (Y : FVec Ideal ⟨2, ![T + 16, 256]⟩ .f32) (U : FVec Ideal ⟨2, ![T, 256]⟩ .f32) (C : FVec Ideal ⟨2, ![T, 1]⟩ .f32)
    (w : EReal) (h1 : (⟨2, ![T + 16, 256]⟩ : Shape).Slices ![16, 0] ⟨2, ![T, 256]⟩)
    (h2 : (⟨2, ![T, 1]⟩ : Shape).Broadcasts ⟨2, ![T, 256]⟩) : FVec Ideal ⟨2, ![T, 256]⟩ .f32 :=
  subf (divf (extractStridedSlice ⟨2, ![T, 256]⟩ ![16, 0] Y h1) (broadcastTo ⟨2, ![T, 256]⟩ (minimumf (broadcast ⟨2, ![T, 1]⟩ w) C) h2)) U

theorem finish_apply {T : ℕ} (Y : FVec Ideal ⟨2, ![T + 16, 256]⟩ .f32) (U : FVec Ideal ⟨2, ![T, 256]⟩ .f32) (C : FVec Ideal ⟨2, ![T, 1]⟩ .f32)
    (w : EReal) (e : ℕ → Fin 256 → EReal) (n : ℕ) (hn : n ≤ 16) (hY : Trails Y e n)
    (h1 : (⟨2, ![T + 16, 256]⟩ : Shape).Slices ![16, 0] ⟨2, ![T, 256]⟩) (h2 : (⟨2, ![T, 1]⟩ : Shape).Broadcasts ⟨2, ![T, 256]⟩)
    (r : Fin T) (j : Fin 256) (hU : U (ix2 r j) = e (r.val + 16) j) :
    finish Y U C w h1 h2 (ix2 r j) = pooled (fun k => e k j) n (r.val + 16) w (C (ix2 r 0)) := by
  have hr := r.isLt
  have ey := hY ⟨r.val + 16, by omega⟩ j (by show n ≤ r.val + 16 + 1; omega)
  have e1 : (Shape.Idx.norm fun a => ⟨![16, 0] a + (ix2 r j a).val, by
      match a with
      | ⟨0, _⟩ => show 16 + r.val < T + 16; omega
      | ⟨1, _⟩ => show 0 + j.val < 256; omega⟩ : (⟨2, ![T + 16, 256]⟩ : Shape).Idx) = ix2 ⟨r.val + 16, by omega⟩ j := by
    rw [Shape.Idx.norm_def]
    funext a
    match a with
    | ⟨0, _⟩ => exact Fin.ext (Nat.add_comm 16 r.val)
    | ⟨1, _⟩ => exact Fin.ext (Nat.zero_add j.val)
  pointwise [pooled, finish]
  rw [hU, ← ey]
  refine congrArg₂ (fun p q : EReal => Ideal.div p (min w q) - e (r.val + 16) j) (congrArg Y e1) (congrArg C ?_)
  rw [Shape.Idx.norm_def]
  funext a
  match a with
  | ⟨0, _⟩ =>
    refine Fin.ext ?_
    show (if h : T = 1 then (⟨0, _⟩ : Fin T) else ⟨r.val, _⟩).val = r.val
    split
    · show 0 = r.val; omega
    · rfl
  | ⟨1, _⟩ => exact Fin.ext rfl

end Cert.PoolMath

end
-- ==== Proof.PoolFreshRows.lean ====
/- The pooling of the prompts, entry by entry: what a point computes and what the reference states are both the trailing
   sums of a column that begins with zeros. -/
module

public import proofs.«01_k».proof.Proof.PoolMath
public import proofs.«01_k».proof.Proof.Gen.PoolFreshIdeal.Skeleton
public import proofs.«01_k».proof.Proof.Gen.PoolFreshReferenceIdeal.Read

@[expose] public section

set_option maxRecDepth 16384

noncomputable section

namespace Cert.PoolFreshIdeal.Rows

open Cert.PoolFreshIdeal Cert.PoolFreshIdeal.Gen Cert.PoolMath
open Idealize.ShloMosaic Idealize.ShloMosaic.TcCoe Idealize.SL.Sem
open scoped BigOperators

/-- Column `j` of a block of rows under sixteen zeros. -/
def ext (x : Fin 2048 → Fin 1024 → EReal) (j : Fin 1024) (i : ℕ) : EReal :=
  if i < 16 then 0 else if h : i - 16 < 2048 then x ⟨i - 16, h⟩ j else 0

theorem pay5_apply (x : Vec Ideal S2048x1024 .bf16) (i : Fin 2064) (j : Fin 1024) :
    k0_pay5 x (k0_pay2 (F := Ideal)) (ix2 i j) = ext (fun r k => x (ix2 r k)) j i.val := by
  have hi := i.isLt
  pointwise [k0_pay5, k0_pay2, k0_pay3, ext]
  split
  · rfl
  · rw [dif_pos (by omega)]

theorem pay3_apply (x : Vec Ideal S2048x1024 .bf16) (r : Fin 2048) (j : Fin 1024) :
    k0_pay3 x (ix2 r j) = ext (fun r k => x (ix2 r k)) j (r.val + 16) := by
  have hr := r.isLt
  unfold ext
  rw [if_neg (by omega), dif_pos (by omega)]
  pointwise [k0_pay3]
  simp only [Nat.add_sub_cancel, Fin.eta]

/-- The number of rows there are at token `r`. -/
def count (r : ℕ) : EReal := FloatOps.sitofp (F := Ideal) FTy.f32 (BitVec.ofNat 32 r + 1#32)

theorem pay4_apply (i : grid0.Coords) (r : Fin 2048) (j : Fin 1) :
    k0_pay4 (F := Ideal) i (ix2 r j) = count r.val := by
  pointwise [k0_pay4, count]
  refine congrArg _ ?_
  show (1#32 + 0#32 * 2048#32) + BitVec.ofNat 32 r.val = BitVec.ofNat 32 r.val + 1#32
  rw [BitVec.add_comm]
  rfl

/-- Columns `a …` of the sixteen zeros with the block below them. -/
def cols (x : Vec Ideal S2048x1024 .bf16) (a : ℕ) (ha : a + 256 ≤ 1024) (i : ℕ) (j : Fin 256) : EReal :=
  ext (fun r k => x (ix2 r k)) ⟨a + j.val, by omega⟩ i

theorem cols_apply (x : Vec Ideal S2048x1024 .bf16) (a : ℕ) (ha : a + 256 ≤ 1024) (h : S2064x1024.Slices ![0, a] S2064x256) :
    Trails (L := 2064) (extractStridedSlice S2064x256 ![0, a] (k0_pay5 x (k0_pay2 (F := Ideal))) h) (cols x a ha) 1 := by
  refine trails_one _ _ fun i j => Eq.trans ?_ (pay5_apply x i _)
  pointwise []

theorem own_apply (x : Vec Ideal S2048x1024 .bf16) (a : ℕ) (ha : a + 256 ≤ 1024) (h : S2048x1024.Slices ![0, a] S2048x256)
    (r : Fin 2048) (j : Fin 256) :
    extractStridedSlice S2048x256 ![0, a] (k0_pay3 x) h (ix2 r j) = cols x a ha (r.val + 16) j := by
  refine Eq.trans ?_ (pay3_apply x r _)
  pointwise []

/-- Entry `(r, j)` of a window's group of columns. -/
def group (x : Vec Ideal S2048x1024 .bf16) (a : ℕ) (ha : a + 256 ≤ 1024) (n : ℕ) (w : EReal) (r : Fin 2048) (j : Fin 256) : EReal :=
  pooled (fun k => cols x a ha k j) n (r.val + 16) w (count r.val)

theorem pay7_apply (i : grid0.Coords) (x : Vec Ideal S2048x1024 .bf16) (r : Fin 2048) (j : Fin 256) :
    k0_pay7 i x (k0_pay2 (F := Ideal)) (ix2 r j)
      = group x 0 (by decide) 2 (Ideal.ofBits .f32 0x40000000#32) r j := by
  have t1 := cols_apply x 0 (by decide) slices_S2064x1024_o0_0_S2064x256
  have t2 := trails_double _ _ 1 (by decide) 1#32 rfl rotates_S2064x256_d0 t1
  exact (finish_apply (T := 2048) _ _ (k0_pay4 (F := Ideal) i) _ _ 2 (by decide) t2 slices_S2064x256_o16_0_S2048x256 broadcasts_S2048x1_S2048x256 r j
    (own_apply x 0 (by decide) slices_S2048x1024_o0_0_S2048x256 r j)).trans (by rw [pay4_apply]; rfl)

theorem pay8_apply (i : grid0.Coords) (x : Vec Ideal S2048x1024 .bf16) (r : Fin 2048) (j : Fin 256) :
    k0_pay8 i x (k0_pay2 (F := Ideal)) (ix2 r j)
      = group x 256 (by decide) 4 (Ideal.ofBits .f32 0x40800000#32) r j := by
  have t1 := cols_apply x 256 (by decide) slices_S2064x1024_o0_256_S2064x256
  have t2 := trails_double _ _ 1 (by decide) 1#32 rfl rotates_S2064x256_d0 t1
  have t4 := trails_double _ _ 2 (by decide) 2#32 rfl rotates_S2064x256_d0 t2
  exact (finish_apply (T := 2048) _ _ (k0_pay4 (F := Ideal) i) _ _ 4 (by decide) t4 slices_S2064x256_o16_0_S2048x256 broadcasts_S2048x1_S2048x256 r j
    (own_apply x 256 (by decide) slices_S2048x1024_o0_256_S2048x256 r j)).trans (by rw [pay4_apply]; rfl)

/-- The third group of columns. -/
def third (i : grid0.Coords) (x : Vec Ideal S2048x1024 .bf16) : FVec Ideal S2048x256 .f32 :=
  finish (T := 2048) (double (double (double (k0_pay9 x (k0_pay2 (F := Ideal))) 1#32 rotates_S2064x256_d0) 2#32 rotates_S2064x256_d0) 4#32 rotates_S2064x256_d0)
    (extractStridedSlice S2048x256 ![0, 512] (k0_pay3 x) slices_S2048x1024_o0_512_S2048x256) (k0_pay4 (F := Ideal) i)
    (Ideal.ofBits .f32 0x41000000#32) slices_S2064x256_o16_0_S2048x256 broadcasts_S2048x1_S2048x256

/-- The fourth group of columns. -/
def fourth (i : grid0.Coords) (x : Vec Ideal S2048x1024 .bf16) : FVec Ideal S2048x256 .f32 :=
  finish (T := 2048) (double (double (double (double (extractStridedSlice S2064x256 ![0, 768] (k0_pay5 x (k0_pay2 (F := Ideal))) slices_S2064x1024_o0_768_S2064x256) 1#32 rotates_S2064x256_d0) 2#32 rotates_S2064x256_d0) 4#32 rotates_S2064x256_d0) 8#32 rotates_S2064x256_d0)
    (extractStridedSlice S2048x256 ![0, 768] (k0_pay3 x) slices_S2048x1024_o0_768_S2048x256) (k0_pay4 (F := Ideal) i)
    (Ideal.ofBits .f32 0x41800000#32) slices_S2064x256_o16_0_S2048x256 broadcasts_S2048x1_S2048x256

theorem third_apply (i : grid0.Coords) (x : Vec Ideal S2048x1024 .bf16) (r : Fin 2048) (j : Fin 256) :
    third i x (ix2 r j) = group x 512 (by decide) 8 (Ideal.ofBits .f32 0x41000000#32) r j := by
  have t1 := cols_apply x 512 (by decide) slices_S2064x1024_o0_512_S2064x256
  have t2 := trails_double _ _ 1 (by decide) 1#32 rfl rotates_S2064x256_d0 t1
  have t4 := trails_double _ _ 2 (by decide) 2#32 rfl rotates_S2064x256_d0 t2
  have t8 := trails_double _ _ 4 (by decide) 4#32 rfl rotates_S2064x256_d0 t4
  exact (finish_apply (T := 2048) _ _ (k0_pay4 (F := Ideal) i) _ _ 8 (by decide) t8 slices_S2064x256_o16_0_S2048x256 broadcasts_S2048x1_S2048x256 r j
    (own_apply x 512 (by decide) slices_S2048x1024_o0_512_S2048x256 r j)).trans (by rw [pay4_apply]; rfl)

theorem fourth_apply (i : grid0.Coords) (x : Vec Ideal S2048x1024 .bf16) (r : Fin 2048) (j : Fin 256) :
    fourth i x (ix2 r j) = group x 768 (by decide) 16 (Ideal.ofBits .f32 0x41800000#32) r j := by
  have t1 := cols_apply x 768 (by decide) slices_S2064x1024_o0_768_S2064x256
  have t2 := trails_double _ _ 1 (by decide) 1#32 rfl rotates_S2064x256_d0 t1
  have t4 := trails_double _ _ 2 (by decide) 2#32 rfl rotates_S2064x256_d0 t2
  have t8 := trails_double _ _ 4 (by decide) 4#32 rfl rotates_S2064x256_d0 t4
  have t16 := trails_double _ _ 8 (by decide) 8#32 rfl rotates_S2064x256_d0 t8
  exact (finish_apply (T := 2048) _ _ (k0_pay4 (F := Ideal) i) _ _ 16 (by decide) t16 slices_S2064x256_o16_0_S2048x256 broadcasts_S2048x1_S2048x256 r j
    (own_apply x 768 (by decide) slices_S2048x1024_o0_768_S2048x256 r j)).trans (by rw [pay4_apply]; rfl)

/-- The block a point writes, from the block of rows it reads. -/
abbrev block (i : grid0.Coords) (x : Vec Ideal S2048x1024 .bf16) : FVec Ideal S2048x1024 .bf16 :=
  k0_pay1 (k0_pay3 x) (k0_pay4 (F := Ideal) i) (k0_pay5 x (k0_pay2 (F := Ideal))) (k0_pay7 i x (k0_pay2 (F := Ideal)))
    (k0_pay8 i x (k0_pay2 (F := Ideal))) (k0_pay9 x (k0_pay2 (F := Ideal))) 1#32

theorem block_eq (i : grid0.Coords) (x : Vec Ideal S2048x1024 .bf16) :
    block i x = truncf .bf16 (concatenate S2048x1024 1 [⟨S2048x256, k0_pay7 i x (k0_pay2 (F := Ideal))⟩,
      ⟨S2048x256, k0_pay8 i x (k0_pay2 (F := Ideal))⟩, ⟨S2048x256, third i x⟩, ⟨S2048x256, fourth i x⟩]
      concatenates_S2048x256_S2048x256_S2048x256_S2048x256_S2048x1024_d1) bitsLt_bf16_f32 := rfl

/-- Entry `(r, j)` of the pooling of a block: the window is chosen by the group of columns `j` falls in. -/
def entry (x : Vec Ideal S2048x1024 .bf16) (r : Fin 2048) (j : Fin 1024) : EReal :=
  if h : j.val < 256 then group x 0 (by decide) 2 (Ideal.ofBits .f32 0x40000000#32) r ⟨j.val, h⟩
  else if h : j.val - 256 < 256 then group x 256 (by decide) 4 (Ideal.ofBits .f32 0x40800000#32) r ⟨j.val - 256, h⟩
  else if h : j.val - 256 - 256 < 256 then group x 512 (by decide) 8 (Ideal.ofBits .f32 0x41000000#32) r ⟨j.val - 256 - 256, h⟩
  else group x 768 (by decide) 16 (Ideal.ofBits .f32 0x41800000#32) r ⟨j.val - 256 - 256 - 256, by omega⟩

theorem block_apply (i : grid0.Coords) (x : Vec Ideal S2048x1024 .bf16) (r : Fin 2048) (j : Fin 1024) :
    block i x (ix2 r j) = entry x r j := by
  rw [block_eq]
  pointwise [entry]
  simp only [pay7_apply, pay8_apply, third_apply, fourth_apply]

end Cert.PoolFreshIdeal.Rows

end
-- ==== Proof.PoolFreshReference.lean ====
/- The reference of the prompts' pooling, entry by entry: the trailing sums of the same columns. -/
module

public import proofs.«01_k».proof.Proof.PoolFreshRows

@[expose] public section

set_option maxRecDepth 16384

noncomputable section

namespace Cert.PoolFreshIdeal.Rows

open Cert.PoolFreshIdeal Cert.PoolMath
open Idealize.ShloMosaic Idealize.ShloMosaic.TcCoe Idealize.SL.Sem
open Cert.PoolFreshReferenceIdeal.Read
open scoped BigOperators

variable (x0 : FVec Ideal S17408x9216 .bf16)

/-- The rows of prompt `b` that are pooled: 2048 rows of the projection, columns 6144 to 7167. -/
def prompt (b : Fin 8) : Vec Ideal S2048x1024 .bf16 :=
  fun y => x0 (ix2 ⟨b.val * 2048 + (y 0).val, by have : (y 0).val < 2048 := (y 0).isLt; omega⟩
    ⟨6144 + (y 1).val, by have : (y 1).val < 1024 := (y 1).isLt; omega⟩)

theorem v2_apply (b : Fin 8) (t : Fin 2048) (j : Fin 1024) :
    val_main_v2 (F := Ideal) x0 (ix3 b t j) = prompt x0 b (ix2 t j) := by
  pointwise [val_main_v2, val_main_v1, val_main_v0, prompt]

theorem ext_past (x : Fin 2048 → Fin 1024 → EReal) (j : Fin 1024) (k : ℕ) (h : k < 15) : ext x j (k + 1) = 0 := by
  rw [ext, if_pos (by omega)]

theorem ext_own (x : Fin 2048 → Fin 1024 → EReal) (j : Fin 1024) (k : ℕ) (hk : k - 15 < 2048) (h : ¬ k < 15) :
    ext x j (k + 1) = x ⟨k - 15, hk⟩ j := by
  rw [ext, if_neg (by omega), dif_pos (by omega)]
  simp only [Nat.add_sub_add_right k 1 15]

theorem v4_apply (b : Fin 8) (k : Fin 2063) (j : Fin 1024) :
    val_main_v4 (F := Ideal) x0 (ix3 b k j) = ext (fun r k => prompt x0 b (ix2 r k)) j (k.val + 1) := by
  have hk := k.isLt
  pointwise [val_main_v4, val_main_v3, val_main_cst]
  simp only [v2_apply]
  split
  · exact (ext_past _ _ _ (by assumption)).symm
  · exact (ext_own (fun r k => prompt x0 b (ix2 r k)) j k.val (by omega) (by assumption)).symm

theorem v9_apply (t : Fin 2048) :
    val_main_v9 (F := Ideal) (ix3 0 t 0) = count t.val := by
  pointwise [val_main_v9, val_main_v8, val_main_v7, val_main_v6, val_main_v5, val_main_c, count]
  rfl

theorem own_cols (x : Vec Ideal S2048x1024 .bf16) (a : ℕ) (ha : a + 256 ≤ 1024) (t : Fin 2048) (j : Fin 256) :
    x (ix2 t ⟨a + j.val, by omega⟩) = cols x a ha (t.val + 16) j := by
  rw [cols, ← pay3_apply x t]
  pointwise [Gen.k0_pay3]

theorem v20_apply (b : Fin 8) (t : Fin 2048) (j : Fin 256) :
    val_main_v20 (F := Ideal) x0 (ix3 b t j) = group (prompt x0 b) 0 (by decide) 2 (Ideal.ofBits .f32 0x40000000#32) t j := by
  pointwise [val_main_v10, val_main_v11, val_main_v12, val_main_v13, val_main_v14, val_main_v15, val_main_v16, val_main_v17, val_main_v18, val_main_v19, val_main_v20, val_main_cst_0, val_main_cst_1, group, pooled]
  simp only [v2_apply, v4_apply, v9_apply, ← own_cols, trail_2]
  simp only [cols, Nat.zero_add]

theorem v35_apply (b : Fin 8) (t : Fin 2048) (j : Fin 256) :
    val_main_v35 (F := Ideal) x0 (ix3 b t j) = group (prompt x0 b) 256 (by decide) 4 (Ideal.ofBits .f32 0x40800000#32) t j := by
  pointwise [val_main_v21, val_main_v22, val_main_v23, val_main_v24, val_main_v25, val_main_v26, val_main_v27, val_main_v28, val_main_v29, val_main_v30, val_main_v31, val_main_v32, val_main_v33, val_main_v34, val_main_v35, val_main_cst_2, val_main_cst_3, group, pooled]
  simp only [v2_apply, v4_apply, v9_apply, ← own_cols, trail_4]
  rfl

theorem v58_apply (b : Fin 8) (t : Fin 2048) (j : Fin 256) :
    val_main_v58 (F := Ideal) x0 (ix3 b t j) = group (prompt x0 b) 512 (by decide) 8 (Ideal.ofBits .f32 0x41000000#32) t j := by
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_4, val_main_cst_5, group, pooled]
  simp only [v2_apply, v4_apply, v9_apply, ← own_cols, trail_8]
  rfl

theorem v97_apply (b : Fin 8) (t : Fin 2048) (j : Fin 256) :
    val_main_v97 (F := Ideal) x0 (ix3 b t j) = group (prompt x0 b) 768 (by decide) 16 (Ideal.ofBits .f32 0x41800000#32) t j := by
  pointwise [val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_cst_6, val_main_cst_7, group, pooled]
  simp only [v2_apply, v4_apply, v9_apply, ← own_cols, trail_16]
  rfl

theorem v100_apply (b : Fin 8) (t : Fin 2048) (j : Fin 1024) :
    val_main_v100 (F := Ideal) x0 (ix2 ⟨b.val * 2048 + t.val, by omega⟩ j) = entry (prompt x0 b) t j := by
  pointwise [val_main_v100, val_main_v99, val_main_v98]
  have e1 : (⟨(b.val * 2048 + t.val) / 2048, by omega⟩ : Fin 8) = b := Fin.ext (by show (b.val * 2048 + t.val) / 2048 = b.val; omega)
  have e2 : (⟨(b.val * 2048 + t.val) % 2048, by omega⟩ : Fin 2048) = t := Fin.ext (by show (b.val * 2048 + t.val) % 2048 = t.val; omega)
  simp only [e1, e2, v20_apply, v35_apply, v58_apply, v97_apply, entry]

end Cert.PoolFreshIdeal.Rows

end
-- ==== Proof.PoolFreshValue.lean ====
/- The pooling of the prompts: the result array of the kernel is the reference's. -/
module

public import proofs.«01_k».proof.Proof.PoolFreshReference
public import proofs.«01_k».proof.Proof.Gen.PoolFreshIdeal.Frame
public import proofs.«01_k».proof.Proof.Gen.PoolFreshIdeal.Value
public import Idealize.ShloMosaic.Lib.Pipeline.Value
public import Idealize.ShloMosaic.Lib.Pipeline.ValueKit
public import Idealize.ShloMosaic.Lib.ValueIdx

@[expose] public section

set_option maxRecDepth 16384

noncomputable section

namespace Cert.PoolFreshIdeal.Rows

open Cert.PoolFreshIdeal Cert.PoolFreshIdeal.Gen Cert.PoolMath
open Idealize.ShloMosaic Idealize.ShloMosaic.TcCoe Idealize.SL.Sem
open Idealize.ShloMosaic.Pipeline (Dat)
open Cert.PoolFreshReferenceIdeal.Read
open scoped BigOperators

variable (m : (ℓ : Loc nD τ sig) → Buf (Elt Ideal) ℓ)

/-- Where each window's block sits at each point. -/
theorem idx : ∀ t : Fin cfg0.N, win0_0.index t = ![t.val, 6] ∧ win0_1.index t = ![t.val, 0] ∧ t.val < 8 :=
  (by decide +kernel : ∀ t : Fin grid0.N, _)

variable (c : Dev nD) (t : Fin cfg0.N)

/-- The projection that the region finds. -/
abbrev a0 : FVec Ideal S17408x9216 .bf16 := m ((c : Thread nD τ).loc main_arg0)

/-- A point reads the rows of its own prompt. -/
theorem rows_block : X0_0 m c t = prompt (a0 m c) ⟨t.val, (idx t).2.2⟩ := by
  funext y
  unfold X0_0 Pipeline.Window.fill
  rw [dif_pos (moved0_0 t y)]
  blk_point [iblk, V, idx t, prompt]

theorem out_block : outsAt0 m c t = block (grid0.coords t) (X0_0 m c t) := by
  unfold outsAt0
  frame_out

theorem final_1 : (dats m 0 c).arrAt 1 (cfgs 0).N = val_main_v100 (F := Ideal) (a0 m c) := by
  refine (dats m 0 c).arrAt_eq_of_covers 1 _ (by decide +kernel) fun t hf y => ?_
  blk_simp; rw [after0_1, out_block, rows_block]
  have e : (y : S2048x1024.Idx) = ix2 (y 0) (y 1) := by funext a; fin_cases a <;> rfl
  refine (congrArg (block (grid0.coords t) (prompt (a0 m c) ⟨t.val, (idx t).2.2⟩)) e).trans ?_
  refine (block_apply _ _ _ _).trans ((v100_apply (a0 m c) ⟨t.val, (idx t).2.2⟩ (y 0) (y 1)).symm.trans ?_)
  refine congrArg (val_main_v100 (F := Ideal) (a0 m c)) ?_
  blk_ext [idx t]

end Cert.PoolFreshIdeal.Rows

end
-- ==== Proof.PoolFreshClaim.lean ====
/- The pooling of the prompts: the claim, from the result array. -/
module

public import proofs.«01_k».proof.Defs
public import proofs.«01_k».proof.Proof.PoolFreshValue
public import proofs.«01_k».proof.Proof.Gen.PoolFreshReferenceIdeal
public import proofs.«01_k».proof.Proof.Gen.PoolFreshReferenceIdeal.Run

@[expose] public section

set_option maxRecDepth 16384

noncomputable section

namespace Cert.PoolFreshIdeal.Rows

open Idealize.ShloMosaic Idealize.SL.Sem

instance ideal_facts : Cert.PoolFreshIdeal.Facts := Cert.PoolFreshIdeal.Gen.facts
instance reference_facts : Cert.PoolFreshReferenceIdeal.Facts := Cert.PoolFreshReferenceIdeal.Gen.facts

theorem alg : Cert.algebraic_PoolFreshIdeal_PoolFreshReferenceIdeal := by
  intro m g m' g' hpre hagree
  refine ⟨_, Cert.PoolFreshIdeal.Value.run_blocks m g,
    (θ_run Cert.PoolFreshReferenceIdeal.defs _ _).mono (fun r h c => ?_) (Cert.PoolFreshReferenceIdeal.Value.run m' g')⟩
  refine ⟨(h c).1.trans ?_, (h c).2⟩
  rw [Cert.PoolFreshReferenceIdeal.Read.val_main_v100_eq, hagree c]
  exact (final_1 m c).symm

end Cert.PoolFreshIdeal.Rows

end
-- ==== Proof.PoolStatePast.lean ====
/- The samples' pooling: what the scratch buffer holds when a sample's past is loaded from it. The buffer is filled with
   zeros, then with the sixteen samples' rows, each group of fifteen behind a row of zeros; sample after sample then loads
   its own sixteen rows and writes them anew. So the rows of the samples to come always are the first ones. -/
module

public import proofs.«01_k».proof.Proof.Gen.PoolStateIdeal.Frame
public import Idealize.ShloMosaic.Lib.Pipeline.Value
public import Idealize.ShloMosaic.Lib.Pipeline.ValueKit
public import Idealize.ShloMosaic.Lib.Pointwise
public import Idealize.ShloMosaic.Lib.ValueIdx

@[expose] public section

set_option maxRecDepth 16384

noncomputable section

namespace Cert.PoolStateIdeal.Rows

open Cert.PoolStateIdeal Cert.PoolStateIdeal.Gen
open Idealize.ShloMosaic Idealize.ShloMosaic.TcCoe Idealize.SL.Sem

/-- The past of a sample: a row of zeros and the fifteen rows of its state. -/
def past (x1 : Vec Ideal S16x15x1024 .f32) (s : Fin 16) : Vec Ideal S16x1024 .f32 := fun y =>
  if h : (y 0).val = 0 then 0
  else x1 (ix3 s ⟨(y 0).val - 1, by have : (y 0).val < 16 := (y 0).isLt; omega⟩ (y 1))

/-- The buffer's contents while no sample has written: sixteen rows to a sample. -/
def held (x1 : Vec Ideal S16x15x1024 .f32) : Vec Ideal S256x1024 .f32 := fun y =>
  past x1 ⟨(y 0).val / 16, by have : (y 0).val < 256 := (y 0).isLt; omega⟩ (ix2 ⟨(y 0).val % 16, by omega⟩ (y 1))

theorem past_row (x1 : Vec Ideal S16x15x1024 .f32) (s : Fin 16) (q : ℕ) (hq : q < 15) (j : Fin 1024) :
    past x1 s (ix2 ⟨q + 1, by omega⟩ j) = x1 (ix3 s ⟨q, hq⟩ j) := dif_neg (Nat.succ_ne_zero q)

theorem past_zero (x1 : Vec Ideal S16x15x1024 .f32) (s : Fin 16) (j : Fin 1024) :
    past x1 s (ix2 ⟨0, by omega⟩ j) = 0 := dif_pos rfl

theorem held_eq (x1 : Vec Ideal S16x15x1024 .f32) (y : S256x1024.Idx) (s : Fin 16) (q : Fin 16) (j : Fin 1024)
    (h : (y 0).val = 16 * s.val + q.val) (hj : (y 1).val = j.val) : held x1 y = past x1 s (ix2 q j) := by
  have hs : (⟨(y 0).val / 16, by omega⟩ : Fin 16) = s := Fin.ext (by show (y 0).val / 16 = s.val; omega)
  have hq : (⟨(y 0).val % 16, by omega⟩ : Fin 16) = q := Fin.ext (by show (y 0).val % 16 = q.val; omega)
  have e1 : (y 1 : Fin 1024) = j := Fin.ext hj
  show past x1 ⟨(y 0).val / 16, _⟩ (ix2 ⟨(y 0).val % 16, _⟩ (y 1)) = _
  rw [hs, hq]
  exact congrArg (fun z => past x1 s (ix2 q z)) e1

/-- Writes after which the rows of the first `k` samples are filled, and all later rows are zero. -/
def Filled (x1 : Vec Ideal S16x15x1024 .f32) (L : List (View.Piece (Elt Ideal) S256x1024 .f32)) (k : ℕ) : Prop :=
  ∀ y : S256x1024.Idx, View.canon L y = if (y 0).val < 16 * k then held x1 y else 0

/-- Writes after which the rows of the samples from `k` on are as filled. -/
def Kept (x1 : Vec Ideal S16x15x1024 .f32) (L : List (View.Piece (Elt Ideal) S256x1024 .f32)) (k : ℕ) : Prop :=
  ∀ y : S256x1024.Idx, 16 * k ≤ (y 0).val → View.canon L y = held x1 y

variable {x1 : Vec Ideal S16x15x1024 .f32} {L : List (View.Piece (Elt Ideal) S256x1024 .f32)}

theorem filled_zero (inb : ∀ a, (![0, 0] : Fin 2 → ℕ) a + S256x1024.size a ≤ S256x1024.size a) :
    Filled x1 [⟨Rect.unit (s := S256x1024) ![0, 0] S256x1024.size inb, k0_pay3 (F := Ideal)⟩] 0 := by
  intro y
  rw [View.canon_cons_unit_lit inb _ _ (by decide), if_neg (by omega)]
  pointwise [k0_pay3]

theorem cast_row (X : Vec Ideal S1x15x1024 .f32) (h1 : S1x15x1024.ShapeCasts S15x1024)
    (h2 : S15x1024.ShapeCasts S15x1024) (q : Fin 15) (j : Fin 1024) :
    shapeCast S15x1024 (shapeCast S15x1024 X h1) h2 (ix2 q j) = X (ix3 0 q j) := by
  rw [shapeCast_self]
  pointwise []

/-- A sample's fifteen rows, as they are stored. -/
theorem state_row (arg3 : Memref sig .tc .vmem S16x15x1024 .f32) (harg3 : arg3.IsWhole) (k : Fin 16)
    (inb : ∀ a, (![k.val, 0, 0] : Fin 3 → ℕ) a + S1x15x1024.size a ≤ S16x15x1024.size a) (h1 : S1x15x1024.ShapeCasts S15x1024)
    (h2 : S15x1024.ShapeCasts S15x1024) (q : Fin 15) (j : Fin 1024) :
    shapeCast S15x1024 (shapeCast S15x1024 (View.readAt (Elt Ideal) arg3.view (Rect.unit (s := S16x15x1024) ![k.val, 0, 0] S1x15x1024.size inb).toLoadRect
      (harg3.unread x1)) h1) h2 (ix2 q j) = x1 (ix3 k q j) := by
  rw [View.readAt_eq_ld, harg3.read_unread]
  refine (cast_row _ h1 h2 q j).trans (congrArg x1 ?_)
  funext a
  match a with
  | ⟨0, _⟩ => exact Fin.ext (by show k.val + 1 * 0 = k.val; omega)
  | ⟨1, _⟩ => exact Fin.ext (by show 0 + 1 * q.val = q.val; omega)
  | ⟨2, _⟩ => exact Fin.ext (by show 0 + 1 * j.val = j.val; omega)

theorem Filled.store {k : ℕ} (hL : Filled x1 L k) (o : ℕ) (ho : o = 16 * k + 1) (hk : k < 16)
    (inb : ∀ a, (![o, 0] : Fin 2 → ℕ) a + S15x1024.size a ≤ S256x1024.size a) (w : Vec Ideal S15x1024 .f32)
    (hw : ∀ (q : Fin 15) (j : Fin 1024), w (ix2 q j) = x1 (ix3 ⟨k, hk⟩ q j)) :
    Filled x1 (⟨Rect.unit (s := S256x1024) ![o, 0] S15x1024.size inb, w⟩ :: L) (k + 1) := by
  subst ho
  intro y
  have hy0 : (y 0).val < 256 := (y 0).isLt
  have hy1 : (y 1).val < 1024 := (y 1).isLt
  by_cases hm : 16 * k + 1 ≤ (y 0).val ∧ (y 0).val < 16 * k + 1 + 15
  · obtain ⟨q, hq⟩ : ∃ q, (y 0).val = 16 * k + 1 + q := ⟨(y 0).val - (16 * k + 1), by omega⟩
    have hq15 : q < 15 := by omega
    have e : y = (Rect.unit (s := S256x1024) ![16 * k + 1, 0] S15x1024.size inb).emb (ix2 (⟨q, hq15⟩ : Fin 15) (⟨(y 1).val, hy1⟩ : Fin 1024)) := by
      funext a
      match a with
      | ⟨0, _⟩ => exact Fin.ext (by show (y 0).val = 16 * k + 1 + 1 * q; omega)
      | ⟨1, _⟩ => exact Fin.ext (by show (y 1).val = 0 + 1 * (y 1).val; omega)
    have ec := View.canon_cons_emb (Val := Elt Ideal) (Rect.unit (s := S256x1024) ![16 * k + 1, 0] S15x1024.size inb) w L (ix2 (⟨q, hq15⟩ : Fin 15) (⟨(y 1).val, hy1⟩ : Fin 1024))
    rw [← e] at ec
    refine ec.trans ((hw ⟨q, hq15⟩ ⟨(y 1).val, hy1⟩).trans ?_)
    have eq1 : (y 0).val = 16 * k + (q + 1) := by omega
    rw [if_pos (by omega), held_eq x1 y ⟨k, hk⟩ ⟨q + 1, by omega⟩ ⟨(y 1).val, hy1⟩ eq1 rfl, past_row]
  · refine (View.canon_cons_of_not_mem _ _ (fun h => hm ?_)).trans ((hL y).trans ?_)
    · have h1 := (Rect.mem_set_unit (s := S256x1024) (inb := inb)).mp h
      have h0 : 16 * k + 1 ≤ (y 0).val ∧ (y 0).val < 16 * k + 1 + 15 := h1 0
      exact h0
    by_cases hs : (y 0).val < 16 * k
    · rw [if_pos hs, if_pos (by omega)]
    · rw [if_neg hs]
      by_cases ht : (y 0).val < 16 * (k + 1)
      · have ez : (y 0).val = 16 * k + 0 := by omega
        rw [if_pos ht, held_eq x1 y ⟨k, hk⟩ ⟨0, by omega⟩ ⟨(y 1).val, hy1⟩ ez rfl, past_zero]
      · rw [if_neg ht]

theorem Filled.kept (hL : Filled x1 L 16) : Kept x1 L 0 := by
  intro y _
  have hy0 : (y 0).val < 256 := (y 0).isLt
  rw [hL y, if_pos (by omega)]

/-- A sample's write leaves the rows of the later samples. -/
theorem Kept.write {k : ℕ} (hL : Kept x1 L k) (o : ℕ) (ho : o = 16 * k)
    (inb : ∀ a, (![o, 0] : Fin 2 → ℕ) a + S16x1024.size a ≤ S256x1024.size a) (w : Vec Ideal S16x1024 .f32) :
    Kept x1 (⟨Rect.unit (s := S256x1024) ![o, 0] S16x1024.size inb, w⟩ :: L) (k + 1) := by
  subst ho
  intro y hy
  refine (View.canon_cons_of_not_mem _ _ (fun h => ?_)).trans (hL y (by omega))
  have h1 := (Rect.mem_set_unit (s := S256x1024) (inb := inb)).mp h
  have h0 : 16 * k ≤ (y 0).val ∧ (y 0).val < 16 * k + 16 := h1 0
  omega

/-- So a sample's load finds its past. -/
theorem Kept.load {k : ℕ} (hL : Kept x1 L k) (hk : k < 16) (o : ℕ) (ho : o = 16 * k)
    (inb : ∀ a, (![o, 0] : Fin 2 → ℕ) a + S16x1024.size a ≤ S256x1024.size a) (arg5 : Memref sig .tc .vmem S256x1024 .f32) :
    arg5.view.readCov L (Rect.unit (s := S256x1024) ![o, 0] S16x1024.size inb).toLoadRect = past x1 ⟨k, hk⟩ := by
  subst ho
  rw [View.readCov_eq_canon']
  funext y
  have hy0 : (y 0).val < 16 := (y 0).isLt
  have e0 : (((Rect.unit (s := S256x1024) ![16 * k, 0] S16x1024.size inb).toLoadRect.idx y) 0).val = 16 * k + (y 0).val := by
    show 16 * k + 1 * (y 0).val = _; omega
  have e1 : (((Rect.unit (s := S256x1024) ![16 * k, 0] S16x1024.size inb).toLoadRect.idx y) 1).val = (y 1).val := by
    show 0 + 1 * (y 1).val = _; omega
  have hy1 : (y 1).val < 1024 := (y 1).isLt
  rw [hL _ (by omega), held_eq x1 _ ⟨k, hk⟩ ⟨(y 0).val, hy0⟩ ⟨(y 1).val, hy1⟩ e0 e1]
  refine congrArg (past x1 ⟨k, hk⟩) ?_
  funext a
  match a with
  | ⟨0, _⟩ => rfl
  | ⟨1, _⟩ => rfl

end Cert.PoolStateIdeal.Rows

end
-- ==== Proof.PoolStateRows.lean ====
/- The pooling of the samples, entry by entry: a sample's rows under the sixteen rows of its past, and the trailing sums
   of their columns. -/
module

public import proofs.«01_k».proof.Proof.PoolMath
public import proofs.«01_k».proof.Proof.PoolStatePast

@[expose] public section

set_option maxRecDepth 16384

noncomputable section

namespace Cert.PoolStateIdeal.Rows

open Cert.PoolStateIdeal Cert.PoolStateIdeal.Gen Cert.PoolMath
open Idealize.ShloMosaic Idealize.ShloMosaic.TcCoe Idealize.SL.Sem
open scoped BigOperators

variable (P : Vec Ideal S16x1024 .f32) (U : FVec Ideal S8x1024 .f32)

/-- Column `j` of a sample's past with its own rows below. -/
def ext (j : Fin 1024) (i : ℕ) : EReal :=
  if h : i < 16 then P (ix2 ⟨i, h⟩ j) else if h : i - 16 < 8 then U (ix2 ⟨i - 16, h⟩ j) else 0

/-- The past with the rows below, as an array. -/
abbrev rows : FVec Ideal S24x1024 .f32 :=
  concatenate S24x1024 0 [⟨S16x1024, P⟩, ⟨S8x1024, U⟩] concatenates_S16x1024_S8x1024_S24x1024_d0

theorem rows_apply (i : Fin 24) (j : Fin 1024) : rows P U (ix2 i j) = ext P U j i.val := by
  have hi := i.isLt
  pointwise [ext]
  split
  · rfl
  · rw [dif_pos (by omega)]

theorem ext_own (r : Fin 8) (j : Fin 1024) : ext P U j (r.val + 16) = U (ix2 r j) := by
  have hr := r.isLt
  rw [ext, dif_neg (by omega), dif_pos (by omega)]
  simp only [Nat.add_sub_cancel, Fin.eta]

/-- The number of rows there are at a sample's row `r`. -/
def count (r : ℕ) : EReal := FloatOps.sitofp (F := Ideal) FTy.f32 (BitVec.ofNat 32 r + 16385#32)

theorem pay23_apply (i : grid0.Coords) (r : Fin 8) (j : Fin 1) :
    k0_pay23 (F := Ideal) i (ix2 r j) = count r.val := by
  pointwise [k0_pay23, count]
  refine congrArg _ ?_
  show (16385#32 + 0#32 * 8#32) + BitVec.ofNat 32 r.val = BitVec.ofNat 32 r.val + 16385#32
  rw [BitVec.add_comm]
  rfl

/-- Columns `a …` of the past with the rows below. -/
def cols (a : ℕ) (ha : a + 256 ≤ 1024) (i : ℕ) (j : Fin 256) : EReal := ext P U ⟨a + j.val, by omega⟩ i

theorem cols_apply (a : ℕ) (ha : a + 256 ≤ 1024) (h : S24x1024.Slices ![0, a] S24x256) :
    Trails (L := 24) (extractStridedSlice S24x256 ![0, a] (rows P U) h) (cols P U a ha) 1 := by
  refine trails_one _ _ fun i j => Eq.trans ?_ (rows_apply P U i _)
  pointwise []

theorem own_apply (a : ℕ) (ha : a + 256 ≤ 1024) (h : S8x1024.Slices ![0, a] S8x256) (r : Fin 8) (j : Fin 256) :
    extractStridedSlice S8x256 ![0, a] U h (ix2 r j) = cols P U a ha (r.val + 16) j := by
  refine Eq.trans ?_ (ext_own P U r _).symm
  pointwise []

/-- Entry `(r, j)` of a window's group of columns. -/
def group (a : ℕ) (ha : a + 256 ≤ 1024) (n : ℕ) (w : EReal) (r : Fin 8) (j : Fin 256) : EReal :=
  pooled (fun k => cols P U a ha k j) n (r.val + 16) w (count r.val)

variable (C : FVec Ideal S8x1 .f32)

/-- The first group of columns. -/
def first : FVec Ideal S8x256 .f32 :=
  finish (T := 8) (double (extractStridedSlice S24x256 ![0, 0] (rows P U) slices_S24x1024_o0_0_S24x256) 1#32 rotates_S24x256_d0)
    (extractStridedSlice S8x256 ![0, 0] U slices_S8x1024_o0_0_S8x256) C (Ideal.ofBits .f32 0x40000000#32) slices_S24x256_o16_0_S8x256 broadcasts_S8x1_S8x256

theorem first_apply (hC : ∀ r : Fin 8, C (ix2 r 0) = count r.val) (r : Fin 8) (j : Fin 256) :
    first P U C (ix2 r j) = group P U 0 (by decide) 2 (Ideal.ofBits .f32 0x40000000#32) r j := by
  have t1 := cols_apply P U 0 (by decide) slices_S24x1024_o0_0_S24x256
  have t2 := trails_double _ _ 1 (by decide) 1#32 rfl rotates_S24x256_d0 t1
  exact (finish_apply (T := 8) _ _ C _ _ 2 (by decide) t2 slices_S24x256_o16_0_S8x256 broadcasts_S8x1_S8x256 r j
    (own_apply P U 0 (by decide) slices_S8x1024_o0_0_S8x256 r j)).trans (by rw [hC]; rfl)

/-- The second group of columns. -/
def second : FVec Ideal S8x256 .f32 :=
  finish (T := 8) (double (double (extractStridedSlice S24x256 ![0, 256] (rows P U) slices_S24x1024_o0_256_S24x256) 1#32 rotates_S24x256_d0) 2#32 rotates_S24x256_d0)
    (extractStridedSlice S8x256 ![0, 256] U slices_S8x1024_o0_256_S8x256) C (Ideal.ofBits .f32 0x40800000#32) slices_S24x256_o16_0_S8x256 broadcasts_S8x1_S8x256

theorem second_apply (hC : ∀ r : Fin 8, C (ix2 r 0) = count r.val) (r : Fin 8) (j : Fin 256) :
    second P U C (ix2 r j) = group P U 256 (by decide) 4 (Ideal.ofBits .f32 0x40800000#32) r j := by
  have t1 := cols_apply P U 256 (by decide) slices_S24x1024_o0_256_S24x256
  have t2 := trails_double _ _ 1 (by decide) 1#32 rfl rotates_S24x256_d0 t1
  have t4 := trails_double _ _ 2 (by decide) 2#32 rfl rotates_S24x256_d0 t2
  exact (finish_apply (T := 8) _ _ C _ _ 4 (by decide) t4 slices_S24x256_o16_0_S8x256 broadcasts_S8x1_S8x256 r j
    (own_apply P U 256 (by decide) slices_S8x1024_o0_256_S8x256 r j)).trans (by rw [hC]; rfl)

/-- The third group of columns. -/
def third : FVec Ideal S8x256 .f32 :=
  finish (T := 8) (double (double (double (extractStridedSlice S24x256 ![0, 512] (rows P U) slices_S24x1024_o0_512_S24x256) 1#32 rotates_S24x256_d0) 2#32 rotates_S24x256_d0) 4#32 rotates_S24x256_d0)
    (extractStridedSlice S8x256 ![0, 512] U slices_S8x1024_o0_512_S8x256) C (Ideal.ofBits .f32 0x41000000#32) slices_S24x256_o16_0_S8x256 broadcasts_S8x1_S8x256

theorem third_apply (hC : ∀ r : Fin 8, C (ix2 r 0) = count r.val) (r : Fin 8) (j : Fin 256) :
    third P U C (ix2 r j) = group P U 512 (by decide) 8 (Ideal.ofBits .f32 0x41000000#32) r j := by
  have t1 := cols_apply P U 512 (by decide) slices_S24x1024_o0_512_S24x256
  have t2 := trails_double _ _ 1 (by decide) 1#32 rfl rotates_S24x256_d0 t1
  have t4 := trails_double _ _ 2 (by decide) 2#32 rfl rotates_S24x256_d0 t2
  have t8 := trails_double _ _ 4 (by decide) 4#32 rfl rotates_S24x256_d0 t4
  exact (finish_apply (T := 8) _ _ C _ _ 8 (by decide) t8 slices_S24x256_o16_0_S8x256 broadcasts_S8x1_S8x256 r j
    (own_apply P U 512 (by decide) slices_S8x1024_o0_512_S8x256 r j)).trans (by rw [hC]; rfl)

/-- The fourth group of columns. -/
def fourth : FVec Ideal S8x256 .f32 :=
  finish (T := 8) (double (double (double (double (extractStridedSlice S24x256 ![0, 768] (rows P U) slices_S24x1024_o0_768_S24x256) 1#32 rotates_S24x256_d0) 2#32 rotates_S24x256_d0) 4#32 rotates_S24x256_d0) 8#32 rotates_S24x256_d0)
    (extractStridedSlice S8x256 ![0, 768] U slices_S8x1024_o0_768_S8x256) C (Ideal.ofBits .f32 0x41800000#32) slices_S24x256_o16_0_S8x256 broadcasts_S8x1_S8x256

theorem fourth_apply (hC : ∀ r : Fin 8, C (ix2 r 0) = count r.val) (r : Fin 8) (j : Fin 256) :
    fourth P U C (ix2 r j) = group P U 768 (by decide) 16 (Ideal.ofBits .f32 0x41800000#32) r j := by
  have t1 := cols_apply P U 768 (by decide) slices_S24x1024_o0_768_S24x256
  have t2 := trails_double _ _ 1 (by decide) 1#32 rfl rotates_S24x256_d0 t1
  have t4 := trails_double _ _ 2 (by decide) 2#32 rfl rotates_S24x256_d0 t2
  have t8 := trails_double _ _ 4 (by decide) 4#32 rfl rotates_S24x256_d0 t4
  have t16 := trails_double _ _ 8 (by decide) 8#32 rfl rotates_S24x256_d0 t8
  exact (finish_apply (T := 8) _ _ C _ _ 16 (by decide) t16 slices_S24x256_o16_0_S8x256 broadcasts_S8x1_S8x256 r j
    (own_apply P U 768 (by decide) slices_S8x1024_o0_768_S8x256 r j)).trans (by rw [hC]; rfl)

/-- A sample's eight rows of the result, from its past, its own rows and the row counts. -/
def sample : FVec Ideal S8x1024 .f32 :=
  concatenate S8x1024 1 [⟨S8x256, first P U C⟩, ⟨S8x256, second P U C⟩, ⟨S8x256, third P U C⟩, ⟨S8x256, fourth P U C⟩]
    concatenates_S8x256_S8x256_S8x256_S8x256_S8x1024_d1

/-- Entry `(r, j)` of a sample's pooling: the window is chosen by the group of columns `j` falls in. -/
def entry (r : Fin 8) (j : Fin 1024) : EReal :=
  if h : j.val < 256 then group P U 0 (by decide) 2 (Ideal.ofBits .f32 0x40000000#32) r ⟨j.val, h⟩
  else if h : j.val - 256 < 256 then group P U 256 (by decide) 4 (Ideal.ofBits .f32 0x40800000#32) r ⟨j.val - 256, h⟩
  else if h : j.val - 256 - 256 < 256 then group P U 512 (by decide) 8 (Ideal.ofBits .f32 0x41000000#32) r ⟨j.val - 256 - 256, h⟩
  else group P U 768 (by decide) 16 (Ideal.ofBits .f32 0x41800000#32) r ⟨j.val - 256 - 256 - 256, by omega⟩

theorem sample_apply (hC : ∀ r : Fin 8, C (ix2 r 0) = count r.val) (r : Fin 8) (j : Fin 1024) :
    sample P U C (ix2 r j) = entry P U r j := by
  unfold sample
  pointwise [entry]
  simp only [first_apply P U C hC, second_apply P U C hC, third_apply P U C hC, fourth_apply P U C hC]

/-- A sample's own rows in a point's block of rows. -/
def own (x0 : Vec Ideal S128x1024 .bf16) (s : Fin 16) : FVec Ideal S8x1024 .f32 :=
  fun y => x0 (ix2 ⟨8 * s.val + (y 0).val, by have : (y 0).val < 8 := (y 0).isLt; omega⟩ (y 1))

theorem own_slice (x0 : Vec Ideal S128x1024 .bf16) (s : Fin 16) (o : ℕ) (ho : o = 8 * s.val)
    (h : S128x1024.Slices ![o, 0] S8x1024) : extractStridedSlice S8x1024 ![o, 0] (k0_pay22 (F := Ideal) x0) h = own x0 s := by
  subst ho
  funext y
  have e : y = ix2 (y 0) (y 1) := by funext a; fin_cases a <;> rfl
  rw [e]
  pointwise [k0_pay22, own]

/-- What a point computes for sample `s` of its sixteen. -/
def fam (i : grid0.Coords) (x0 : Vec Ideal S128x1024 .bf16) (x1 : Vec Ideal S16x15x1024 .f32) (s : Fin 16) : FVec Ideal S8x1024 .f32 :=
  sample (past x1 s) (own x0 s) (k0_pay23 (F := Ideal) i)

theorem fam_eq (i : grid0.Coords) (x0 : Vec Ideal S128x1024 .bf16) (x1 : Vec Ideal S16x15x1024 .f32) (s : Fin 16) (o : ℕ)
    (ho : o = 8 * s.val) (h : S128x1024.Slices ![o, 0] S8x1024) (Q : Vec Ideal S16x1024 .f32) (hQ : Q = past x1 s) :
    sample Q (extractStridedSlice S8x1024 ![o, 0] (k0_pay22 (F := Ideal) x0) h) (k0_pay23 (F := Ideal) i) = fam i x0 x1 s := by
  rw [hQ, own_slice x0 s o ho]
  rfl

/-- The sixteen samples' rows, one below the other. -/
def stack (f : Fin 16 → FVec Ideal S8x1024 .f32) : FVec Ideal S128x1024 .bf16 :=
  k0_pay2 (f 0) (f 1) (f 2) (f 3) (f 4) (f 5) (f 6) (f 7) (f 8) (f 9) (f 10) (f 11) (f 12) (f 13) (f 14) (f 15)

theorem stack_apply (f : Fin 16 → FVec Ideal S8x1024 .f32) (s : Fin 16) (r : Fin 8) (j : Fin 1024) :
    stack f (ix2 ⟨8 * s.val + r.val, by omega⟩ j) = f s (ix2 r j) := by
  have hr := r.isLt
  have e0 : ((ix2 (⟨8 * s.val + r.val, by omega⟩ : Fin 128) j : S128x1024.Idx) 0).val = 8 * s.val + r.val := rfl
  exact concatenate_ofFn_apply (t := S128x1024) (s₁ := S8x1024) 0 f
    concatenates_S8x1024_S8x1024_S8x1024_S8x1024_S8x1024_S8x1024_S8x1024_S8x1024_S8x1024_S8x1024_S8x1024_S8x1024_S8x1024_S8x1024_S8x1024_S8x1024_S128x1024_d0
    rfl 8 rfl (ix2 ⟨8 * s.val + r.val, by omega⟩ j) s (by rw [e0]; omega) (ix2 r j) (by rw [e0]; show r.val = _; omega)
    fun b hb => by
      match b with
      | ⟨0, _⟩ => exact absurd rfl hb
      | ⟨1, _⟩ => rfl

end Cert.PoolStateIdeal.Rows

end
-- ==== Proof.PoolStateReference.lean ====
/- The reference of the samples' pooling, entry by entry: the trailing sums of the same columns. -/
module

public import proofs.«01_k».proof.Proof.PoolStateRows
public import proofs.«01_k».proof.Proof.Gen.PoolStateReferenceIdeal.Read

@[expose] public section

set_option maxRecDepth 16384

noncomputable section

namespace Cert.PoolStateIdeal.Rows

open Cert.PoolStateIdeal Cert.PoolMath
open Idealize.ShloMosaic Idealize.ShloMosaic.TcCoe Idealize.SL.Sem
open Cert.PoolStateReferenceIdeal.Read
open scoped BigOperators

variable (x0 : FVec Ideal S17408x9216 .bf16) (x1 : FVec Ideal S128x15x1024 .f32)

/-- The rows of sample `b` that are pooled: 8 rows of the projection below the prompts', columns 6144 to 7167. -/
def ownOf (b : Fin 128) : FVec Ideal S8x1024 .f32 :=
  fun y => x0 (ix2 ⟨16384 + (b.val * 8 + (y 0).val), by have : (y 0).val < 8 := (y 0).isLt; omega⟩
    ⟨6144 + (y 1).val, by have : (y 1).val < 1024 := (y 1).isLt; omega⟩)

/-- The past of sample `b`: a row of zeros and its fifteen earlier rows. -/
def pastOf (b : Fin 128) : Vec Ideal S16x1024 .f32 := fun y =>
  if h : (y 0).val = 0 then 0
  else x1 (ix3 b ⟨(y 0).val - 1, by have : (y 0).val < 16 := (y 0).isLt; omega⟩ (y 1))

theorem v2_apply (b : Fin 128) (t : Fin 8) (j : Fin 1024) :
    val_main_v2 (F := Ideal) x0 (ix3 b t j) = ownOf x0 b (ix2 t j) := by
  pointwise [val_main_v2, val_main_v1, val_main_v0, ownOf]

theorem ext_past (P : Vec Ideal S16x1024 .f32) (U : FVec Ideal S8x1024 .f32) (j : Fin 1024) (k : ℕ) (h : k < 15) :
    ext P U j (k + 1) = P (ix2 ⟨k + 1, by omega⟩ j) := by
  rw [ext, dif_pos (by omega)]

theorem ext_below (P : Vec Ideal S16x1024 .f32) (U : FVec Ideal S8x1024 .f32) (j : Fin 1024) (k : ℕ) (hk : k - 15 < 8) (h : ¬ k < 15) :
    ext P U j (k + 1) = U (ix2 ⟨k - 15, hk⟩ j) := by
  rw [ext, dif_neg (by omega), dif_pos (by omega)]
  simp only [Nat.add_sub_add_right k 1 15]

theorem pastOf_row (b : Fin 128) (k : ℕ) (hk : k < 15) (j : Fin 1024) :
    pastOf x1 b (ix2 ⟨k + 1, by omega⟩ j) = x1 (ix3 b ⟨k, hk⟩ j) := dif_neg (Nat.succ_ne_zero k)

theorem v3_apply (b : Fin 128) (k : Fin 23) (j : Fin 1024) :
    val_main_v3 (F := Ideal) x0 x1 (ix3 b k j) = ext (pastOf x1 b) (ownOf x0 b) j (k.val + 1) := by
  have hk := k.isLt
  pointwise [val_main_v3]
  simp only [v2_apply]
  split
  · rw [ext_past _ _ _ _ (by assumption), pastOf_row]
  · exact (ext_below _ _ j k.val (by omega) (by assumption)).symm

theorem v8_apply (t : Fin 8) :
    val_main_v8 (F := Ideal) (ix3 0 t 0) = count t.val := by
  pointwise [val_main_v8, val_main_v7, val_main_v6, val_main_v5, val_main_v4, val_main_c, count]
  rfl

theorem own_cols (P : Vec Ideal S16x1024 .f32) (U : FVec Ideal S8x1024 .f32) (a : ℕ) (ha : a + 256 ≤ 1024) (t : Fin 8) (j : Fin 256) :
    U (ix2 t ⟨a + j.val, by omega⟩) = cols P U a ha (t.val + 16) j := (Rows.ext_own P U t _).symm

theorem v19_apply (b : Fin 128) (t : Fin 8) (j : Fin 256) :
    val_main_v19 (F := Ideal) x0 x1 (ix3 b t j) = group (pastOf x1 b) (ownOf x0 b) 0 (by decide) 2 (Ideal.ofBits .f32 0x40000000#32) t j := by
  pointwise [val_main_v9, val_main_v10, val_main_v11, val_main_v12, val_main_v13, val_main_v14, val_main_v15, val_main_v16, val_main_v17, val_main_v18, val_main_v19, val_main_cst, val_main_cst_0, group, pooled]
  simp only [v2_apply, v3_apply, v8_apply, ← own_cols (pastOf x1 b), trail_2]
  simp only [cols, Nat.zero_add]

theorem v34_apply (b : Fin 128) (t : Fin 8) (j : Fin 256) :
    val_main_v34 (F := Ideal) x0 x1 (ix3 b t j) = group (pastOf x1 b) (ownOf x0 b) 256 (by decide) 4 (Ideal.ofBits .f32 0x40800000#32) t j := by
  pointwise [val_main_v20, val_main_v21, val_main_v22, val_main_v23, val_main_v24, val_main_v25, val_main_v26, val_main_v27, val_main_v28, val_main_v29, val_main_v30, val_main_v31, val_main_v32, val_main_v33, val_main_v34, val_main_cst_1, val_main_cst_2, group, pooled]
  simp only [v2_apply, v3_apply, v8_apply, ← own_cols (pastOf x1 b), trail_4]
  rfl

theorem v57_apply (b : Fin 128) (t : Fin 8) (j : Fin 256) :
    val_main_v57 (F := Ideal) x0 x1 (ix3 b t j) = group (pastOf x1 b) (ownOf x0 b) 512 (by decide) 8 (Ideal.ofBits .f32 0x41000000#32) t j := by
  pointwise [val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_3, val_main_cst_4, group, pooled]
  simp only [v2_apply, v3_apply, v8_apply, ← own_cols (pastOf x1 b), trail_8]
  rfl

theorem v96_apply (b : Fin 128) (t : Fin 8) (j : Fin 256) :
    val_main_v96 (F := Ideal) x0 x1 (ix3 b t j) = group (pastOf x1 b) (ownOf x0 b) 768 (by decide) 16 (Ideal.ofBits .f32 0x41800000#32) t j := by
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_cst_5, val_main_cst_6, group, pooled]
  simp only [v2_apply, v3_apply, v8_apply, ← own_cols (pastOf x1 b), trail_16]
  rfl

theorem v99_apply (b : Fin 128) (t : Fin 8) (j : Fin 1024) :
    val_main_v99 (F := Ideal) x0 x1 (ix2 ⟨b.val * 8 + t.val, by omega⟩ j) = entry (pastOf x1 b) (ownOf x0 b) t j := by
  pointwise [val_main_v99, val_main_v98, val_main_v97]
  have e1 : (⟨(b.val * 8 + t.val) / 8, by omega⟩ : Fin 128) = b := Fin.ext (by show (b.val * 8 + t.val) / 8 = b.val; omega)
  have e2 : (⟨(b.val * 8 + t.val) % 8, by omega⟩ : Fin 8) = t := Fin.ext (by show (b.val * 8 + t.val) % 8 = t.val; omega)
  simp only [e1, e2, v19_apply, v34_apply, v57_apply, v96_apply, entry]

end Cert.PoolStateIdeal.Rows

end
-- ==== Proof.PoolStateRun.lean ====
/- The pooling of the samples: what a point writes, from the blocks it reads. Each sample's rows come from the past that is
   loaded for it, and the sixteen loads find the sixteen pasts. -/
module

public import proofs.«01_k».proof.Proof.PoolStateRows

@[expose] public section

set_option maxRecDepth 16384

noncomputable section

namespace Cert.PoolStateIdeal.Rows

open Cert.PoolStateIdeal Cert.PoolStateIdeal.Gen Cert.PoolMath
open Idealize.ShloMosaic Idealize.ShloMosaic.TcCoe Idealize.SL.Sem

variable (c : Dev nD) (i : grid0.Coords) (arg2 : Memref sig .tc .vmem S128x1024 .bf16) (harg2 : arg2.IsWhole)
  (arg3 : Memref sig .tc .vmem S16x15x1024 .f32) (harg3 : arg3.IsWhole) (arg4 : Memref sig .tc .vmem S128x1024 .bf16) (harg4 : arg4.IsWhole)
  (arg5 : Memref sig .tc .vmem S256x1024 .f32) (harg5 : arg5.IsWhole) (hc0 : cond0_0 i)
  (x0 : Vec Ideal S128x1024 .bf16) (x1 : Vec Ideal S16x15x1024 .f32)

/-- After the stores of the state all sixteen samples' rows are filled. -/
theorem filled : Filled x1 (kernelRun0_A.sl.HS0_17 (F := Ideal) c arg3 harg3 x1) 16 := by
  have st (k : Fin 16) := state_row (x1 := x1) arg3 harg3 k
  unfold kernelRun0_A.sl.HS0_17
  refine Filled.store (k := 15) ?_ 241 rfl (by decide) _ _ (st 15 _ _ _)
  refine Filled.store (k := 14) ?_ 225 rfl (by decide) _ _ (st 14 _ _ _)
  refine Filled.store (k := 13) ?_ 209 rfl (by decide) _ _ (st 13 _ _ _)
  refine Filled.store (k := 12) ?_ 193 rfl (by decide) _ _ (st 12 _ _ _)
  refine Filled.store (k := 11) ?_ 177 rfl (by decide) _ _ (st 11 _ _ _)
  refine Filled.store (k := 10) ?_ 161 rfl (by decide) _ _ (st 10 _ _ _)
  refine Filled.store (k := 9) ?_ 145 rfl (by decide) _ _ (st 9 _ _ _)
  refine Filled.store (k := 8) ?_ 129 rfl (by decide) _ _ (st 8 _ _ _)
  refine Filled.store (k := 7) ?_ 113 rfl (by decide) _ _ (st 7 _ _ _)
  refine Filled.store (k := 6) ?_ 97 rfl (by decide) _ _ (st 6 _ _ _)
  refine Filled.store (k := 5) ?_ 81 rfl (by decide) _ _ (st 5 _ _ _)
  refine Filled.store (k := 4) ?_ 65 rfl (by decide) _ _ (st 4 _ _ _)
  refine Filled.store (k := 3) ?_ 49 rfl (by decide) _ _ (st 3 _ _ _)
  refine Filled.store (k := 2) ?_ 33 rfl (by decide) _ _ (st 2 _ _ _)
  refine Filled.store (k := 1) ?_ 17 rfl (by decide) _ _ (st 1 _ _ _)
  refine Filled.store (k := 0) ?_ 1 rfl (by decide) _ _ (st 0 _ _ _)
  exact filled_zero _

/-- The block of rows, as it is loaded. -/
abbrev loaded : Vec Ideal S128x1024 .bf16 :=
  View.readAt (Elt Ideal) arg2.view (Rect.unit (s := S128x1024) ![0, 0] S128x1024.size inb_S128x1024_S128x1024_0_0).toLoadRect (harg2.unread x0)

theorem stack_congr {a0 a1 a2 a3 a4 a5 a6 a7 a8 a9 a10 a11 a12 a13 a14 a15 : FVec Ideal S8x1024 .f32} (f : Fin 16 → FVec Ideal S8x1024 .f32)
    (h0 : a0 = f 0) (h1 : a1 = f 1) (h2 : a2 = f 2) (h3 : a3 = f 3) (h4 : a4 = f 4) (h5 : a5 = f 5) (h6 : a6 = f 6) (h7 : a7 = f 7)
    (h8 : a8 = f 8) (h9 : a9 = f 9) (h10 : a10 = f 10) (h11 : a11 = f 11) (h12 : a12 = f 12) (h13 : a13 = f 13) (h14 : a14 = f 14)
    (h15 : a15 = f 15) : k0_pay2 a0 a1 a2 a3 a4 a5 a6 a7 a8 a9 a10 a11 a12 a13 a14 a15 = stack f := by
  subst_vars
  rfl

theorem stacked : View.canon (kernelRun0_A (F := Ideal) c i arg2 harg2 arg3 harg3 arg4 harg4 arg5 harg5 hc0 x0 x1).1
    = stack (fam i (loaded arg2 harg2 x0) x1) := by
  refine Eq.trans (View.canon_cons_unit_lit' (S := S128x1024) (off := ![0, 0]) inb_S128x1024_S128x1024_0_0 _ [] (by decide)) ?_
  have h0 := (filled c arg3 harg3 x1).kept
  have h1 : Kept x1 (kernelRun0_A.sl.HS0_18 (F := Ideal) c arg2 harg2 arg3 harg3 arg5 x0 x1) 1 := h0.write 0 rfl _ _
  have h2 : Kept x1 (kernelRun0_A.sl.HS0_19 (F := Ideal) c arg2 harg2 arg3 harg3 arg5 x0 x1) 2 := h1.write 16 rfl _ _
  have h3 : Kept x1 (kernelRun0_A.sl.HS0_20 (F := Ideal) c arg2 harg2 arg3 harg3 arg5 x0 x1) 3 := h2.write 32 rfl _ _
  have h4 : Kept x1 (kernelRun0_A.sl.HS0_21 (F := Ideal) c arg2 harg2 arg3 harg3 arg5 x0 x1) 4 := h3.write 48 rfl _ _
  have h5 : Kept x1 (kernelRun0_A.sl.HS0_22 (F := Ideal) c arg2 harg2 arg3 harg3 arg5 x0 x1) 5 := h4.write 64 rfl _ _
  have h6 : Kept x1 (kernelRun0_A.sl.HS0_23 (F := Ideal) c arg2 harg2 arg3 harg3 arg5 x0 x1) 6 := h5.write 80 rfl _ _
  have h7 : Kept x1 (kernelRun0_A.sl.HS0_24 (F := Ideal) c arg2 harg2 arg3 harg3 arg5 x0 x1) 7 := h6.write 96 rfl _ _
  have h8 : Kept x1 (kernelRun0_A.sl.HS0_25 (F := Ideal) c arg2 harg2 arg3 harg3 arg5 x0 x1) 8 := h7.write 112 rfl _ _
  have h9 : Kept x1 (kernelRun0_A.sl.HS0_26 (F := Ideal) c arg2 harg2 arg3 harg3 arg5 x0 x1) 9 := h8.write 128 rfl _ _
  have h10 : Kept x1 (kernelRun0_A.sl.HS0_27 (F := Ideal) c arg2 harg2 arg3 harg3 arg5 x0 x1) 10 := h9.write 144 rfl _ _
  have h11 : Kept x1 (kernelRun0_A.sl.HS0_28 (F := Ideal) c arg2 harg2 arg3 harg3 arg5 x0 x1) 11 := h10.write 160 rfl _ _
  have h12 : Kept x1 (kernelRun0_A.sl.HS0_29 (F := Ideal) c arg2 harg2 arg3 harg3 arg5 x0 x1) 12 := h11.write 176 rfl _ _
  have h13 : Kept x1 (kernelRun0_A.sl.HS0_30 (F := Ideal) c arg2 harg2 arg3 harg3 arg5 x0 x1) 13 := h12.write 192 rfl _ _
  have h14 : Kept x1 (kernelRun0_A.sl.HS0_31 (F := Ideal) c arg2 harg2 arg3 harg3 arg5 x0 x1) 14 := h13.write 208 rfl _ _
  have h15 : Kept x1 (kernelRun0_A.sl.HS0_32 (F := Ideal) c arg2 harg2 arg3 harg3 arg5 x0 x1) 15 := h14.write 224 rfl _ _
  have load {k : ℕ} {L} (h : Kept x1 L k) (hk : k < 16) (inb) := h.load hk (16 * k) rfl inb arg5
  have f (s : Fin 16) (h) (Q) (hQ) := fam_eq i (loaded arg2 harg2 x0) x1 s (8 * s.val) rfl h Q hQ
  exact stack_congr _
    (f 0 slices_S128x1024_o0_0_S8x1024 (kernelRun0_A.sl.v12 c arg3 harg3 arg5 x1) (load h0 (by decide) _))
    (f 1 slices_S128x1024_o8_0_S8x1024 (kernelRun0_A.sl.v72 c arg2 harg2 arg3 harg3 arg5 x0 x1) (load h1 (by decide) _))
    (f 2 slices_S128x1024_o16_0_S8x1024 (kernelRun0_A.sl.v132 c arg2 harg2 arg3 harg3 arg5 x0 x1) (load h2 (by decide) _))
    (f 3 slices_S128x1024_o24_0_S8x1024 (kernelRun0_A.sl.v192 c arg2 harg2 arg3 harg3 arg5 x0 x1) (load h3 (by decide) _))
    (f 4 slices_S128x1024_o32_0_S8x1024 (kernelRun0_A.sl.v252 c arg2 harg2 arg3 harg3 arg5 x0 x1) (load h4 (by decide) _))
    (f 5 slices_S128x1024_o40_0_S8x1024 (kernelRun0_A.sl.v312 c arg2 harg2 arg3 harg3 arg5 x0 x1) (load h5 (by decide) _))
    (f 6 slices_S128x1024_o48_0_S8x1024 (kernelRun0_A.sl.v372 c arg2 harg2 arg3 harg3 arg5 x0 x1) (load h6 (by decide) _))
    (f 7 slices_S128x1024_o56_0_S8x1024 (kernelRun0_A.sl.v432 c arg2 harg2 arg3 harg3 arg5 x0 x1) (load h7 (by decide) _))
    (f 8 slices_S128x1024_o64_0_S8x1024 (kernelRun0_A.sl.v492 c arg2 harg2 arg3 harg3 arg5 x0 x1) (load h8 (by decide) _))
    (f 9 slices_S128x1024_o72_0_S8x1024 (kernelRun0_A.sl.v552 c arg2 harg2 arg3 harg3 arg5 x0 x1) (load h9 (by decide) _))
    (f 10 slices_S128x1024_o80_0_S8x1024 (kernelRun0_A.sl.v612 c arg2 harg2 arg3 harg3 arg5 x0 x1) (load h10 (by decide) _))
    (f 11 slices_S128x1024_o88_0_S8x1024 (kernelRun0_A.sl.v672 c arg2 harg2 arg3 harg3 arg5 x0 x1) (load h11 (by decide) _))
    (f 12 slices_S128x1024_o96_0_S8x1024 (kernelRun0_A.sl.v732 c arg2 harg2 arg3 harg3 arg5 x0 x1) (load h12 (by decide) _))
    (f 13 slices_S128x1024_o104_0_S8x1024 (kernelRun0_A.sl.v792 c arg2 harg2 arg3 harg3 arg5 x0 x1) (load h13 (by decide) _))
    (f 14 slices_S128x1024_o112_0_S8x1024 (kernelRun0_A.sl.v852 c arg2 harg2 arg3 harg3 arg5 x0 x1) (load h14 (by decide) _))
    (f 15 slices_S128x1024_o120_0_S8x1024 (kernelRun0_A.sl.v912 c arg2 harg2 arg3 harg3 arg5 x0 x1) (load h15 (by decide) _))

end Cert.PoolStateIdeal.Rows

end
-- ==== Proof.PoolStateValue.lean ====
/- The pooling of the samples: the result array of the kernel is the reference's. -/
module

public import proofs.«01_k».proof.Proof.PoolStateReference
public import proofs.«01_k».proof.Proof.PoolStateRun
public import proofs.«01_k».proof.Proof.Gen.PoolStateIdeal.Frame
public import proofs.«01_k».proof.Proof.Gen.PoolStateIdeal.Value
public import Idealize.ShloMosaic.Lib.Pipeline.Value
public import Idealize.ShloMosaic.Lib.Pipeline.ValueKit
public import Idealize.ShloMosaic.Lib.ValueIdx

@[expose] public section

set_option maxRecDepth 16384

noncomputable section

namespace Cert.PoolStateIdeal.Rows

open Cert.PoolStateIdeal Cert.PoolStateIdeal.Gen Cert.PoolMath
open Idealize.ShloMosaic Idealize.ShloMosaic.TcCoe Idealize.SL.Sem
open Idealize.ShloMosaic.Pipeline (Dat)
open Cert.PoolStateReferenceIdeal.Read
open scoped BigOperators

variable (m : (ℓ : Loc nD τ sig) → Buf (Elt Ideal) ℓ)

/-- Where each window's block sits at each point. -/
theorem idx : ∀ t : Fin cfg0.N, win0_0.index t = ![128 + t.val, 6] ∧ win0_1.index t = ![t.val, 0, 0] ∧ win0_2.index t = ![t.val, 0] ∧ t.val < 8 :=
  (by decide +kernel : ∀ t : Fin grid0.N, _)

variable (c : Dev nD) (t : Fin cfg0.N)

/-- The projection that the region finds. -/
abbrev a0 : FVec Ideal S17408x9216 .bf16 := m ((c : Thread nD τ).loc main_arg0)

/-- The state that the region finds. -/
abbrev a1 : FVec Ideal S128x15x1024 .f32 := m ((c : Thread nD τ).loc main_arg1)

/-- Sample `s` of the sixteen of point `t`. -/
abbrev nr (s : Fin 16) : Fin 128 := ⟨16 * t.val + s.val, by have := (idx t).2.2.2; omega⟩

/-- A point reads its samples' rows. -/
theorem own_block (s : Fin 16) : own (iblk m c 0 t) s = ownOf (a0 m c) (nr t s) := by
  funext y
  have hy : (y 0).val < 8 := (y 0).isLt
  unfold own ownOf
  blk_point [iblk, V, idx t]

/-- A point reads its samples' state. -/
theorem past_block (s : Fin 16) : past (iblk m c 1 t) s = pastOf (a1 m c) (nr t s) := by
  funext y
  unfold past pastOf
  split
  · rfl
  · blk_point [iblk, V, idx t]

theorem loaded_eq (arg2 : Memref sig .tc .vmem S128x1024 .bf16) (harg2 : arg2.IsWhole) (x0 : Vec Ideal S128x1024 .bf16) :
    loaded arg2 harg2 x0 = x0 := by
  unfold loaded
  rw [View.readAt_eq_ld, harg2.read_unread]
  exact View.ld_unit_lit' _ _ (by decide)

theorem out_block : outsAt0 m c t = stack (fam (grid0.coords t) (iblk m c 0 t) (iblk m c 1 t)) := by
  unfold outsAt0 out0_A_2
  rw [View.read_writes_junk_eq_canon, stacked, loaded_eq]

theorem final_2 : (dats m 0 c).arrAt 2 (cfgs 0).N = val_main_v99 (F := Ideal) (a0 m c) (a1 m c) := by
  refine (dats m 0 c).arrAt_eq_of_covers 2 _ (by decide +kernel) fun t hf y => ?_
  blk_simp; rw [after0_2, out_block]
  have hy0 : (y 0).val < 128 := (y 0).isLt
  have e : (y : S128x1024.Idx) = ix2 ⟨8 * (⟨(y 0).val / 8, by omega⟩ : Fin 16).val + (⟨(y 0).val % 8, by omega⟩ : Fin 8).val, by show 8 * ((y 0).val / 8) + (y 0).val % 8 < 128; omega⟩ (y 1) := by
    funext a
    match a with
    | ⟨0, _⟩ => exact Fin.ext (by show (y 0).val = 8 * ((y 0).val / 8) + (y 0).val % 8; omega)
    | ⟨1, _⟩ => rfl
  refine (congrArg (stack (fam (grid0.coords t) (iblk m c 0 t) (iblk m c 1 t))) e).trans ?_
  refine (stack_apply _ _ _ _).trans ((sample_apply _ _ _ (fun r => pay23_apply _ r 0) _ _).trans ?_)
  rw [past_block, own_block]
  refine (v99_apply (a0 m c) (a1 m c) _ _ _).symm.trans ?_
  refine congrArg (val_main_v99 (F := Ideal) (a0 m c) (a1 m c)) ?_
  blk_ext [idx t]

end Cert.PoolStateIdeal.Rows

end
-- ==== Proof.PoolStateClaim.lean ====
/- The pooling of the samples: the claim, from the result array. -/
module

public import proofs.«01_k».proof.Defs
public import proofs.«01_k».proof.Proof.PoolStateValue
public import proofs.«01_k».proof.Proof.Gen.PoolStateReferenceIdeal
public import proofs.«01_k».proof.Proof.Gen.PoolStateReferenceIdeal.Run

@[expose] public section

set_option maxRecDepth 16384

noncomputable section

namespace Cert.PoolStateIdeal.Rows

open Idealize.ShloMosaic Idealize.SL.Sem

instance ideal_facts : Cert.PoolStateIdeal.Facts := Cert.PoolStateIdeal.Gen.facts
instance reference_facts : Cert.PoolStateReferenceIdeal.Facts := Cert.PoolStateReferenceIdeal.Gen.facts

theorem alg : Cert.algebraic_PoolStateIdeal_PoolStateReferenceIdeal := by
  intro m g m' g' hpre hagree
  refine ⟨_, Cert.PoolStateIdeal.Value.run_blocks m g,
    (θ_run Cert.PoolStateReferenceIdeal.defs _ _).mono (fun r h c => ?_) (Cert.PoolStateReferenceIdeal.Value.run m' g')⟩
  refine ⟨(h c).1.trans ?_, (h c).2⟩
  rw [Cert.PoolStateReferenceIdeal.Read.val_main_v99_eq, (hagree c).1, (hagree c).2]
  exact (final_2 m c).symm

end Cert.PoolStateIdeal.Rows

end
-- ==== Proof.DispatchRows.lean ====
/- The dispatch: one point of the kernel, entry by entry. An assignment's row number is the start of its expert's segment, made
   a whole number, plus its rank in the segment, plus the piece's offset. -/
module

public import proofs.«01_k».proof.Proof.Gen.DispatchIdeal.Frame
public import Idealize.ShloMosaic.Lib.Pipeline.Value
public import Idealize.ShloMosaic.Lib.Pipeline.ValueKit
public import Idealize.ShloMosaic.Lib.Pointwise
public import Idealize.ShloMosaic.Lib.ValueIdx
public import Idealize.ShloMosaic.Lib.Tactic.WordOmega

@[expose] public section

set_option maxRecDepth 16384

noncomputable section

namespace Cert.DispatchIdeal.Rows

open Cert.DispatchIdeal Cert.DispatchIdeal.Gen
open Idealize.ShloMosaic Idealize.ShloMosaic.TcCoe Idealize.SL.Sem
open scoped BigOperators

/-- Where the segment of the expert named by the word `w` begins: the sum over all experts of the starts, each taken only if the
    expert is the one named. -/
def begins (s : Vec Ideal S256x1 .f32) (w : BitVec 32) : EReal :=
  ∑ k : Fin 256, Scalar.select (IntOp.cmpi .eq (BitVec.ofNat 32 k.val) w) (s (ix2 k 0)) 0

/-- Row `k` of a block of eight rows. -/
def line (x : Vec Ideal S8x1024 .i32) (k : Fin 8) : Vec Ideal S1x1024 .i32 := fun y => x (ix2 k (y 1))

theorem ld_line (x : Vec Ideal S8x1024 .i32) (k : Fin 8)
    (inb : ∀ a, (![k.val, 0] : Fin 2 → ℕ) a + S1x1024.size a ≤ S8x1024.size a) :
    View.ld x (Rect.unit (s := S8x1024) ![k.val, 0] S1x1024.size inb) = line x k := by
  funext y
  refine congrArg x ?_
  have h0 : (y 0).val < 1 := (y 0).isLt
  funext a
  match a with
  | ⟨0, _⟩ => exact Fin.ext (by show k.val + 1 * (y 0).val = k.val; omega)
  | ⟨1, _⟩ => exact Fin.ext (by show 0 + 1 * (y 1).val = (y 1).val; omega)

theorem ld_whole (x : Vec Ideal S256x1 .f32) : View.ld x r0_0 = x := View.ld_unit_lit' _ _ (by decide)

/-- The row numbers of one choice: segment start plus rank. -/
def row (x0 x1 : Vec Ideal S8x1024 .i32) (x2 : Vec Ideal S256x1 .f32) (k : Fin 8) : IVec S1x1024 32 :=
  k0_pay4 (F := Ideal) x2 (line x0 k) (line x1 k)

theorem row_apply (x0 x1 : Vec Ideal S8x1024 .i32) (x2 : Vec Ideal S256x1 .f32) (k : Fin 8) (z : Fin 1) (t : Fin 1024) :
    row x0 x1 x2 k (ix2 z t)
      = IntOp.addi (FloatOps.fptosi (F := Ideal) (φ := .f32) 32 (begins x2 (x0 (ix2 k t)))) (x1 (ix2 k t)) := by
  pointwise [row, k0_pay4, line]
  rfl

/-- The eight choices' rows, one below the other. -/
def stack (f : Fin 8 → IVec S1x1024 32) : IVec S8x1024 32 :=
  concatenate S8x1024 0 [⟨S1x1024, f 0⟩, ⟨S1x1024, f 1⟩, ⟨S1x1024, f 2⟩, ⟨S1x1024, f 3⟩, ⟨S1x1024, f 4⟩, ⟨S1x1024, f 5⟩, ⟨S1x1024, f 6⟩, ⟨S1x1024, f 7⟩]
    concatenates_S1x1024_S1x1024_S1x1024_S1x1024_S1x1024_S1x1024_S1x1024_S1x1024_S8x1024_d0

theorem stack_apply (f : Fin 8 → IVec S1x1024 32) (k : Fin 8) (t : Fin 1024) : stack f (ix2 k t) = f k (ix2 0 t) := by
  have e0 : ((ix2 k t : S8x1024.Idx) 0).val = k.val := rfl
  exact concatenate_ofFn_apply (t := S8x1024) (s₁ := S1x1024) 0 f
    concatenates_S1x1024_S1x1024_S1x1024_S1x1024_S1x1024_S1x1024_S1x1024_S1x1024_S8x1024_d0
    rfl 1 rfl (ix2 k t) k (by rw [e0]; omega) (ix2 0 t) (by rw [e0]; show 0 = _; omega)
    fun b hb => by
      match b with
      | ⟨0, _⟩ => exact absurd rfl hb
      | ⟨1, _⟩ => rfl

variable (x0 x1 : Vec Ideal S8x1024 .i32) (x2 : Vec Ideal S256x1 .f32)

/-- What a point computes before the pieces' offsets are added: the eight choices' row numbers. -/
theorem stacked : k0_pay1 (k0_pay12 x0 x1 x2) (View.ld x2 r0_0) (k0_pay13 x0 x1 x2) (k0_pay14 x0 x1 x2) (k0_pay15 x0 x1 x2)
      (k0_pay16 x0 x1 x2) (k0_pay17 x0 x1 x2) (k0_pay18 x0 x1 x2) (k0_pay19 x0 x1 x2) (Scalar.ofBits .f32 0x00000000#32)
      (k0_pay20 x0 x1 x2) (View.ld x1 r0_7) (View.ld x0 r0_8) (View.ld x1 r0_8) = stack (row x0 x1 x2) := by
  have l0 : ∀ x : Vec Ideal S8x1024 .i32, View.ld x r0_1 = line x 0 := fun x => ld_line x 0 _
  have l1 : ∀ x : Vec Ideal S8x1024 .i32, View.ld x r0_2 = line x 1 := fun x => ld_line x 1 _
  have l2 : ∀ x : Vec Ideal S8x1024 .i32, View.ld x r0_3 = line x 2 := fun x => ld_line x 2 _
  have l3 : ∀ x : Vec Ideal S8x1024 .i32, View.ld x r0_4 = line x 3 := fun x => ld_line x 3 _
  have l4 : ∀ x : Vec Ideal S8x1024 .i32, View.ld x r0_5 = line x 4 := fun x => ld_line x 4 _
  have l5 : ∀ x : Vec Ideal S8x1024 .i32, View.ld x r0_6 = line x 5 := fun x => ld_line x 5 _
  have l6 : ∀ x : Vec Ideal S8x1024 .i32, View.ld x r0_7 = line x 6 := fun x => ld_line x 6 _
  have l7 : ∀ x : Vec Ideal S8x1024 .i32, View.ld x r0_8 = line x 7 := fun x => ld_line x 7 _
  unfold k0_pay13 k0_pay14 k0_pay15 k0_pay16 k0_pay17 k0_pay18 k0_pay19 k0_pay20
  rw [ld_whole, l0, l0, l1, l1, l2, l2, l3, l3, l4, l4, l5, l5, l6, l6, l7, l7]
  rfl

/-- The offset of a piece's rows. -/
def offset (p : Fin 2) : BitVec 32 := if p.val = 0 then 0#32 else 270336#32

theorem out_apply (p : Fin 2) (k : Fin 8) (t : Fin 1024) : out0_3 x0 x1 x2 (ix3 p k t)
    = IntOp.addi (IntOp.addi (FloatOps.fptosi (F := Ideal) (φ := .f32) 32 (begins x2 (x0 (ix2 k t)))) (x1 (ix2 k t))) (offset p) := by
  have hr := (stack_apply (row x0 x1 x2) k t).trans (row_apply x0 x1 x2 k 0 t)
  unfold out0_3 k0_pay2 k0_pay3
  rw [stacked]
  generalize stack (row x0 x1 x2) = S at hr ⊢
  match p with
  | ⟨0, _⟩ =>
    have e : (ix3 (0 : Fin 2) k t : S2x8x1024.Idx) = r0_9.emb (ix3 (0 : Fin 1) k t) := by
      funext a
      match a with
      | ⟨0, _⟩ => exact Fin.ext rfl
      | ⟨1, _⟩ => exact Fin.ext (by show k.val = 0 + 1 * k.val; omega)
      | ⟨2, _⟩ => exact Fin.ext (by show t.val = 0 + 1 * t.val; omega)
    refine (View.canon_cons_of_not_mem _ _ (fun h => ?_)).trans ?_
    · have h1 := (Rect.mem_set_unit (s := S2x8x1024) (inb := inb_S2x8x1024_S1x8x1024_1_0_0)).mp h
      have h2 : 1 ≤ (0 : ℕ) := (h1 0).1
      omega
    · refine (congrArg (View.canon _) e).trans ((View.canon_cons_emb _ _ _ _).trans ?_)
      rw [← hr]
      pointwise []
      rfl
  | ⟨1, _⟩ =>
    have e : (ix3 (1 : Fin 2) k t : S2x8x1024.Idx) = r0_10.emb (ix3 (0 : Fin 1) k t) := by
      funext a
      match a with
      | ⟨0, _⟩ => exact Fin.ext rfl
      | ⟨1, _⟩ => exact Fin.ext (by show k.val = 0 + 1 * k.val; omega)
      | ⟨2, _⟩ => exact Fin.ext (by show t.val = 0 + 1 * t.val; omega)
    refine (congrArg (View.canon _) e).trans ((View.canon_cons_emb _ _ _ _).trans ?_)
    rw [← hr]
    pointwise []
    rfl

theorem cmpi_eq_self (a b : BitVec 32) (h : a = b) : IntOp.cmpi .eq a b = 1#1 := by
  subst h; word_omega

theorem cmpi_eq_ne (a b : BitVec 32) (h : a ≠ b) : IntOp.cmpi .eq a b = 0#1 := by
  have h' : a.toNat ≠ b.toNat := fun e => h (BitVec.eq_of_toNat_eq e)
  word_omega

/-- A word that names an expert: its start. -/
theorem begins_named (w : BitVec 32) (h : w.toNat < 256) : begins x2 w = x2 (ix2 ⟨w.toNat, h⟩ 0) := by
  have hw : BitVec.ofNat 32 w.toNat = w := by simp
  refine (Finset.sum_eq_single (⟨w.toNat, h⟩ : Fin 256) (fun k _ hk => ?_) (fun h => absurd (Finset.mem_univ _) h)).trans ?_
  · have hn : BitVec.ofNat 32 k.val ≠ w := fun e => hk (Fin.ext (by
      have e' := congrArg BitVec.toNat e
      rw [BitVec.toNat_ofNat, Nat.mod_eq_of_lt (by omega)] at e'
      exact e'))
    have hc : IntOp.cmpi .eq (BitVec.ofNat 32 k.val) w = 0#1 := cmpi_eq_ne _ _ hn
    rw [hc]
    rfl
  · have hc : IntOp.cmpi .eq (BitVec.ofNat 32 w.toNat) w = 1#1 := cmpi_eq_self _ _ hw
    show Scalar.select (IntOp.cmpi .eq (BitVec.ofNat 32 w.toNat) w) _ _ = _
    rw [hc]
    rfl

/-- A word that names no expert: zero. -/
theorem begins_unnamed (w : BitVec 32) (h : ¬ w.toNat < 256) : begins x2 w = 0 := by
  refine Finset.sum_eq_zero fun k _ => ?_
  have hn : BitVec.ofNat 32 k.val ≠ w := fun e => h (by
    have e' := congrArg BitVec.toNat e
    rw [BitVec.toNat_ofNat, Nat.mod_eq_of_lt (by omega)] at e'
    omega)
  have hc : IntOp.cmpi .eq (BitVec.ofNat 32 k.val) w = 0#1 := cmpi_eq_ne _ _ hn
  rw [hc]
  rfl

end Cert.DispatchIdeal.Rows

end
-- ==== Proof.DispatchReference.lean ====
/- The reference of the dispatch, entry by entry: the start of the named expert's segment, zero where no expert is named, plus
   the rank, plus the piece's offset. -/
module

public import proofs.«01_k».proof.Proof.DispatchRows
public import proofs.«01_k».proof.Proof.Gen.DispatchReferenceIdeal.Read
public import Idealize.ShloMosaic.Lib.ReduceAll
public import Idealize.ShloMosaic.Lib.Tactic.WordOmega

@[expose] public section

set_option maxRecDepth 16384

noncomputable section

namespace Cert.DispatchIdeal.Rows

open Cert.DispatchIdeal
open Idealize.ShloMosaic Idealize.ShloMosaic.TcCoe Idealize.SL.Sem
open Cert.DispatchReferenceIdeal.Read
open scoped BigOperators

variable (x0 x1 : IVec S8x17408 32) (x2 : FVec Ideal S256x1 .f32)

/-- A word in range passes both tests. -/
theorem test_named (w : BitVec 32) (h : w.toNat < 256) : IntOp.andi (IntOp.cmpi .sge w 0#32) (IntOp.cmpi .sle w 255#32) = 1#1 := by
  word_omega

/-- A word out of range fails one. -/
theorem test_unnamed (w : BitVec 32) (h : ¬ w.toNat < 256) : ¬ IntOp.andi (IntOp.cmpi .sge w 0#32) (IntOp.cmpi .sle w 255#32) = 1#1 := by
  word_omega

theorem v1_apply (k : Fin 8) (t : Fin 17408) (z : Fin 1) : val_main_v1 (F := Ideal) x0 (ix3 k t z) = x0 (ix2 k t) := by
  pointwise [val_main_v1]

theorem v7_apply (k : Fin 8) (t : Fin 17408) (z : Fin 1) : val_main_v7 (F := Ideal) x0 (ix3 k t z)
    = IntOp.andi (IntOp.cmpi .sge (x0 (ix2 k t)) 0#32) (IntOp.cmpi .sle (x0 (ix2 k t)) 255#32) := by
  pointwise [val_main_v7, val_main_v3, val_main_v2, val_main_v6, val_main_v5, val_main_v4, val_main_c, val_main_c_0, v1_apply]

theorem drop_apply (k : Fin 8) (t : Fin 17408) (z : Fin 1) :
    Cert.DispatchReferenceIdeal.Facts₀.reducesTo_S8x17408x1_S8x17408_d2.drop (ix3 k t z) = ix2 k t := by
  funext a
  match a with
  | ⟨0, _⟩ => rfl
  | ⟨1, _⟩ => rfl

theorem v8_named (k : Fin 8) (t : Fin 17408) (h : (x0 (ix2 k t)).toNat < 256) : val_main_v8 (F := Ideal) x0 (ix2 k t) = 1#1 := by
  unfold val_main_v8
  rw [Host.reduce_eq_foldl]
  refine IntOp.foldl_andi_one _ _ _ rfl fun i hi => ?_
  have hd := of_decide_eq_true (List.mem_filter.1 hi).2
  obtain ⟨a, b, z, rfl⟩ : ∃ (a : Fin 8) (b : Fin 17408) (z : Fin 1), i = ix3 a b z := ⟨i 0, i 1, i 2, by funext e; fin_cases e <;> rfl⟩
  rw [drop_apply] at hd
  have ha : a = k := congrFun hd 0
  have hb : b = t := congrFun hd 1
  rw [v7_apply, ha, hb]
  exact test_named _ h

theorem v8_unnamed (k : Fin 8) (t : Fin 17408) (h : ¬ (x0 (ix2 k t)).toNat < 256) : val_main_v8 (F := Ideal) x0 (ix2 k t) = 0#1 := by
  refine ValueIdx.eq_zero_of_ne_one fun e => test_unnamed _ h ?_
  exact (v7_apply x0 k t 0).symm.trans (Host.reduce_andi_eq_one _ _ _ _ _ e (ix3 k t 0) (drop_apply k t 0))

theorem v0_apply (k : Fin 256) : val_main_v0 (F := Ideal) x2 (ix1 k) = x2 (ix2 k 0) := by
  pointwise [val_main_v0]

theorem v9_named (k : Fin 8) (t : Fin 17408) (h : (x0 (ix2 k t)).toNat < 256) :
    val_main_v9 (F := Ideal) x0 x2 (ix2 k t) = x2 (ix2 ⟨(x0 (ix2 k t)).toNat, h⟩ 0) := by
  refine (ValueIdx.gather_take_apply (by decide) Cert.DispatchReferenceIdeal.Facts₀.gather_S256_S8x17408x1_S8x17408_n_0_n_n_0_2_1_wf _ _ _).trans ?_
  refine (v0_apply x2 _).trans (congrArg (fun q => x2 (ix2 q 0)) (Fin.ext ?_))
  have e : val_main_v1 (F := Ideal) x0 (ValueIdx.takeIdx (ix2 k t)) = x0 (ix2 k t) := by
    refine (congrArg (val_main_v1 (F := Ideal) x0) ?_).trans (v1_apply x0 k t 0)
    funext a
    match a with
    | ⟨0, _⟩ => rfl
    | ⟨1, _⟩ => rfl
    | ⟨2, _⟩ => rfl
  show min (val_main_v1 (F := Ideal) x0 (ValueIdx.takeIdx (ix2 k t))).toInt.toNat (256 - 1) = (x0 (ix2 k t)).toNat
  rw [e, BitVec.toInt_eq_toNat_of_lt (by omega)]
  omega

theorem v11_apply (k : Fin 8) (t : Fin 17408) : val_main_v11 (F := Ideal) x0 x2 (ix2 k t) = begins x2 (x0 (ix2 k t)) := by
  rw [val_main_v11_apply]
  by_cases h : (x0 (ix2 k t)).toNat < 256
  · rw [v8_named x0 k t h, v9_named x0 x2 k t h, begins_named x2 _ h]
    rfl
  · rw [v8_unnamed x0 k t h, begins_unnamed x2 _ h, val_main_v10_apply]
    exact Ideal.ofBits_zero_f32

theorem v20_apply (p : Fin 2) (k : Fin 8) (t : Fin 17408) : val_main_v20 (F := Ideal) x0 x1 x2 (ix3 p k t)
    = IntOp.addi (IntOp.addi (FloatOps.fptosi (F := Ideal) (φ := .f32) 32 (begins x2 (x0 (ix2 k t)))) (x1 (ix2 k t))) (offset p) := by
  have hv : val_main_v13 (F := Ideal) x0 x1 x2 (ix2 k t)
      = IntOp.addi (FloatOps.fptosi (F := Ideal) (φ := .f32) 32 (begins x2 (x0 (ix2 k t)))) (x1 (ix2 k t)) := by
    rw [val_main_v13_apply, val_main_v12_apply, v11_apply]
  rw [← hv]
  match p with
  | ⟨0, _⟩ =>
    pointwise [val_main_v20, val_main_v18, val_main_v15, val_main_v14, val_main_c_2]
    rfl
  | ⟨1, _⟩ =>
    pointwise [val_main_v20, val_main_v19, val_main_v17, val_main_v16, val_main_c_3]
    rfl

end Cert.DispatchIdeal.Rows

end
-- ==== Proof.DispatchValue.lean ====
/- The dispatch: the result array of the kernel is the reference's. -/
module

public import proofs.«01_k».proof.Proof.DispatchReference
public import proofs.«01_k».proof.Proof.Gen.DispatchIdeal.Value

@[expose] public section

set_option maxRecDepth 16384

noncomputable section

namespace Cert.DispatchIdeal.Rows

open Cert.DispatchIdeal Cert.DispatchIdeal.Gen
open Idealize.ShloMosaic Idealize.ShloMosaic.TcCoe Idealize.SL.Sem
open Idealize.ShloMosaic.Pipeline (Dat)
open Cert.DispatchReferenceIdeal.Read

variable (m : (ℓ : Loc nD τ sig) → Buf (Elt Ideal) ℓ)

/-- Where each window's block sits at each point. -/
theorem idx : ∀ t : Fin cfg0.N, win0_0.index t = ![0, t.val] ∧ win0_1.index t = ![0, t.val] ∧ win0_2.index t = ![0, 0]
    ∧ win0_3.index t = ![0, 0, t.val] ∧ t.val < 17 :=
  (by decide +kernel : ∀ t : Fin grid0.N, _)

variable (c : Dev nD) (t : Fin cfg0.N)

/-- The expert numbers, the ranks and the segment starts that the region finds. -/
abbrev a0 : IVec S8x17408 32 := m ((c : Thread nD τ).loc main_arg0)
abbrev a1 : IVec S8x17408 32 := m ((c : Thread nD τ).loc main_arg1)
abbrev a2 : FVec Ideal S256x1 .f32 := m ((c : Thread nD τ).loc main_arg2)

/-- Assignment `j` of the 1024 of point `t`. -/
abbrev assigned (j : Fin 1024) : Fin 17408 := ⟨t.val * 1024 + j.val, by have := (idx t).2.2.2.2; omega⟩

theorem experts_block (k : Fin 8) (j : Fin 1024) : iblk m c 0 t (ix2 k j) = a0 m c (ix2 k (assigned t j)) := by
  blk_point [iblk, V, idx t]

theorem ranks_block (k : Fin 8) (j : Fin 1024) : iblk m c 1 t (ix2 k j) = a1 m c (ix2 k (assigned t j)) := by
  blk_point [iblk, V, idx t]

theorem starts_block : iblk m c 2 t = a2 m c := by
  funext y
  blk_point [iblk, V, idx t]

/-- One entry of a point's block is the reference's entry at the assignment. -/
theorem point (p : Fin 2) (k : Fin 8) (j : Fin 1024) : out0_3 (iblk m c 0 t) (iblk m c 1 t) (iblk m c 2 t) (ix3 p k j)
    = val_main_v20 (F := Ideal) (a0 m c) (a1 m c) (a2 m c) (ix3 p k (assigned t j)) := by
  refine (out_apply _ _ _ _ _ _).trans ?_
  rw [experts_block, ranks_block, starts_block]
  exact (v20_apply (a0 m c) (a1 m c) (a2 m c) p k (assigned t j)).symm

theorem final_3 : (dats m 0 c).arrAt 3 (cfgs 0).N = val_main_v20 (F := Ideal) (a0 m c) (a1 m c) (a2 m c) := by
  refine (dats m 0 c).arrAt_eq_of_covers 3 _ (by decide +kernel) fun t hf y => ?_
  blk_simp; rw [after0_3]
  have e : (y : S2x8x1024.Idx) = ix3 (y 0) (y 1) (y 2) := by funext a; fin_cases a <;> rfl
  refine (congrArg (out0_3 (iblk m c 0 t) (iblk m c 1 t) (iblk m c 2 t)) e).trans ?_
  refine (point m c t (y 0) (y 1) (y 2)).trans ?_
  refine congrArg (val_main_v20 (F := Ideal) (a0 m c) (a1 m c) (a2 m c)) ?_
  blk_ext [idx t]

end Cert.DispatchIdeal.Rows

end
-- ==== Proof.DispatchClaim.lean ====
/- The dispatch: the claim, from the result array. -/
module

public import proofs.«01_k».proof.Defs
public import proofs.«01_k».proof.Proof.DispatchValue
public import proofs.«01_k».proof.Proof.Gen.DispatchReferenceIdeal
public import proofs.«01_k».proof.Proof.Gen.DispatchReferenceIdeal.Run

@[expose] public section

set_option maxRecDepth 16384

noncomputable section

namespace Cert.DispatchIdeal.Rows

open Idealize.ShloMosaic Idealize.SL.Sem

instance ideal_facts : Cert.DispatchIdeal.Facts := Cert.DispatchIdeal.Gen.facts
instance reference_facts : Cert.DispatchReferenceIdeal.Facts := Cert.DispatchReferenceIdeal.Gen.facts

theorem alg : Cert.algebraic_DispatchIdeal_DispatchReferenceIdeal := by
  intro m g m' g' hpre hagree
  refine ⟨_, Cert.DispatchIdeal.Value.run_blocks m g,
    (θ_run Cert.DispatchReferenceIdeal.defs _ _).mono (fun r h c => ?_) (Cert.DispatchReferenceIdeal.Value.run m' g')⟩
  refine ⟨(h c).1.trans ?_, (h c).2⟩
  rw [Cert.DispatchReferenceIdeal.Read.val_main_v20_eq, (hagree c).1, (hagree c).2.1, (hagree c).2.2]
  exact (final_3 m c).symm

end Cert.DispatchIdeal.Rows

end
-- ==== Proof.lean ====
/- The claims about the input projection, the mixers' joint part, the combination, the carried rows, the pooling and the
   dispatch, assembled. -/
module

public import proofs.«01_k».proof.Defs
public import proofs.«01_k».proof.Proof.Gen.InProj
public import proofs.«01_k».proof.Proof.Gen.InProj.Frame
public import proofs.«01_k».proof.Proof.Gen.Post
public import proofs.«01_k».proof.Proof.Gen.Post.Frame
public import proofs.«01_k».proof.Proof.Gen.PostIdeal.Value
public import proofs.«01_k».proof.Proof.Gen.InProjReferenceIdeal.Run
public import proofs.«01_k».proof.Proof.Gen.InProjReferenceIdeal.Read
public import proofs.«01_k».proof.Proof.Gen.PostReferenceIdeal.Run
public import proofs.«01_k».proof.Proof.Gen.PostReferenceIdeal.Read
public import proofs.«01_k».proof.Proof.Gen.Combine
public import proofs.«01_k».proof.Proof.Gen.Combine.Frame
public import proofs.«01_k».proof.Proof.Gen.CombineReferenceIdeal.Run
public import proofs.«01_k».proof.Proof.Gen.CombineReferenceIdeal.Read
public import proofs.«01_k».proof.Proof.Gen.ConvRows
public import proofs.«01_k».proof.Proof.Gen.ConvRows.Frame
public import proofs.«01_k».proof.Proof.Gen.PoolRows
public import proofs.«01_k».proof.Proof.Gen.PoolRows.Frame
public import proofs.«01_k».proof.Proof.Gen.PoolFresh
public import proofs.«01_k».proof.Proof.Gen.PoolFresh.Frame
public import proofs.«01_k».proof.Proof.Gen.PoolFreshIdeal.Value
public import proofs.«01_k».proof.Proof.Gen.PoolFreshReferenceIdeal.Run
public import proofs.«01_k».proof.Proof.Gen.PoolFreshReferenceIdeal.Read
public import proofs.«01_k».proof.Proof.Gen.PoolState
public import proofs.«01_k».proof.Proof.Gen.PoolState.Frame
public import proofs.«01_k».proof.Proof.Gen.PoolStateIdeal.Value
public import proofs.«01_k».proof.Proof.Gen.PoolStateReferenceIdeal.Run
public import proofs.«01_k».proof.Proof.Gen.PoolStateReferenceIdeal.Read
public import proofs.«01_k».proof.Proof.Gen.Dispatch
public import proofs.«01_k».proof.Proof.Gen.Dispatch.Frame
public import proofs.«01_k».proof.Proof.Gen.DispatchIdeal.Value
public import proofs.«01_k».proof.Proof.Gen.DispatchReferenceIdeal.Run
public import proofs.«01_k».proof.Proof.Gen.DispatchReferenceIdeal.Read
public import proofs.«01_k».proof.Proof.ConvRowsValue
public import proofs.«01_k».proof.Proof.PoolRowsValue
public import proofs.«01_k».proof.Proof.InProjClaim
public import proofs.«01_k».proof.Proof.PostClaim
public import proofs.«01_k».proof.Proof.InProjFrame
public import proofs.«01_k».proof.Proof.CombineClaim
public import proofs.«01_k».proof.Proof.CombineFrame
public import proofs.«01_k».proof.Proof.PoolFreshClaim
public import proofs.«01_k».proof.Proof.PoolStateClaim
public import proofs.«01_k».proof.Proof.DispatchClaim
public import Idealize.ShloMosaic.Adequacy
public import Idealize.ShloMosaic.Init
public import Idealize.ShloMosaic.Lib.Claim

@[expose] public section

noncomputable section

namespace Cert.Proof

open Idealize.ShloMosaic Idealize.SL.Sem

/-- The reference of the input projection ends without fault, its arguments unchanged. -/
theorem in_proj_reference : Cert.quiescent_InProjReferenceIdeal := by
  intro m ρ _
  exact (θ_run Cert.InProjReferenceIdeal.defs _ _).mono
    (fun r h => ⟨fun c => (h c).2.2, sem_eq_zero_of_no_sems (by decide) r.2⟩) (Cert.InProjReferenceIdeal.Value.run m ρ)

/-- The reference of the mixers' joint part ends without fault, its arguments unchanged. -/
theorem post_reference : Cert.quiescent_PostReferenceIdeal := by
  intro m ρ _
  exact (θ_run Cert.PostReferenceIdeal.defs _ _).mono
    (fun r h => ⟨fun c => (h c).2.2, sem_eq_zero_of_no_sems (by decide) r.2⟩) (Cert.PostReferenceIdeal.Value.run m ρ)

/-- The reference of the combination ends without fault, its arguments unchanged. -/
theorem combine_reference : Cert.quiescent_CombineReferenceIdeal := by
  intro m ρ _
  exact (θ_run Cert.CombineReferenceIdeal.defs _ _).mono
    (fun r h => ⟨fun c => (h c).2.2, sem_eq_zero_of_no_sems (by decide) r.2⟩) (Cert.CombineReferenceIdeal.Value.run m ρ)

/-- The reference of the carried convolution rows ends without fault, its arguments unchanged. -/
theorem conv_rows_reference : Cert.quiescent_ConvRowsReferenceIdeal := by
  intro m ρ _
  exact (θ_run Cert.ConvRowsReferenceIdeal.defs _ _).mono
    (fun r h => ⟨fun c => (h c).2.2, sem_eq_zero_of_no_sems (by decide) r.2⟩) (Cert.ConvRowsReferenceIdeal.Value.run m ρ)

/-- The reference of the carried pooling rows ends without fault, its arguments unchanged. -/
theorem pool_rows_reference : Cert.quiescent_PoolRowsReferenceIdeal := by
  intro m ρ _
  exact (θ_run Cert.PoolRowsReferenceIdeal.defs _ _).mono
    (fun r h => ⟨fun c => (h c).2.2, sem_eq_zero_of_no_sems (by decide) r.2⟩) (Cert.PoolRowsReferenceIdeal.Value.run m ρ)

/-- The reference of the prompts' pooling ends without fault, its arguments unchanged. -/
theorem pool_fresh_reference : Cert.quiescent_PoolFreshReferenceIdeal := by
  intro m ρ _
  exact (θ_run Cert.PoolFreshReferenceIdeal.defs _ _).mono
    (fun r h => ⟨fun c => (h c).2, sem_eq_zero_of_no_sems (by decide) r.2⟩) (Cert.PoolFreshReferenceIdeal.Value.run m ρ)

/-- The reference of the samples' pooling ends without fault, its arguments unchanged. -/
theorem pool_state_reference : Cert.quiescent_PoolStateReferenceIdeal := by
  intro m ρ _
  exact (θ_run Cert.PoolStateReferenceIdeal.defs _ _).mono
    (fun r h => ⟨fun c => (h c).2, sem_eq_zero_of_no_sems (by decide) r.2⟩) (Cert.PoolStateReferenceIdeal.Value.run m ρ)

/-- The reference of the dispatch ends without fault, its arguments unchanged. -/
theorem dispatch_reference : Cert.quiescent_DispatchReferenceIdeal := by
  intro m ρ _
  exact (θ_run Cert.DispatchReferenceIdeal.defs _ _).mono
    (fun r h => ⟨fun c => (h c).2, sem_eq_zero_of_no_sems (by decide) r.2⟩) (Cert.DispatchReferenceIdeal.Value.run m ρ)

theorem claim : Cert.Claim := ⟨Cert.InProj.Gen.facts, Cert.InProjIdeal.Gen.facts, Cert.InProjReferenceIdeal.Gen.facts, Cert.Post.Gen.facts, Cert.PostIdeal.Gen.facts, Cert.PostReferenceIdeal.Gen.facts,
  Cert.Combine.Gen.facts, Cert.CombineIdeal.Gen.facts, Cert.CombineReferenceIdeal.Gen.facts,
  Cert.ConvRows.Gen.facts, Cert.ConvRowsIdeal.Gen.facts, Cert.ConvRowsReferenceIdeal.Gen.facts, Cert.PoolRows.Gen.facts, Cert.PoolRowsIdeal.Gen.facts, Cert.PoolRowsReferenceIdeal.Gen.facts,
  Cert.PoolFresh.Gen.facts, Cert.PoolFreshIdeal.Gen.facts, Cert.PoolFreshReferenceIdeal.Gen.facts,
  Cert.PoolState.Gen.facts, Cert.PoolStateIdeal.Gen.facts, Cert.PoolStateReferenceIdeal.Gen.facts,
  Cert.Dispatch.Gen.facts, Cert.DispatchIdeal.Gen.facts, Cert.DispatchReferenceIdeal.Gen.facts, by
  exact ⟨Cert.InProjIdeal.Rows.frame_printed, fun m ρ _ => Cert.InProjIdeal.Rows.frame m ρ, in_proj_reference,
    fun m ρ _ => Cert.Post.Gen.frame m ρ, fun m ρ _ => Cert.PostIdeal.Gen.frame m ρ, post_reference,
    Cert.CombineIdeal.Rows.frame_printed, fun m ρ _ => Cert.CombineIdeal.Rows.frame m ρ, combine_reference,
    fun m ρ _ => Cert.ConvRows.Gen.frame m ρ, fun m ρ _ => Cert.ConvRowsIdeal.Gen.frame m ρ, conv_rows_reference,
    fun m ρ _ => Cert.PoolRows.Gen.frame m ρ, fun m ρ _ => Cert.PoolRowsIdeal.Gen.frame m ρ, pool_rows_reference,
    fun m ρ _ => Cert.PoolFresh.Gen.frame m ρ, fun m ρ _ => Cert.PoolFreshIdeal.Gen.frame m ρ, pool_fresh_reference,
    fun m ρ _ => Cert.PoolState.Gen.frame m ρ, fun m ρ _ => Cert.PoolStateIdeal.Gen.frame m ρ, pool_state_reference,
    fun m ρ _ => Cert.Dispatch.Gen.frame m ρ, fun m ρ _ => Cert.DispatchIdeal.Gen.frame m ρ, dispatch_reference,
    trivial, Cert.InProjIdeal.Rows.alg, trivial, Cert.PostIdeal.Rows.alg,
    trivial, Cert.CombineIdeal.Rows.alg,
    trivial, Cert.ConvRowsIdeal.Rows.alg, trivial, Cert.PoolRowsIdeal.Rows.alg,
    trivial, Cert.PoolFreshIdeal.Rows.alg,
    trivial, Cert.PoolStateIdeal.Rows.alg,
    trivial, Cert.DispatchIdeal.Rows.alg⟩⟩

end Cert.Proof

end
